-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_3)) (v2 : (c : Dev Cert.KernelIdeal.nD) → Buf (Elt Ideal) ((c.tc : Thread Cert.KernelIdeal.nD Cert.KernelIdeal.τ).loc Cert.KernelIdeal.main_v6_4)) (v3 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_3) = v1 c
          ∧ r.2.mem ((c.tc : Thread Cert.KernelIdeal.nD Cert.KernelIdeal.τ).loc Cert.KernelIdeal.main_v6_4) = v2 c
          ∧ r.2.mem ((c.tc : Thread Cert.KernelIdeal.nD Cert.KernelIdeal.τ).loc Cert.KernelIdeal.main_arg3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_0) = v0 c
          ∧ r.2.mem ((c.tc : Thread Cert.ReferenceIdeal.nD Cert.ReferenceIdeal.τ).loc Cert.ReferenceIdeal.main_v7_1) = v1 c
          ∧ r.2.mem ((c.tc : Thread Cert.ReferenceIdeal.nD Cert.ReferenceIdeal.τ).loc Cert.ReferenceIdeal.main_v7_2) = v2 c
          ∧ r.2.mem ((c.tc : Thread Cert.ReferenceIdeal.nD Cert.ReferenceIdeal.τ).loc Cert.ReferenceIdeal.main_arg3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x1536x2560 : Shape := ⟨3, ![6, 1536, 2560]⟩
abbrev S6x1536 : Shape := ⟨2, ![6, 1536]⟩
abbrev S6912x2560 : Shape := ⟨2, ![6912, 2560]⟩
abbrev S6912 : Shape := ⟨1, ![6912]⟩
abbrev S2560 : Shape := ⟨1, ![2560]⟩
abbrev S6x1536x6912 : Shape := ⟨3, ![6, 1536, 6912]⟩
abbrev S9216x2560 : Shape := ⟨2, ![9216, 2560]⟩
abbrev S72x128 : Shape := ⟨2, ![72, 128]⟩
abbrev S54x128 : Shape := ⟨2, ![54, 128]⟩
abbrev S1x2560 : Shape := ⟨2, ![1, 2560]⟩
abbrev S9216x6912 : Shape := ⟨2, ![9216, 6912]⟩
abbrev S6912x1280 : Shape := ⟨2, ![6912, 1280]⟩
abbrev S128x2560 : Shape := ⟨2, ![128, 2560]⟩
abbrev S4608x256 : Shape := ⟨2, ![4608, 256]⟩
abbrev S128x1280 : Shape := ⟨2, ![128, 1280]⟩
abbrev S256x2560 : Shape := ⟨2, ![256, 2560]⟩
abbrev S9216x128 : Shape := ⟨2, ![9216, 128]⟩
abbrev S8x2560 : Shape := ⟨2, ![8, 2560]⟩
abbrev S_ : Shape := ⟨0, ![]⟩
abbrev S1x128 : Shape := ⟨2, ![1, 128]⟩
abbrev S128x128 : Shape := ⟨2, ![128, 128]⟩
abbrev S128x256 : Shape := ⟨2, ![128, 256]⟩
abbrev S1x256 : Shape := ⟨2, ![1, 256]⟩
abbrev S32x256 : Shape := ⟨2, ![32, 256]⟩
abbrev S32x128 : Shape := ⟨2, ![32, 128]⟩
abbrev S32x128x1 : Shape := ⟨3, ![32, 128, 1]⟩
abbrev S2x128 : Shape := ⟨2, ![2, 128]⟩
abbrev S768x2560 : Shape := ⟨2, ![768, 2560]⟩
abbrev S768x256 : Shape := ⟨2, ![768, 256]⟩
abbrev S256x768 : Shape := ⟨2, ![256, 768]⟩
abbrev S256x256 : Shape := ⟨2, ![256, 256]⟩
abbrev S8x256 : Shape := ⟨2, ![8, 256]⟩
abbrev S16x8x256 : Shape := ⟨3, ![16, 8, 256]⟩
abbrev S128 : Shape := ⟨1, ![128]⟩

abbrev nBuf : Space → Nat
  | .hbm => 20
  | .vmem => 27
  | .smem => 0
  | _ => 0

abbrev bufTy : (tb : Table) → Fin (tcTables nBuf tb) → BufTy
  | .hbm, ⟨0, _⟩ => ⟨S6x1536x2560, .fp8e4m3⟩
  | .hbm, ⟨1, _⟩ => ⟨S6x1536, .f32⟩
  | .hbm, ⟨2, _⟩ => ⟨S6912x2560, .f32⟩
  | .hbm, ⟨3, _⟩ => ⟨S6912, .f32⟩
  | .hbm, ⟨4, _⟩ => ⟨S6912x2560, .f32⟩
  | .hbm, ⟨5, _⟩ => ⟨S6912, .f32⟩
  | .hbm, ⟨6, _⟩ => ⟨S2560, .f32⟩
  | .hbm, ⟨7, _⟩ => ⟨S6x1536x6912, .bf16⟩
  | .hbm, ⟨8, _⟩ => ⟨S9216x2560, .fp8e4m3⟩
  | .hbm, ⟨9, _⟩ => ⟨S72x128, .f32⟩
  | .hbm, ⟨10, _⟩ => ⟨S54x128, .f32⟩
  | .hbm, ⟨11, _⟩ => ⟨S54x128, .f32⟩
  | .hbm, ⟨12, _⟩ => ⟨S1x2560, .f32⟩
  | .hbm, ⟨13, _⟩ => ⟨S9216x6912, .bf16⟩
  | .hbm, ⟨14, _⟩ => ⟨S6912x2560, .f32⟩
  | .hbm, ⟨15, _⟩ => ⟨S6912x1280, .i8⟩
  | .hbm, ⟨16, _⟩ => ⟨S72x128, .f32⟩
  | .hbm, ⟨17, _⟩ => ⟨S54x128, .f32⟩
  | .hbm, ⟨18, _⟩ => ⟨S54x128, .f32⟩
  | .hbm, ⟨19, _⟩ => ⟨S1x2560, .f32⟩
  | .local _ .vmem, ⟨0, _⟩ => ⟨S72x128, .f32⟩
  | .local _ .vmem, ⟨1, _⟩ => ⟨S128x2560, .f32⟩
  | .local _ .vmem, ⟨2, _⟩ => ⟨S128x2560, .f32⟩
  | .local _ .vmem, ⟨3, _⟩ => ⟨S128x2560, .f32⟩
  | .local _ .vmem, ⟨4, _⟩ => ⟨S128x2560, .f32⟩
  | .local _ .vmem, ⟨5, _⟩ => ⟨S54x128, .f32⟩
  | .local _ .vmem, ⟨6, _⟩ => ⟨S54x128, .f32⟩
  | .local _ .vmem, ⟨7, _⟩ => ⟨S1x2560, .f32⟩
  | .local _ .vmem, ⟨8, _⟩ => ⟨S4608x256, .bf16⟩
  | .local _ .vmem, ⟨9, _⟩ => ⟨S4608x256, .bf16⟩
  | .local _ .vmem, ⟨10, _⟩ => ⟨S128x2560, .f32⟩
  | .local _ .vmem, ⟨11, _⟩ => ⟨S128x2560, .f32⟩
  | .local _ .vmem, ⟨12, _⟩ => ⟨S128x1280, .i8⟩
  | .local _ .vmem, ⟨13, _⟩ => ⟨S128x1280, .i8⟩
  | .local _ .vmem, ⟨14, _⟩ => ⟨S72x128, .f32⟩
  | .local _ .vmem, ⟨15, _⟩ => ⟨S54x128, .f32⟩
  | .local _ .vmem, ⟨16, _⟩ => ⟨S54x128, .f32⟩
  | .local _ .vmem, ⟨17, _⟩ => ⟨S1x2560, .f32⟩
  | .local _ .vmem, ⟨18, _⟩ => ⟨S9216x2560, .fp8e4m3⟩
  | .local _ .vmem, ⟨19, _⟩ => ⟨S256x2560, .fp8e4m3⟩
  | .local _ .vmem, ⟨20, _⟩ => ⟨S256x2560, .fp8e4m3⟩
  | .local _ .vmem, ⟨21, _⟩ => ⟨S256x2560, .f32⟩
  | .local _ .vmem, ⟨22, _⟩ => ⟨S256x2560, .f32⟩
  | .local _ .vmem, ⟨23, _⟩ => ⟨S256x2560, .f32⟩
  | .local _ .vmem, ⟨24, _⟩ => ⟨S256x2560, .f32⟩
  | .local _ .vmem, ⟨25, _⟩ => ⟨S9216x128, .f32⟩
  | .local _ .vmem, ⟨26, _⟩ => ⟨S8x2560, .f32⟩
  | _, _ => ⟨S6x1536x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨2, ![29, 2], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg0 : BitVec 32 := BitVec.ofNat 32 (i 0).val
  let c26_i32 : BitVec 32 := 26#32
  let v45 : BitVec 32 := Scalar.minsi arg0 c26_i32
  let c2_i32_21 : BitVec 32 := 2#32
  let v46 : BitVec 32 := Scalar.muli v45 c2_i32_21
  let arg1 : BitVec 32 := BitVec.ofNat 32 (i 1).val
  let v47 : BitVec 32 := Scalar.addi v46 arg1
  let v48 : Index := Scalar.indexCast v47
  let c0 : Index := 0#32
  ![v48.toNat, 0]
def k0_off2 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v86 : Index := Scalar.indexCast v1
  let c0_34 : Index := 0#32
  ![v86.toNat, 0]
def k0_off3 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v160 : Index := Scalar.indexCast v1
  let c256_57 : Index := 256#32
  ![v160.toNat, 256]
def k0_off4 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v234 : Index := Scalar.indexCast v1
  let c512_83 : Index := 512#32
  ![v234.toNat, 512]
def k0_off5 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v308 : Index := Scalar.indexCast v1
  let c768_110 : Index := 768#32
  ![v308.toNat, 768]
def k0_off6 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v382 : Index := Scalar.indexCast v1
  let c1024_136 : Index := 1024#32
  ![v382.toNat, 1024]
def k0_off7 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v456 : Index := Scalar.indexCast v1
  let c1280_163 : Index := 1280#32
  ![v456.toNat, 1280]
def k0_off8 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v530 : Index := Scalar.indexCast v1
  let c1536_189 : Index := 1536#32
  ![v530.toNat, 1536]
def k0_off9 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v604 : Index := Scalar.indexCast v1
  let c1792_216 : Index := 1792#32
  ![v604.toNat, 1792]
def k0_off10 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v678 : Index := Scalar.indexCast v1
  let c2048_242 : Index := 2048#32
  ![v678.toNat, 2048]
def k0_off11 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v752 : Index := Scalar.indexCast v1
  let c2304_269 : Index := 2304#32
  ![v752.toNat, 2304]
def k0_cond4 (i : grid0.Coords) : BitVec 1 :=
  let arg0 : BitVec 32 := BitVec.ofNat 32 (i 0).val
  let c0_i32_1 : BitVec 32 := 0#32
  let v5 : BitVec 1 := Scalar.cmpi .sgt arg0 c0_i32_1
  let c27_i32 : BitVec 32 := 27#32
  let v6 : BitVec 1 := Scalar.cmpi .sle arg0 c27_i32
  let v7 : BitVec 1 := Scalar.andi v5 v6
  let c2_i32 : BitVec 32 := 2#32
  let c0_i32_2 : BitVec 32 := 0#32
  let v8 : BitVec 1 := Scalar.cmpi .eq c2_i32 c0_i32_2
  let c1_i32 : BitVec 32 := 1#32
  let v9 : BitVec 32 := Scalar.select v8 c1_i32 c2_i32
  let v10 : BitVec 32 := Scalar.remsi arg0 v9
  let c0_i32_4 : BitVec 32 := 0#32
  let v12 : BitVec 1 := Scalar.cmpi .slt v10 c0_i32_4
  let c0_i32_5 : BitVec 32 := 0#32
  let v13 : BitVec 1 := Scalar.cmpi .slt v9 c0_i32_5
  let v14 : BitVec 1 := Scalar.xori v12 v13
  let c0_i32_3 : BitVec 32 := 0#32
  let v11 : BitVec 1 := Scalar.cmpi .ne v10 c0_i32_3
  let v15 : BitVec 1 := Scalar.andi v14 v11
  let v16 : BitVec 32 := Scalar.addi v10 v9
  let v17 : BitVec 32 := Scalar.select v15 v16 v10
  let c0_i32_6 : BitVec 32 := 0#32
  let v18 : BitVec 1 := Scalar.cmpi .eq v17 c0_i32_6
  let v19 : BitVec 1 := Scalar.andi v7 v18
  let v20 : BitVec 32 := Scalar.extui v19
  let c0_i32_7 : BitVec 32 := 0#32
  let v21 : BitVec 1 := Scalar.cmpi .ne v20 c0_i32_7
  v21

def k0_off12 (i : grid0.Coords) : Fin 2 → Nat :=
  let arg0 : BitVec 32 := BitVec.ofNat 32 (i 0).val
  let c26_i32 : BitVec 32 := 26#32
  let v42 : BitVec 32 := Scalar.minsi arg0 c26_i32
  let c2_i32_19 : BitVec 32 := 2#32
  let v43 : BitVec 32 := Scalar.muli v42 c2_i32_19
  let arg1 : BitVec 32 := BitVec.ofNat 32 (i 1).val
  let v44 : BitVec 32 := Scalar.addi v43 arg1
  let v45 : Index := Scalar.indexCast v44
  let c0 : Index := 0#32
  ![v45.toNat, 0]
def k0_off13 (i : grid0.Coords) : Fin 2 → Nat :=
  let arg0 : BitVec 32 := BitVec.ofNat 32 (i 0).val
  let c2_i32_21 : BitVec 32 := 2#32
  let v59 : BitVec 32 := Scalar.subi arg0 c2_i32_21
  let c2_i32_22 : BitVec 32 := 2#32
  let v60 : BitVec 32 := Scalar.muli v59 c2_i32_22
  let arg1 : BitVec 32 := BitVec.ofNat 32 (i 1).val
  let v61 : BitVec 32 := Scalar.addi v60 arg1
  let c0_i32_23 : BitVec 32 := 0#32
  let v62 : BitVec 32 := Scalar.maxsi v61 c0_i32_23
  let v63 : Index := Scalar.indexCast v62
  let c0_24 : Index := 0#32
  ![v63.toNat, 0]
def k0_mult2 (i : grid0.Coords) : BitVec 32 :=
  let arg1 : BitVec 32 := BitVec.ofNat 32 (i 1).val
  let c4608_i32 : BitVec 32 := 4608#32
  let v74 : BitVec 32 := Scalar.muli arg1 c4608_i32
  v74
def k0_off14 (i : grid0.Coords) : Fin 2 → Nat :=
  let arg0 : BitVec 32 := BitVec.ofNat 32 (i 0).val
  let c1_i32_27 : BitVec 32 := 1#32
  let v76 : BitVec 32 := Scalar.subi arg0 c1_i32_27
  let c2_i32_28 : BitVec 32 := 2#32
  let v77 : BitVec 32 := Scalar.muli v76 c2_i32_28
  let v78 : Index := Scalar.indexCast v77
  let c0_29 : Index := 0#32
  ![v78.toNat, 0]
def k0_off15 (i : grid0.Coords) (c0_i32_30 : BitVec 32) : Fin 2 → Nat :=
  let arg1 : BitVec 32 := BitVec.ofNat 32 (i 1).val
  let c4608_i32 : BitVec 32 := 4608#32
  let v74 : BitVec 32 := Scalar.muli arg1 c4608_i32
  let v75 : BitVec 32 := v74
  let v84 : BitVec 32 := Scalar.addi v75 c0_i32_30
  let v85 : Index := Scalar.indexCast v84
  let c0_31 : Index := 0#32
  ![v85.toNat, 0]
def k0_off16 (i : grid0.Coords) (c0_i32_35 : BitVec 32) : Fin 2 → Nat :=
  let arg1 : BitVec 32 := BitVec.ofNat 32 (i 1).val
  let c36_i32 : BitVec 32 := 36#32
  let v89 : BitVec 32 := Scalar.muli arg1 c36_i32
  let v90 : BitVec 32 := Scalar.addi v89 c0_i32_35
  let v91 : Index := Scalar.indexCast v90
  let c0_36 : Index := 0#32
  ![v91.toNat, 0]
def k0_off17 (i : grid0.Coords) (c0_i32_39 : BitVec 32) : Fin 2 → Nat :=
  let arg1 : BitVec 32 := BitVec.ofNat 32 (i 1).val
  let c4608_i32 : BitVec 32 := 4608#32
  let v74 : BitVec 32 := Scalar.muli arg1 c4608_i32
  let v75 : BitVec 32 := v74
  let v107 : BitVec 32 := Scalar.addi v75 c0_i32_39
  let v108 : Index := Scalar.indexCast v107
  let c0_40 : Index := 0#32
  ![v108.toNat, 0]
def k0_off18 (i : grid0.Coords) (c0_i32_80 : BitVec 32) : Fin 2 → Nat :=
  let arg1 : BitVec 32 := BitVec.ofNat 32 (i 1).val
  let c4608_i32 : BitVec 32 := 4608#32
  let v74 : BitVec 32 := Scalar.muli arg1 c4608_i32
  let v75 : BitVec 32 := v74
  let v294 : BitVec 32 := Scalar.addi v75 c0_i32_80
  let c0_i32_83 : BitVec 32 := 0#32
  ![v294.toNat, 0]
def k0_off19 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v375 : Index := Scalar.indexCast v1
  let c0_154 : Index := 0#32
  ![v375.toNat, 0]
def k0_off20 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v767 : Index := Scalar.indexCast v1
  let c256_316 : Index := 256#32
  ![v767.toNat, 256]
def k0_off21 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v873 : Index := Scalar.indexCast v1
  let c512_356 : Index := 512#32
  ![v873.toNat, 512]
def k0_off22 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v1265 : Index := Scalar.indexCast v1
  let c768_522 : Index := 768#32
  ![v1265.toNat, 768]
def k0_off23 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v1371 : Index := Scalar.indexCast v1
  let c1024_562 : Index := 1024#32
  ![v1371.toNat, 1024]
def k0_off24 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v1763 : Index := Scalar.indexCast v1
  let c1280_725 : Index := 1280#32
  ![v1763.toNat, 1280]
def k0_off25 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v2155 : Index := Scalar.indexCast v1
  let c1536_890 : Index := 1536#32
  ![v2155.toNat, 1536]
def k0_off26 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v2261 : Index := Scalar.indexCast v1
  let c1792_930 : Index := 1792#32
  ![v2261.toNat, 1792]
def k0_off27 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v2648 : Index := Scalar.indexCast v1
  let c2048_1088 : Index := 2048#32
  ![v2648.toNat, 2048]
def k0_off28 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v2754 : Index := Scalar.indexCast v1
  let c2304_1128 : Index := 2304#32
  ![v2754.toNat, 2304]
def k0_cond5 (i : grid0.Coords) : BitVec 1 :=
  let arg0 : BitVec 32 := BitVec.ofNat 32 (i 0).val
  let c0_i32_8 : BitVec 32 := 0#32
  let v22 : BitVec 1 := Scalar.cmpi .sgt arg0 c0_i32_8
  let c27_i32_9 : BitVec 32 := 27#32
  let v23 : BitVec 1 := Scalar.cmpi .sle arg0 c27_i32_9
  let v24 : BitVec 1 := Scalar.andi v22 v23
  let c2_i32_10 : BitVec 32 := 2#32
  let c0_i32_11 : BitVec 32 := 0#32
  let v25 : BitVec 1 := Scalar.cmpi .eq c2_i32_10 c0_i32_11
  let c1_i32_12 : BitVec 32 := 1#32
  let v26 : BitVec 32 := Scalar.select v25 c1_i32_12 c2_i32_10
  let v27 : BitVec 32 := Scalar.remsi arg0 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c1_i32_16 : BitVec 32 := 1#32
  let v35 : BitVec 1 := Scalar.cmpi .eq v34 c1_i32_16
  let v36 : BitVec 1 := Scalar.andi v24 v35
  let v37 : BitVec 32 := Scalar.extui v36
  let c0_i32_17 : BitVec 32 := 0#32
  let v38 : BitVec 1 := Scalar.cmpi .ne v37 c0_i32_17
  v38

def k0_off29 (i : grid0.Coords) : Fin 2 → Nat :=
  let arg0 : BitVec 32 := BitVec.ofNat 32 (i 0).val
  let c26_i32 : BitVec 32 := 26#32
  let v42 : BitVec 32 := Scalar.minsi arg0 c26_i32
  let c2_i32_19 : BitVec 32 := 2#32
  let v43 : BitVec 32 := Scalar.muli v42 c2_i32_19
  let arg1 : BitVec 32 := BitVec.ofNat 32 (i 1).val
  let v44 : BitVec 32 := Scalar.addi v43 arg1
  let v45 : Index := Scalar.indexCast v44
  let c0 : Index := 0#32
  ![v45.toNat, 0]
def k0_off30 (i : grid0.Coords) : Fin 2 → Nat :=
  let arg0 : BitVec 32 := BitVec.ofNat 32 (i 0).val
  let c2_i32_21 : BitVec 32 := 2#32
  let v59 : BitVec 32 := Scalar.subi arg0 c2_i32_21
  let c2_i32_22 : BitVec 32 := 2#32
  let v60 : BitVec 32 := Scalar.muli v59 c2_i32_22
  let arg1 : BitVec 32 := BitVec.ofNat 32 (i 1).val
  let v61 : BitVec 32 := Scalar.addi v60 arg1
  let c0_i32_23 : BitVec 32 := 0#32
  let v62 : BitVec 32 := Scalar.maxsi v61 c0_i32_23
  let v63 : Index := Scalar.indexCast v62
  let c0_24 : Index := 0#32
  ![v63.toNat, 0]
def k0_mult3 (i : grid0.Coords) : BitVec 32 :=
  let arg1 : BitVec 32 := BitVec.ofNat 32 (i 1).val
  let c4608_i32 : BitVec 32 := 4608#32
  let v74 : BitVec 32 := Scalar.muli arg1 c4608_i32
  v74
def k0_off31 (i : grid0.Coords) : Fin 2 → Nat :=
  let arg0 : BitVec 32 := BitVec.ofNat 32 (i 0).val
  let c1_i32_27 : BitVec 32 := 1#32
  let v76 : BitVec 32 := Scalar.subi arg0 c1_i32_27
  let c2_i32_28 : BitVec 32 := 2#32
  let v77 : BitVec 32 := Scalar.muli v76 c2_i32_28
  let v78 : Index := Scalar.indexCast v77
  let c0_29 : Index := 0#32
  ![v78.toNat, 0]
def k0_off32 (i : grid0.Coords) (c0_i32_30 : BitVec 32) : Fin 2 → Nat :=
  let arg1 : BitVec 32 := BitVec.ofNat 32 (i 1).val
  let c4608_i32 : BitVec 32 := 4608#32
  let v74 : BitVec 32 := Scalar.muli arg1 c4608_i32
  let v75 : BitVec 32 := v74
  let v84 : BitVec 32 := Scalar.addi v75 c0_i32_30
  let v85 : Index := Scalar.indexCast v84
  let c0_31 : Index := 0#32
  ![v85.toNat, 0]
def k0_off33 (i : grid0.Coords) (c0_i32_35 : BitVec 32) : Fin 2 → Nat :=
  let arg1 : BitVec 32 := BitVec.ofNat 32 (i 1).val
  let c36_i32 : BitVec 32 := 36#32
  let v89 : BitVec 32 := Scalar.muli arg1 c36_i32
  let v90 : BitVec 32 := Scalar.addi v89 c0_i32_35
  let v91 : Index := Scalar.indexCast v90
  let c0_36 : Index := 0#32
  ![v91.toNat, 0]
def k0_off34 (i : grid0.Coords) (c0_i32_39 : BitVec 32) : Fin 2 → Nat :=
  let arg1 : BitVec 32 := BitVec.ofNat 32 (i 1).val
  let c4608_i32 : BitVec 32 := 4608#32
  let v74 : BitVec 32 := Scalar.muli arg1 c4608_i32
  let v75 : BitVec 32 := v74
  let v107 : BitVec 32 := Scalar.addi v75 c0_i32_39
  let v108 : Index := Scalar.indexCast v107
  let c0_40 : Index := 0#32
  ![v108.toNat, 0]
def k0_off35 (i : grid0.Coords) (c0_i32_80 : BitVec 32) : Fin 2 → Nat :=
  let arg1 : BitVec 32 := BitVec.ofNat 32 (i 1).val
  let c4608_i32 : BitVec 32 := 4608#32
  let v74 : BitVec 32 := Scalar.muli arg1 c4608_i32
  let v75 : BitVec 32 := v74
  let v294 : BitVec 32 := Scalar.addi v75 c0_i32_80
  let c0_i32_83 : BitVec 32 := 0#32
  ![v294.toNat, 0]
def k0_off36 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v375 : Index := Scalar.indexCast v1
  let c0_154 : Index := 0#32
  ![v375.toNat, 0]
def k0_off37 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v767 : Index := Scalar.indexCast v1
  let c256_316 : Index := 256#32
  ![v767.toNat, 256]
def k0_off38 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v873 : Index := Scalar.indexCast v1
  let c512_356 : Index := 512#32
  ![v873.toNat, 512]
def k0_off39 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v1265 : Index := Scalar.indexCast v1
  let c768_522 : Index := 768#32
  ![v1265.toNat, 768]
def k0_off40 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v1371 : Index := Scalar.indexCast v1
  let c1024_562 : Index := 1024#32
  ![v1371.toNat, 1024]
def k0_off41 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v1763 : Index := Scalar.indexCast v1
  let c1280_725 : Index := 1280#32
  ![v1763.toNat, 1280]
def k0_off42 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v2155 : Index := Scalar.indexCast v1
  let c1536_890 : Index := 1536#32
  ![v2155.toNat, 1536]
def k0_off43 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v2261 : Index := Scalar.indexCast v1
  let c1792_930 : Index := 1792#32
  ![v2261.toNat, 1792]
def k0_off44 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v2648 : Index := Scalar.indexCast v1
  let c2048_1088 : Index := 2048#32
  ![v2648.toNat, 2048]
def k0_off45 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v2754 : Index := Scalar.indexCast v1
  let c2304_1128 : Index := 2304#32
  ![v2754.toNat, 2304]
def k0_cond6 (i : grid0.Coords) : BitVec 1 :=
  let arg0 : BitVec 32 := BitVec.ofNat 32 (i 0).val
  let c28_i32 : BitVec 32 := 28#32
  let v39 : BitVec 1 := Scalar.cmpi .eq arg0 c28_i32
  let v40 : BitVec 32 := Scalar.extui v39
  let c0_i32_18 : BitVec 32 := 0#32
  let v41 : BitVec 1 := Scalar.cmpi .ne v40 c0_i32_18
  v41

def k0_off46 (i : grid0.Coords) : Fin 2 → Nat :=
  let arg0 : BitVec 32 := BitVec.ofNat 32 (i 0).val
  let c2_i32_19 : BitVec 32 := 2#32
  let v42 : BitVec 32 := Scalar.subi arg0 c2_i32_19
  let c2_i32_20 : BitVec 32 := 2#32
  let v43 : BitVec 32 := Scalar.muli v42 c2_i32_20
  let arg1 : BitVec 32 := BitVec.ofNat 32 (i 1).val
  let v44 : BitVec 32 := Scalar.addi v43 arg1
  let c0_i32_21 : BitVec 32 := 0#32
  let v45 : BitVec 32 := Scalar.maxsi v44 c0_i32_21
  let v46 : Index := Scalar.indexCast v45
  let c0 : Index := 0#32
  ![v46.toNat, 0]
def k0_off47 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v57 : Index := Scalar.indexCast v1
  let c0_24 : Index := 0#32
  ![v57.toNat, 0]
def k0_off48 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v89 : Index := Scalar.indexCast v1
  let c256 : Index := 256#32
  ![v89.toNat, 256]
def k0_off49 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v121 : Index := Scalar.indexCast v1
  let c512 : Index := 512#32
  ![v121.toNat, 512]
def k0_off50 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v153 : Index := Scalar.indexCast v1
  let c768 : Index := 768#32
  ![v153.toNat, 768]
def k0_off51 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v185 : Index := Scalar.indexCast v1
  let c1024 : Index := 1024#32
  ![v185.toNat, 1024]
def k0_off52 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v217 : Index := Scalar.indexCast v1
  let c1280 : Index := 1280#32
  ![v217.toNat, 1280]
def k0_off53 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v249 : Index := Scalar.indexCast v1
  let c1536 : Index := 1536#32
  ![v249.toNat, 1536]
def k0_off54 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v281 : Index := Scalar.indexCast v1
  let c1792 : Index := 1792#32
  ![v281.toNat, 1792]
def k0_off55 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v313 : Index := Scalar.indexCast v1
  let c2048 : Index := 2048#32
  ![v313.toNat, 2048]
def k0_off56 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v345 : Index := Scalar.indexCast v1
  let c2304 : Index := 2304#32
  ![v345.toNat, 2304]
def k0_cond7 (i : grid0.Coords) : BitVec 1 :=
  let arg1 : BitVec 32 := BitVec.ofNat 32 (i 1).val
  let c1_i32_139 : BitVec 32 := 1#32
  let v387 : BitVec 1 := Scalar.cmpi .eq arg1 c1_i32_139
  let v388 : BitVec 32 := Scalar.extui v387
  let c0_i32_140 : BitVec 32 := 0#32
  let v389 : BitVec 1 := Scalar.cmpi .ne v388 c0_i32_140
  v389

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c53_i32 : BitVec 32 := 53#32
  let v2 : BitVec 32 := Scalar.minsi v1 c53_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c53_i32 : BitVec 32 := 53#32
  let v2 : BitVec 32 := Scalar.minsi v1 c53_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c27_i32 : BitVec 32 := 27#32
  let v1 : BitVec 1 := Scalar.cmpi .sgt arg0 c27_i32
  let c1_i32 : BitVec 32 := 1#32
  let v2 : BitVec 32 := Scalar.select v1 c1_i32 arg1
  let c0_i32_0 : BitVec 32 := 0#32
  let v3 : BitVec 32 := Scalar.select v0 c0_i32_0 v2
  let c1_i32_1 : BitVec 32 := 1#32
  let v4 : BitVec 32 := Scalar.subi arg0 c1_i32_1
  let c0_i32_2 : BitVec 32 := 0#32
  let c26_i32 : BitVec 32 := 26#32
  let v5 : BitVec 32 := Scalar.maxsi c0_i32_2 v4
  let v6 : BitVec 32 := Scalar.minsi c26_i32 v5
  let c0_i32_3 : BitVec 32 := 0#32
  ![v3.toNat, v6.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c2_i32_0 : BitVec 32 := 2#32
  let v1 : BitVec 32 := Scalar.muli v0 c2_i32_0
  let v2 : BitVec 32 := Scalar.addi v1 arg1
  let c0_i32 : BitVec 32 := 0#32
  let v3 : BitVec 32 := Scalar.maxsi v2 c0_i32
  let c0_i32_1 : BitVec 32 := 0#32
  let c0_i32_2 : BitVec 32 := 0#32
  ![v3.toNat, c0_i32_1.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c53_i32 : BitVec 32 := 53#32
  let v2 : BitVec 32 := Scalar.minsi v1 c53_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S72x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S54x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S54x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S4608x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2560 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1280 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S72x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S54x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S54x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x2560 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== ReferenceIdeal.lean ====
abbrev S6x1536x2560 : Shape := ⟨3, ![6, 1536, 2560]⟩
abbrev S6x1536 : Shape := ⟨2, ![6, 1536]⟩
abbrev S6912x2560 : Shape := ⟨2, ![6912, 2560]⟩
abbrev S6912 : Shape := ⟨1, ![6912]⟩
abbrev S2560 : Shape := ⟨1, ![2560]⟩
abbrev S6x1536x6912 : Shape := ⟨3, ![6, 1536, 6912]⟩
abbrev S9216x2560 : Shape := ⟨2, ![9216, 2560]⟩
abbrev S9216x1 : Shape := ⟨2, ![9216, 1]⟩
abbrev S6912x1 : Shape := ⟨2, ![6912, 1]⟩
abbrev S1x6912 : Shape := ⟨2, ![1, 6912]⟩
abbrev S1x2560 : Shape := ⟨2, ![1, 2560]⟩
abbrev S9216x6912 : Shape := ⟨2, ![9216, 6912]⟩
abbrev S54x128 : Shape := ⟨2, ![54, 128]⟩
abbrev S6912x9216 : Shape := ⟨2, ![6912, 9216]⟩

abbrev nBuf : Space → Nat
  | .hbm => 18
  | .vmem => 12
  | .smem => 0
  | _ => 0

abbrev bufTy : (tb : Table) → Fin (tcTables nBuf tb) → BufTy
  | .hbm, ⟨0, _⟩ => ⟨S6x1536x2560, .fp8e4m3⟩
  | .hbm, ⟨1, _⟩ => ⟨S6x1536, .f32⟩
  | .hbm, ⟨2, _⟩ => ⟨S6912x2560, .f32⟩
  | .hbm, ⟨3, _⟩ => ⟨S6912, .f32⟩
  | .hbm, ⟨4, _⟩ => ⟨S6912x2560, .f32⟩
  | .hbm, ⟨5, _⟩ => ⟨S6912, .f32⟩
  | .hbm, ⟨6, _⟩ => ⟨S2560, .f32⟩
  | .hbm, ⟨7, _⟩ => ⟨S6x1536x6912, .bf16⟩
  | .hbm, ⟨8, _⟩ => ⟨S9216x2560, .fp8e4m3⟩
  | .hbm, ⟨9, _⟩ => ⟨S9216x1, .f32⟩
  | .hbm, ⟨10, _⟩ => ⟨S6912x1, .f32⟩
  | .hbm, ⟨11, _⟩ => ⟨S1x6912, .f32⟩
  | .hbm, ⟨12, _⟩ => ⟨S6912x1, .f32⟩
  | .hbm, ⟨13, _⟩ => ⟨S1x2560, .f32⟩
  | .hbm, ⟨14, _⟩ => ⟨S9216x6912, .bf16⟩
  | .hbm, ⟨15, _⟩ => ⟨S6912x2560, .f32⟩
  | .hbm, ⟨16, _⟩ => ⟨S54x128, .f32⟩
  | .hbm, ⟨17, _⟩ => ⟨S54x128, .f32⟩
  | .local _ .vmem, ⟨0, _⟩ => ⟨S9216x2560, .fp8e4m3⟩
  | .local _ .vmem, ⟨1, _⟩ => ⟨S9216x1, .f32⟩
  | .local _ .vmem, ⟨2, _⟩ => ⟨S6912x2560, .f32⟩
  | .local _ .vmem, ⟨3, _⟩ => ⟨S6912x1, .f32⟩
  | .local _ .vmem, ⟨4, _⟩ => ⟨S1x6912, .f32⟩
  | .local _ .vmem, ⟨5, _⟩ => ⟨S6912x2560, .f32⟩
  | .local _ .vmem, ⟨6, _⟩ => ⟨S6912x1, .f32⟩
  | .local _ .vmem, ⟨7, _⟩ => ⟨S1x2560, .f32⟩
  | .local _ .vmem, ⟨8, _⟩ => ⟨S9216x6912, .bf16⟩
  | .local _ .vmem, ⟨9, _⟩ => ⟨S6912x2560, .f32⟩
  | .local _ .vmem, ⟨10, _⟩ => ⟨S54x128, .f32⟩
  | .local _ .vmem, ⟨11, _⟩ => ⟨S54x128, .f32⟩
  | _, _ => ⟨S6x1536x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S9216x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9216x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6912x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6912x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6912 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6912x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6912x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2560 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S9216x6912 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6912x2560 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S54x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S54x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Lang.lean ====
/-
  A small language of loads and stores on the kernel's twenty-two vector-memory buffers.  A program of the
  language is read two ways: as the machine program that performs the loads and stores on given memrefs
  (`toProg`), and as a function on the buffers' contents (`run`).  `wp_toProg` says once and for all that the
  machine program takes buffers held at some contents to the same buffers held at what the function says.
-/
module

public import Idealize.ShloMosaic.Lib.Tactic
public import Idealize.ShloMosaic.Lib.Memref
public import Idealize.ShloMosaic.Lib.Updates.Own
public import Idealize.ShloMosaic.Lib.Pipeline.Kit
public import Idealize.ShloMosaic.PureOps

@[expose] public section

noncomputable section

namespace Cert.Proof.FlexRound

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The shape of `r` rows and `c` columns. -/
abbrev Sh (r c : ℕ) : Shape := ⟨2, ![r, c]⟩

/-- The kernel's vector-memory buffers: the seven staged inputs, the six outputs, the nine scratch buffers. -/
inductive Bf | xs | w | s2 | s1 | r | c | y | ds2 | pk | loss | dr | ds1 | dc | x | q (p : Bool) | z (p : Bool) | g (p : Bool) | la | da
  deriving DecidableEq

instance : Fintype Bf where
  elems := {.xs, .w, .s2, .s1, .r, .c, .y, .ds2, .pk, .loss, .dr, .ds1, .dc, .x, .q false, .q true, .z false, .z true,
    .g false, .g true, .la, .da}
  complete b := by rcases b with _|_|_|_|_|_|_|_|_|_|_|_|_|_|(_|_)|(_|_)|(_|_)|_|_ <;> decide

/-- A buffer's shape. -/
abbrev Bf.shp : Bf → Shape
  | .xs => Sh 72 128 | .w => Sh 128 2560 | .s2 => Sh 128 2560 | .s1 => Sh 54 128 | .r => Sh 54 128 | .c => Sh 1 2560
  | .y => Sh 4608 256 | .ds2 => Sh 128 2560 | .pk => Sh 128 1280 | .loss => Sh 72 128 | .dr => Sh 54 128 | .ds1 => Sh 54 128
  | .dc => Sh 1 2560 | .x => Sh 9216 2560 | .q _ => Sh 256 2560 | .z _ => Sh 256 2560 | .g _ => Sh 256 2560
  | .la => Sh 9216 128 | .da => Sh 8 2560

/-- A buffer's element type. -/
abbrev Bf.elt : Bf → EltTy
  | .y => .bf16 | .pk => .i8 | .x => .fp8e4m3 | .q _ => .fp8e4m3
  | .xs => .f32 | .w => .f32 | .s2 => .f32 | .s1 => .f32 | .r => .f32 | .c => .f32 | .ds2 => .f32 | .loss => .f32 | .dr => .f32
  | .ds1 => .f32 | .dc => .f32 | .z _ => .f32 | .g _ => .f32 | .la => .f32 | .da => .f32

variable {F : FTy → Type}

/-- One access: a load of a rectangle, a load of a rectangle of a rectangle, or an unmasked store to a rectangle. -/
inductive Cmd (F : FTy → Type) : Type → Type
  | load (b : Bf) (r : LoadRect b.shp) (h : 0 < r.shape.numel) : Cmd F (r.shape.Idx → Elt F b.elt)
  | loadIn (b : Bf) (q : Rect b.shp) (hq : ∀ a, q.stride a = 1) (r : LoadRect q.shape) (h : 0 < r.shape.numel) :
      Cmd F (r.shape.Idx → Elt F b.elt)
  | store (b : Bf) (r : Rect b.shp) (v : r.shape.Idx → Elt F b.elt) (h : 0 < r.shape.numel)
      (hp : b.elt.bits = 32 ∨ r.PackedRows b.elt.packing) : Cmd F PUnit

/-- The buffers' contents. -/
abbrev St (F : FTy → Type) : Type := (b : Bf) → b.shp.Idx → Elt F b.elt

/-- An array overwritten on a rectangle. -/
def put {s : Shape} {α : Type} (r : Rect s) (w : r.shape.Idx → α) (x : s.Idx → α) : s.Idx → α :=
  fun i => open Classical in if h : ∃ j, r.emb j = i then w h.choose else x i

theorem put_emb {s : Shape} {α : Type} (r : Rect s) (w : r.shape.Idx → α) (x : s.Idx → α) (j : r.shape.Idx) :
    put r w x (r.emb j) = w j := by
  have h : ∃ j', r.emb j' = r.emb j := ⟨j, rfl⟩
  unfold put; rw [dif_pos h]; exact congrArg w (r.emb.injective h.choose_spec)

theorem put_miss {s : Shape} {α : Type} (r : Rect s) (w : r.shape.Idx → α) (x : s.Idx → α) {i : s.Idx}
    (h : ∀ j, r.emb j ≠ i) : put r w x i = x i := by
  unfold put; rw [dif_neg fun ⟨j, hj⟩ => h j hj]

/-- What an access answers and leaves. -/
def Cmd.step {α : Type} : Cmd F α → St F → α × St F
  | .load b r _, s => (fun j => s b (r.idx j), s)
  | .loadIn b q _ r _, s => (fun j => s b (q.emb (r.idx j)), s)
  | .store b r v _ _, s => (⟨⟩, Function.update s b (put r v (s b)))

/-- What a program answers and leaves. -/
def run {α : Type} : Prog (Cmd F) α → St F → α × St F
  | .ret a, s => (a, s)
  | .op e k, s => run (k (e.step s).1) (e.step s).2

theorem run_bind {α β : Type} (p : Prog (Cmd F) α) (k : α → Prog (Cmd F) β) (s : St F) :
    run (p >>= k) s = run (k (run p s).1) (run p s).2 := by
  induction p generalizing s with
  | ret a => rfl
  | op e c ih => exact ih _ _

/-- A program that loads from buffers of `S` only and stores to buffers of `T` only. -/
def Only (S T : Finset Bf) {α : Type} : Prog (Cmd F) α → Prop
  | .ret _ => True
  | .op (.load b _ _) k => b ∈ S ∧ ∀ x, Only S T (k x)
  | .op (.loadIn b _ _ _ _) k => b ∈ S ∧ ∀ x, Only S T (k x)
  | .op (.store b _ _ _ _) k => b ∈ T ∧ ∀ x, Only S T (k x)

theorem Only_bind {S T : Finset Bf} {α β : Type} {p : Prog (Cmd F) α} {k : α → Prog (Cmd F) β} (hp : Only S T p)
    (hk : ∀ a, Only S T (k a)) : Only S T (p >>= k) := by
  induction p with
  | ret a => exact hk a
  | op e c ih =>
    cases e with
    | load b r h => exact ⟨hp.1, fun x => ih x (hp.2 x)⟩
    | loadIn b q hq r h => exact ⟨hp.1, fun x => ih x (hp.2 x)⟩
    | store b r v h hp' => exact ⟨hp.1, fun x => ih x (hp.2 x)⟩

theorem Only_mono {S T S' T' : Finset Bf} (hS : S ⊆ S') (hT : T ⊆ T') {α : Type} {p : Prog (Cmd F) α} (hp : Only S T p) : Only S' T' p := by
  induction p with
  | ret a => trivial
  | op e c ih =>
    cases e with
    | load b r h => exact ⟨hS hp.1, fun x => ih x (hp.2 x)⟩
    | loadIn b q hq r h => exact ⟨hS hp.1, fun x => ih x (hp.2 x)⟩
    | store b r v h hp' => exact ⟨hT hp.1, fun x => ih x (hp.2 x)⟩

/-- A buffer a program does not store to is left as it was. -/
theorem run_kept {S T : Finset Bf} {α : Type} (p : Prog (Cmd F) α) (hp : Only S T p) (s : St F) {b : Bf} (hb : b ∉ T) :
    (run p s).2 b = s b := by
  induction p generalizing s with
  | ret a => rfl
  | op e c ih =>
    cases e with
    | load b' r h => exact ih _ (hp.2 _) s
    | loadIn b' q hq r h => exact ih _ (hp.2 _) s
    | store b' r v h hp' =>
      refine (ih _ (hp.2 _) _).trans ?_
      exact Function.update_of_ne (fun e => hb (by rw [e]; exact hp.1)) _ _

variable {nD : Nat} {τ : Topo} {sig : RefSig} {Λ : Labels}

/-- Memrefs for the buffers. -/
abbrev Refs (sig : RefSig) : Type := (b : Bf) → Memref sig .tc .vmem b.shp b.elt

theorem stores_ok {sp : Shape} {e : EltTy} {M : Memref sig .tc .vmem sp e} (hM : M.IsWhole) {r : Rect sp} (h : 0 < r.shape.numel)
    (hp : e.bits = 32 ∨ r.PackedRows e.packing) (hl : Kind.statesLayout .tc .vmem = true) : (M.access r).Stores Finset.univ := by
  rcases hp with hp | hp
  · exact View.stores_vmem_bits_univ h hp
  · exact View.stores_vmem h (hM.storeExact_slice hl _ hp) (fun _ => rfl)

/-- The machine's access. -/
def Cmd.toEff (M : Refs sig) (hM : ∀ b, (M b).IsWhole) {α : Type} : Cmd F α → TpuEff nD τ sig (Elt F) Λ .tc α
  | .load b r h => .load (M b) r (View.loadsAt_vmem h)
  | .loadIn b q hq r h => .load ((M b).slice q hq) r (View.loadsAt_vmem h)
  | .store b r v h hp => .store (M b) r v Finset.univ (stores_ok (hM b) h hp rfl) (.inl rfl)

/-- The machine program. -/
def toProg (M : Refs sig) (hM : ∀ b, (M b).IsWhole) {α : Type} : Prog (Cmd F) α → Prog (TpuEff nD τ sig (Elt F) Λ .tc) α
  | .ret a => .ret a
  | .op e k => .op (e.toEff M hM) fun x => toProg M hM (k x)

theorem toProg_bind (M : Refs sig) (hM : ∀ b, (M b).IsWhole) {α β : Type} (p : Prog (Cmd F) α) (k : α → Prog (Cmd F) β) :
    (toProg M hM (p >>= k) : Prog (TpuEff nD τ sig (Elt F) Λ .tc) β) = toProg M hM p >>= fun a => toProg M hM (k a) := by
  induction p with
  | ret a => rfl
  | op e c ih => exact congrArg (Prog.op (e.toEff M hM)) (funext fun x => ih x)

theorem read_put {sp : Shape} {e : EltTy} (M : Memref sig .tc .vmem sp e) (r : Rect sp) (f : M.view.ty.Contents (Elt F))
    (v : r.shape.Idx → Elt F e) :
    M.view.read (Elt F) (View.write (Elt F) (M.view.slice r) f v Finset.univ) = put r v (M.view.read (Elt F) f) := by
  funext i
  by_cases h : ∃ j, r.emb j = i
  · obtain ⟨j, rfl⟩ := h
    rw [View.read_slice_write_emb _ _ _ (Finset.mem_univ j), put_emb]
  · rw [View.read_slice_write_of_not_mem, put_miss]
    · exact fun j hj => h ⟨j, hj⟩
    · intro hmem
      obtain ⟨j, -, hj⟩ := Finset.mem_map.mp hmem
      exact h ⟨j, hj⟩

variable {Ix : Type} [DecidableEq Ix] {Name : Type} [DecidableEq Name] {U : Type} [URA U] {Lvl : Type} [Preorder Lvl]

local notation "𝕄" => MT nD τ sig Ix (Elt F) Name U Lvl

/-- The buffers of `S` held at contents `s`. -/
def own (S : Finset Bf) (M : Refs sig) (c : Dev nD) (s : St F) : sProp 𝕄 :=
  bigSep S fun b => owns (c : Thread nD τ) (M b) fullShare (s b)

/-- One buffer taken out, to be put back at contents of one's choice. -/
theorem own_take {S : Finset Bf} (M : Refs sig) (c : Dev nD) (s : St F) {b : Bf} (hb : b ∈ S) :
    (own S M c s : sProp 𝕄) ⊢ iprop(owns (c : Thread nD τ) (M b) fullShare (s b)
      ∗ ∀ x, owns (c : Thread nD τ) (M b) fullShare x -∗ own S M c (Function.update s b x)) := by
  have e (t : St F) : (own S M c t : sProp 𝕄) = iprop(owns (c : Thread nD τ) (M b) fullShare (t b)
      ∗ bigSep (S.erase b) fun b' => owns (c : Thread nD τ) (M b') fullShare (t b')) := bigSep_erase hb
  rw [e s]
  iintro ⟨H, HR⟩
  isplitl [H]; · iexact H
  iintro %x Hx
  have e' : (bigSep (S.erase b) fun b' => (owns (c : Thread nD τ) (M b') fullShare (Function.update s b x b') : sProp 𝕄))
      = bigSep (S.erase b) fun b' => owns (c : Thread nD τ) (M b') fullShare (s b') :=
    bigSep_congr fun b' hb' => by rw [Function.update_of_ne (Finset.ne_of_mem_erase hb')]
  rw [e (Function.update s b x), e', Function.update_self]
  isplitl [Hx]
  · iexact Hx
  · iexact HR

/-- The machine program of a program on the buffers of `S`, run on those held at contents `s`, answers what `run` says and leaves the buffers at the
    contents `run` says. -/
theorem wp_toProg {S T : Finset Bf} (hTS : T ⊆ S) (M : Refs sig) (hM : ∀ b, (M b).IsWhole) (c : Dev nD) {defs : Defs nD τ sig (Elt F) Λ} (𝒱 : Variants)
    (E : Set Name) {α : Type} (p : Prog (Cmd F) α) (hp : Only S T p) (s : St F) (Q : α → sProp 𝕄) :
    iprop(own S M c s ∗ (own S M c (run p s).2 -∗ Q (run p s).1))
      ⊢ wp frame (wpE defs 𝒱 (c : Thread nD τ) none) E (toProg M hM p) Q := by
  induction p generalizing s with
  | ret a =>
    show iprop(own S M c s ∗ (own S M c s -∗ Q a)) ⊢ wp frame (wpE defs 𝒱 (c : Thread nD τ) none) E (.ret a) Q
    iintro ⟨H, HQ⟩
    sl_step
    iapply HQ; iexact H
  | op e k ih =>
    cases e with
    | load b r h =>
      have hb := hp.1
      show _ ⊢ wp frame (wpE defs 𝒱 (c : Thread nD τ) none) E (.op (.load (M b) r (View.loadsAt_vmem h)) fun x => toProg M hM (k x)) Q
      iintro ⟨H, HQ⟩
      icases (own_take M c s hb) $$ H with ⟨Hb, Hback⟩
      icases (Updates.owns_read (c : Thread nD τ) (M b) (s b)) $$ Hb with ⟨%f, Hb, %hf⟩
      iapply (wp_load 𝒱 (c : Thread nD τ) none E (View.setOn_subset_set _ _)) $$ Hb
      iintro Hb
      have hv : (M b).view.readAt (Elt F) r f = fun j => s b (r.idx j) := by
        funext j; rw [View.readAt_apply, hf]
      rw [hv]
      iapply (ih (fun j => s b (r.idx j)) (hp.2 _) s)
      isplitl [Hb Hback]
      · ispecialize Hback $$ %(s b)
        rw [Function.update_eq_self b s]
        iapply Hback
        iapply (LaneScatter.raw_owns (c : Thread nD τ) (M b) hf); iexact Hb
      · iexact HQ
    | loadIn b q hq r h =>
      have hb := hp.1
      show _ ⊢ wp frame (wpE defs 𝒱 (c : Thread nD τ) none) E (.op (.load ((M b).slice q hq) r (View.loadsAt_vmem h)) fun x => toProg M hM (k x)) Q
      iintro ⟨H, HQ⟩
      icases (own_take M c s hb) $$ H with ⟨Hb, Hback⟩
      icases (Updates.owns_read (c : Thread nD τ) (M b) (s b)) $$ Hb with ⟨%f, Hb, %hf⟩
      have hS : ((M b).slice q hq).view.setOn (r.set) ⊆ (M b).view.set :=
        (View.setOn_subset_set _ _).trans (by
          show ((M b).view.slice q).set ⊆ _
          rw [View.set_slice]; exact View.setOn_subset_set _ _)
      iapply (wp_load 𝒱 (c : Thread nD τ) none E (m := (M b).slice q hq) (r := r) hS) $$ Hb
      iintro Hb
      have hv : ((M b).slice q hq).view.readAt (Elt F) r f = fun j => s b (q.emb (r.idx j)) := by
        funext j; rw [← hf]; rfl
      rw [hv]
      iapply (ih (fun j => s b (q.emb (r.idx j))) (hp.2 _) s)
      isplitl [Hb Hback]
      · ispecialize Hback $$ %(s b)
        rw [Function.update_eq_self b s]
        iapply Hback
        iapply (LaneScatter.raw_owns (c : Thread nD τ) (M b) hf); iexact Hb
      · iexact HQ
    | store b r v h hp' =>
      have hb := hTS hp.1
      show _ ⊢ wp frame (wpE defs 𝒱 (c : Thread nD τ) none) E
        (.op (.store (M b) r v Finset.univ (stores_ok (hM b) h hp' rfl) (.inl rfl)) fun x => toProg M hM (k x)) Q
      have hS : ((M b).access r).setOn Finset.univ ⊆ (M b).view.set := by
        rw [View.setOn_univ, View.set_slice]; exact View.setOn_subset_set _ _
      iintro ⟨H, HQ⟩
      icases (own_take M c s hb) $$ H with ⟨Hb, Hback⟩
      icases (Updates.owns_read (c : Thread nD τ) (M b) (s b)) $$ Hb with ⟨%f, Hb, %hf⟩
      iapply (wp_store 𝒱 (c : Thread nD τ) none E (m := M b) (r := r) (Mk := Finset.univ) hS) $$ Hb
      iintro Hb
      iapply (ih ⟨⟩ (hp.2 _) (Function.update s b (put r v (s b))))
      isplitl [Hb Hback]
      · iapply Hback
        iapply (LaneScatter.raw_owns (c : Thread nD τ) (M b) (by rw [← hf]; exact read_put (M b) r f v)); iexact Hb
      · iexact HQ

end Cert.Proof.FlexRound
end
-- ==== Proof.Vals.lean ====
/-
  The arrays the kernel computes between its loads and stores: the quantiser's quotient, code and masked
  quotient, the packed nibbles, the residual and the rounded error, the gradient's column, the reductions.
-/
module

public import proofs.«01_k».proof.Proof.Lang

@[expose] public section

noncomputable section

namespace Cert.Proof.FlexRound

open Idealize.ShloMosaic Idealize.SL.Sem

variable {F : FTy → Type} [FloatOps F]

/-- An array of `r` rows and `c` columns of 32-bit floats. -/
abbrev A (F : FTy → Type) [FloatOps F] (r c : ℕ) : Type := FVec F (Sh r c) .f32

/-- The float of a bit pattern, everywhere. -/
def fill (r c : ℕ) (b : BitVec 32) : A F r c := broadcast (Sh r c) (Scalar.ofBits .f32 b)

/-- A row of 128 numbers turned into 128 rows of one number each. -/
def lanes (v : A F 1 128) : A F 128 128 :=
  transpose (Sh 128 128) [1, 0] (broadcastTo (Sh 128 128) (shapeCast (Sh 1 128) (shapeCast (Sh 1 128) v (by decide)) (by decide))
    (by decide)) (by decide)

theorem conc_twice : Shape.Concatenates [Sh 128 128, Sh 128 128] (Sh 128 256) 1 := by decide
theorem conc_srow : Shape.Concatenates [Sh 1 128, Sh 1 128] (Sh 1 256) 1 := by decide
theorem conc_err : Shape.Concatenates [Sh 128 256, Sh 128 256, Sh 128 256, Sh 128 256, Sh 128 256, Sh 128 256] (Sh 768 256) 0 := by decide

/-- Two copies side by side. -/
def twice (a : A F 128 128) : A F 128 256 :=
  concatenate (Sh 128 256) 1 [⟨Sh 128 128, a⟩, ⟨Sh 128 128, a⟩] conc_twice

/-- A row of 256 numbers on every one of 128 rows. -/
def downRows (c : A F 1 256) : A F 128 256 := broadcastTo (Sh 128 256) c (by decide)

/-- The quotient `w / (s1 exp(s2 + r + c))`. -/
def zOf (s1c rc s2 : A F 128 256) (c : A F 1 256) (w : A F 128 256) : A F 128 256 :=
  divf w (mulf s1c (exp (addf (addf s2 rc) (downRows (shapeCast (Sh 1 256) c (by decide))))))

/-- The code: the quotient rounded and clipped to [-8, 7]. -/
def qOf (z : A F 128 256) : A F 128 256 :=
  minimumf (fill 128 256 0x40E00000#32) (maximumf (fill 128 256 0xC1000000#32) (roundeven z))

/-- The quotient where the code is not clipped, zero elsewhere. -/
def mzOf (z : A F 128 256) : A F 128 256 :=
  mulf (select (andi (cmpf .oge z (fill 128 256 0xC1080000#32)) (cmpf .olt z (fill 128 256 0x40F00000#32)))
    (fill 128 256 0x3F800000#32) (fill 128 256 0x00000000#32)) z

/-- Pairs of neighbouring codes as bytes, from one half of a block's words. -/
def packHalf (o : Fin 2 → ℕ) (h : (Sh 32 256).Slices o (Sh 32 128)) (words : IVec (Sh 32 256) 32) (src : IVec (Sh 32 128) 32) : IVec (Sh 32 128) 32 :=
  dynamicGather 1 (ori (extractStridedSlice (Sh 32 128) o words h)
      (shli (dynamicRotate 1 127#32 none (extractStridedSlice (Sh 32 128) o words h) (by decide)) (broadcast (Sh 32 128) 4#32)))
    (shapeCast (Sh 32 128) (shapeCast ⟨3, ![32, 128, 1]⟩ (select (cmpi .slt src (broadcast (Sh 32 128) 0#32))
      (addi src (broadcast (Sh 32 128) 128#32)) src) (by decide)) (by decide))

/-- The packed bytes of a block of codes. -/
def pkOf (q : A F 128 256) : IVec (Sh 128 128) 8 :=
  let words := bitcast (Sh 32 256) 32 (trunci 8 (andi (fptosi 32 q) (broadcast (Sh 128 256) 15#32)) (by decide)) (by decide)
  let lane := iota .tc (Sh 32 128) 32 [1] (by decide)
  let src := andi (muli lane (broadcast (Sh 32 128) 2#32)) (broadcast (Sh 32 128) 127#32)
  bitcast (Sh 128 128) 8 (select (cmpi .slt lane (broadcast (Sh 32 128) 64#32))
    (packHalf ![0, 0] (by decide) words src) (packHalf ![0, 128] (by decide) words src)) (by decide)

/-- Minus the row scale, on every column. -/
def negLanes (v : A F 1 128) : A F 128 256 := twice (subf (fill 128 128 0x00000000#32) (lanes v))

/-- The block of the scale's gradient. -/
def dOf (ns1 z g : A F 128 256) : A F 128 256 := mulf (mulf ns1 z) g

/-- The block of the row scale's gradient before the sum over columns. -/
def eOf (z g : A F 128 256) (q : FVec F (Sh 128 256) .fp8e4m3) : A F 128 256 := mulf g (subf (extf .f32 q (by decide)) z)

/-- A block's left and right halves added. -/
def halves (d : A F 128 256) : A F 128 128 :=
  addf (extractStridedSlice (Sh 128 128) ![0, 0] d (by decide)) (extractStridedSlice (Sh 128 128) ![0, 128] d (by decide))

/-- A block's rows added in sixteen groups of eight. -/
def fold8 (d : A F 128 256) : A F 8 256 :=
  multiReduction .add [0] (Sh 8 256) (shapeCast ⟨3, ![16, 8, 256]⟩ d (by decide) : FVec F ⟨3, ![16, 8, 256]⟩ .f32) 0x00000000#32 (by decide) (.inl rfl) rfl

/-- A block's sums along its rows, as a row. -/
def rowSums (a : A F 128 128) : A F 1 128 :=
  shapeCast (Sh 1 128) (multiReduction .add [0] ⟨1, ![128]⟩ (transpose (Sh 128 128) [1, 0] a (by decide) : FVec F (Sh 128 128) .f32)
    0x00000000#32 (by decide) (.inl rfl) rfl : FVec F ⟨1, ![128]⟩ .f32) (by decide)

/-- The eight partial column sums added. -/
def colSums (a : A F 8 2560) : A F 1 2560 :=
  shapeCast (Sh 1 2560) (multiReduction .add [0] ⟨1, ![2560]⟩ a 0x00000000#32 (by decide) (.inl rfl) rfl : FVec F ⟨1, ![2560]⟩ .f32) (by decide)

/-- The two row scales of a tile as one row. -/
def srowOf (v : A F 2 128) : A F 1 256 :=
  concatenate (Sh 1 256) 1
    [⟨Sh 1 128, extractStridedSlice (Sh 1 128) ![0, 0] (shapeCast (Sh 2 128) v (by decide)) (by decide)⟩,
     ⟨Sh 1 128, extractStridedSlice (Sh 1 128) ![1, 0] (shapeCast (Sh 2 128) v (by decide)) (by decide)⟩] conc_srow

/-- The contraction of the two last axes. -/
def dotF : DotDims (Sh 768 2560) (Sh 256 2560) (Sh 768 256) where
  lhsContracting := [1]
  rhsContracting := [1]
  lhsNonContracting := [0]
  rhsNonContracting := [0]
  lhsBatch := []
  rhsBatch := []
  wf := by decide

/-- The contraction of the left's last axis with the right's first. -/
def dotB : DotDims (Sh 256 768) (Sh 768 256) (Sh 256 256) where
  lhsContracting := [1]
  rhsContracting := [0]
  lhsNonContracting := [0]
  rhsNonContracting := [1]
  lhsBatch := []
  rhsBatch := []
  wf := by decide

/-- A chunk's products with the tile's codes. -/
def fwdOf (x : FVec F (Sh 768 2560) .fp8e4m3) (q : FVec F (Sh 256 2560) .fp8e4m3) : A F 768 256 :=
  matmul dotF none x q (constant (Sh 768 256) .f32 0x00000000#32)

theorem slices_blk (b : Fin 6) : (Sh 768 256).Slices ![128 * b.val, 0] (Sh 128 256) := by revert b; decide

/-- A block's token scales, on every column. -/
def xsOf (v : A F 1 128) : A F 128 256 := twice (lanes v)

/-- The residual of a block of 128 tokens. -/
def resOf (b : Fin 6) (acc : A F 768 256) (xs : A F 128 256) (srow : A F 1 256) (y : FVec F (Sh 128 256) .bf16) : A F 128 256 :=
  subf (mulf (mulf (extractStridedSlice (Sh 128 256) ![128 * b.val, 0] acc (slices_blk b)) xs) (downRows srow))
    (extf .f32 (shapeCast (Sh 128 256) y (by decide) : FVec F (Sh 128 256) .bf16) (by decide))

/-- The squared residual's halves added. -/
def sqOf (res : A F 128 256) : A F 128 128 := halves (mulf res res)

/-- The error a block hands to the gradient, rounded. -/
def errOf (res xs : A F 128 256) : FVec F (Sh 128 256) .bf16 :=
  truncf .bf16 (mulf (mulf res xs) (fill 128 256 0x3306D905#32)) (by decide)

/-- A chunk's six error blocks, transposed. -/
def errT (e0 e1 e2 e3 e4 e5 : FVec F (Sh 128 256) .bf16) : FVec F (Sh 256 768) .bf16 :=
  transpose (Sh 256 768) [1, 0] (concatenate (Sh 768 256) 0
    [⟨Sh 128 256, e0⟩, ⟨Sh 128 256, e1⟩, ⟨Sh 128 256, e2⟩, ⟨Sh 128 256, e3⟩, ⟨Sh 128 256, e4⟩, ⟨Sh 128 256, e5⟩] conc_err) (by decide)

/-- A chunk's addition to a block of the gradient. -/
def bwdOf (e : FVec F (Sh 256 768) .bf16) (x : FVec F (Sh 768 256) .fp8e4m3) : A F 256 256 :=
  matmul dotB none e x (constant (Sh 256 256) .f32 0x00000000#32)

/-- The mean of a block's squared residuals, as a row. -/
def lossOf (a : A F 128 128) : A F 1 128 := divf (rowSums a) (fill 1 128 0x45D80000#32)

end Cert.Proof.FlexRound
end
-- ==== Proof.Body.lean ====
/-
  The kernel's body as programs of loads and stores: what one grid point does, by its phases.
-/
module

public import proofs.«01_k».proof.Proof.Vals

@[expose] public section

noncomputable section

namespace Cert.Proof.FlexRound

open Idealize.ShloMosaic Idealize.SL.Sem

variable {F : FTy → Type} [FloatOps F]

/-- What follows a conditional may stand in its branches. -/
theorem dite_bind.{v} {E : Type → Type v} {α β : Type} {c : Prop} [Decidable c] (t : c → Prog E α) (e : ¬c → Prog E α) (k : α → Prog E β) :
    (dite c t e >>= k) = dite c (fun h => t h >>= k) (fun h => e h >>= k) := by
  by_cases h : c
  · rw [dif_pos h, dif_pos h]
  · rw [dif_neg h, dif_neg h]

/-- A program of accesses. -/
abbrev Acc (F : FTy → Type) : Type → Type 1 := Prog (Cmd F)

theorem inb2 {R C a b h w : ℕ} (ha : a + h ≤ R) (hb : b + w ≤ C) : ∀ k, (![a, b] : Fin 2 → ℕ) k + (![h, w] : Fin 2 → ℕ) k ≤ (Sh R C).size k :=
  Fin.forall_fin_two.mpr ⟨ha, hb⟩

/-- The rectangle of `h` rows from row `a` and `w` columns from column `b`. -/
abbrev R2 {R C : ℕ} (a b h w : ℕ) (ha : a + h ≤ R) (hb : b + w ≤ C) : Rect (Sh R C) :=
  Rect.unit (s := Sh R C) ![a, b] (Sh h w).size (inb2 ha hb)

/-- A load. -/
def ld (b : Bf) (r : Rect b.shp) (h : 0 < r.shape.numel) : Acc F (r.shape.Idx → Elt F b.elt) := Prog.lift (.load b r.toLoadRect h)

/-- A store to a buffer of 32-bit elements. -/
def st (b : Bf) (r : Rect b.shp) (v : r.shape.Idx → Elt F b.elt) (h : 0 < r.shape.numel) (hp : b.elt.bits = 32) : Acc F PUnit :=
  Prog.lift (.store b r v h (.inl hp))

/-- Where a grid point reads and writes: the prologue's row of the scales, the epilogue's, the half tile's first row, and per
    chunk (and block of a chunk) the first row of the codes, of the token scales and of the loss partials. -/
structure Pt where
  kp : ℕ
  ke : ℕ
  rb : ℕ
  xo : Fin 6 → ℕ
  so : Fin 6 → Fin 6 → ℕ
  lo : Fin 6 → Fin 6 → ℕ
  hkp : kp + 1 ≤ 54
  hke : ke + 1 ≤ 54
  hrb : rb + 128 ≤ 256
  hrb4 : 4 ∣ rb
  hxo : ∀ c, xo c + 768 ≤ 9216
  hso : ∀ c b, so c b + 1 ≤ 72
  hlo : ∀ c b, lo c b + 128 ≤ 9216

theorem pos_128x256 : 0 < (Sh 128 256).numel := by decide
theorem pos_1x256 : 0 < (Sh 1 256).numel := by decide
theorem pos_8x256 : 0 < (Sh 8 256).numel := by decide
theorem pos_1x128 : 0 < (Sh 1 128).numel := by decide
theorem pos_2x128 : 0 < (Sh 2 128).numel := by decide
theorem pos_128x128 : 0 < (Sh 128 128).numel := by decide
theorem pos_256x256 : 0 < (Sh 256 256).numel := by decide
theorem pos_768x256 : 0 < (Sh 768 256).numel := by decide
theorem pos_768x2560 : 0 < (Sh 768 2560).numel := by decide
theorem pos_256x2560 : 0 < (Sh 256 2560).numel := by decide
theorem pos_9216x128 : 0 < (Sh 9216 128).numel := by decide
theorem pos_8x2560 : 0 < (Sh 8 2560).numel := by decide
theorem pos_1x2560 : 0 < (Sh 1 2560).numel := by decide

theorem packed_q {a b : ℕ} (ha : a + 128 ≤ 256) (hb : b + 256 ≤ 2560) (h4 : 4 ∣ a) :
    (R2 (R := 256) (C := 2560) a b 128 256 ha hb).PackedRows (EltTy.packing .fp8e4m3) :=
  by
  refine .inr ⟨(le_refl 2 : 2 ≤ 2), rfl, .inl ⟨?_, ?_⟩⟩
  · exact h4
  · exact (by decide : (4 : ℕ) ∣ 128)

theorem packed_pk {b : ℕ} (hb : b + 128 ≤ 1280) :
    (R2 (R := 128) (C := 1280) 0 b 128 128 (by omega) hb).PackedRows (EltTy.packing .i8) :=
  by
  refine .inr ⟨(le_refl 2 : 2 ≤ 2), rfl, .inl ⟨?_, ?_⟩⟩
  · exact (by decide : (4 : ℕ) ∣ 0)
  · exact (by decide : (4 : ℕ) ∣ 128)

theorem packed_q0 : (R2 (R := 256) (C := 2560) 0 0 256 2560 (by omega) (by omega)).PackedRows (EltTy.packing .fp8e4m3) := by decide

/-- The prologue of one column block: the quotient's masked value and the code into the tile's buffers, the packed bytes out. -/
def proPart (p : Bool) (rb : ℕ) (hrb : rb + 128 ≤ 256) (h4 : 4 ∣ rb) (s1c rc : A F 128 256) (i : Fin 10) : Acc F PUnit := do
  let s2 : A F 128 256 ← ld .s2 (R2 0 (256 * i.val) 128 256 (by omega) (by omega)) pos_128x256
  let c : A F 1 256 ← ld .c (R2 0 (256 * i.val) 1 256 (by omega) (by omega)) pos_1x256
  let w : A F 128 256 ← ld .w (R2 0 (256 * i.val) 128 256 (by omega) (by omega)) pos_128x256
  let z : A F 128 256 := zOf s1c rc s2 c w
  let _ ← ld (F := F) (.z p) (R2 rb (256 * i.val) 128 256 hrb (by omega)) pos_128x256
  st (.z p) (R2 rb (256 * i.val) 128 256 hrb (by omega)) (shapeCast (Sh 128 256) (mzOf z) (by decide)) pos_128x256 rfl
  let _ ← ld (F := F) (.q p) (R2 rb (256 * i.val) 128 256 hrb (by omega)) pos_128x256
  Prog.lift (.store (.q p) (R2 rb (256 * i.val) 128 256 hrb (by omega))
    (shapeCast (Sh 128 256) (truncf .fp8e4m3 (qOf z) (by decide) : FVec F (Sh 128 256) .fp8e4m3) (by decide)) pos_128x256 (.inr (packed_q _ _ h4)))
  let _ ← ld (F := F) .pk (R2 0 (128 * i.val) 128 128 (by omega) (by omega)) pos_128x128
  Prog.lift (.store .pk (R2 0 (128 * i.val) 128 128 (by omega) (by omega)) (pkOf (qOf z)) pos_128x128 (.inr (packed_pk (by omega))))

/-- The epilogue of one column block: the scale gradient's block out, its column sums onto the running ones, its row sums and the
    row scale gradient's onto the arguments, and the gradient's block cleared. -/
def epiPart (p : Bool) (rb : ℕ) (hrb : rb + 128 ≤ 256) (ns1 : A F 128 256) (i : Fin 10) (a : A F 128 128 × A F 128 128) :
    Acc F (A F 128 128 × A F 128 128) := do
  let g : A F 128 256 ← ld (.g p) (R2 rb (256 * i.val) 128 256 hrb (by omega)) pos_128x256
  let z : A F 128 256 ← ld (.z p) (R2 rb (256 * i.val) 128 256 hrb (by omega)) pos_128x256
  let q : FVec F (Sh 128 256) .fp8e4m3 ← ld (.q p) (R2 rb (256 * i.val) 128 256 hrb (by omega)) pos_128x256
  let _ ← ld (F := F) .ds2 (R2 0 (256 * i.val) 128 256 (by omega) (by omega)) pos_128x256
  st .ds2 (R2 0 (256 * i.val) 128 256 (by omega) (by omega)) (dOf ns1 z g) pos_128x256 rfl
  let d : A F 8 256 ← ld .da (R2 0 (256 * i.val) 8 256 (by omega) (by omega)) pos_8x256
  let _ ← ld (F := F) .da (R2 0 (256 * i.val) 8 256 (by omega) (by omega)) pos_8x256
  st .da (R2 0 (256 * i.val) 8 256 (by omega) (by omega)) (shapeCast (Sh 8 256) (addf d (fold8 (dOf ns1 z g))) (by decide)) pos_8x256 rfl
  let _ ← ld (F := F) (.g p) (R2 rb (256 * i.val) 128 256 hrb (by omega)) pos_128x256
  st (.g p) (R2 rb (256 * i.val) 128 256 hrb (by omega)) (shapeCast (Sh 128 256) (fill (F := F) 128 256 0x00000000#32) (by decide)) pos_128x256 rfl
  pure (addf a.1 (halves (dOf ns1 z g)), addf a.2 (halves (eOf z g q)))

/-- The epilogue's end: the two rows of row sums out. -/
def epiEnd (k : ℕ) (hk : k + 1 ≤ 54) (a : A F 128 128 × A F 128 128) : Acc F PUnit := do
  let _ ← ld (F := F) .dr (R2 k 0 1 128 hk (by omega)) pos_1x128
  st .dr (R2 k 0 1 128 hk (by omega)) (rowSums a.1) pos_1x128 rfl
  let _ ← ld (F := F) .ds1 (R2 k 0 1 128 hk (by omega)) pos_1x128
  st .ds1 (R2 k 0 1 128 hk (by omega)) (rowSums a.2) pos_1x128 rfl

/-- A chunk's products with the tile's codes. -/
def fwd (m : Bool) (P : Pt) (c : Fin 6) : Acc F (A F 768 256) := do
  let x : FVec F (Sh 768 2560) .fp8e4m3 ← ld .x (R2 (P.xo c) 0 768 2560 (P.hxo c) (by omega)) pos_768x2560
  let q : FVec F (Sh 256 2560) .fp8e4m3 ← ld (.q m) (R2 0 0 256 2560 (by omega) (by omega)) pos_256x2560
  pure (fwdOf x q)

/-- One block of a chunk's residuals: the squares onto the loss partials, the rounded error answered. -/
def resid1 (P : Pt) (srow : A F 1 256) (c : Fin 6) (acc : A F 768 256) (b : Fin 6) : Acc F (FVec F (Sh 128 256) .bf16) := do
  let xs : A F 1 128 ← ld .xs (R2 (P.so c b) 0 1 128 (P.hso c b) (by omega)) pos_1x128
  let y : FVec F (Sh 128 256) .bf16 ← ld .y (R2 (768 * c.val + 128 * b.val) 0 128 256 (by omega) (by omega)) pos_128x256
  let res : A F 128 256 := resOf b acc (xsOf xs) srow y
  let l : A F 128 128 ← ld .la (R2 (P.lo c b) 0 128 128 (P.hlo c b) (by omega)) pos_128x128
  let _ ← ld (F := F) .la (R2 (P.lo c b) 0 128 128 (P.hlo c b) (by omega)) pos_128x128
  st .la (R2 (P.lo c b) 0 128 128 (P.hlo c b) (by omega)) (shapeCast (Sh 128 128) (addf l (sqOf res)) (by decide)) pos_128x128 rfl
  pure (errOf res (xsOf xs))

/-- A chunk's residuals; the errors answered, transposed. -/
def resid (P : Pt) (srow : A F 1 256) (c : Fin 6) (acc : A F 768 256) : Acc F (FVec F (Sh 256 768) .bf16) := do
  let e0 ← resid1 P srow c acc ⟨0, by decide⟩
  let e1 ← resid1 P srow c acc ⟨1, by decide⟩
  let e2 ← resid1 P srow c acc ⟨2, by decide⟩
  let e3 ← resid1 P srow c acc ⟨3, by decide⟩
  let e4 ← resid1 P srow c acc ⟨4, by decide⟩
  let e5 ← resid1 P srow c acc ⟨5, by decide⟩
  pure (errT e0 e1 e2 e3 e4 e5)

/-- A chunk's addition to one column block of the tile's gradient. -/
def bwd1 (m : Bool) (P : Pt) (c : Fin 6) (e : FVec F (Sh 256 768) .bf16) (i : Fin 10) : Acc F PUnit := do
  let g : A F 256 256 ← ld (.g m) (R2 0 (256 * i.val) 256 256 (by omega) (by omega)) pos_256x256
  let x : FVec F (Sh 768 256) .fp8e4m3 ← Prog.lift (.loadIn .x (R2 (P.xo c) 0 768 2560 (P.hxo c) (by omega)) (fun _ => rfl)
    (R2 (R := 768) (C := 2560) 0 (256 * i.val) 768 256 (by omega) (by omega)).toLoadRect pos_768x256)
  let _ ← ld (F := F) (.g m) (R2 0 (256 * i.val) 256 256 (by omega) (by omega)) pos_256x256
  st (.g m) (R2 0 (256 * i.val) 256 256 (by omega) (by omega)) (shapeCast (Sh 256 256) (addf g (bwdOf e x)) (by decide)) pos_256x256 rfl

/-- A program at each of a list's members, in order. -/
def each {ι : Type} : List ι → (ι → Acc F PUnit) → Acc F PUnit
  | [], _ => pure ⟨⟩
  | i :: l, f => do f i; each l f

/-- A program at each of a list's members, in order, an accumulator carried through. -/
def thread {ι σ : Type} : List ι → (ι → σ → Acc F σ) → σ → Acc F σ
  | [], _, a => pure a
  | i :: l, f, a => do let a' ← f i a; thread l f a'

/-- The ten column blocks. -/
abbrev cols : List (Fin 10) :=
  [⟨0, by decide⟩, ⟨1, by decide⟩, ⟨2, by decide⟩, ⟨3, by decide⟩, ⟨4, by decide⟩, ⟨5, by decide⟩, ⟨6, by decide⟩, ⟨7, by decide⟩,
    ⟨8, by decide⟩, ⟨9, by decide⟩]

/-- The prologue alone, on every column block. -/
def proAll (p : Bool) (P : Pt) : Acc F PUnit := do
  let s1 ← ld (F := F) .s1 (R2 P.kp 0 1 128 P.hkp (by omega)) pos_1x128
  let r ← ld (F := F) .r (R2 P.kp 0 1 128 P.hkp (by omega)) pos_1x128
  each cols (proPart p P.rb P.hrb P.hrb4 (twice (lanes s1)) (twice (lanes r)))

/-- The epilogue alone, on every column block. -/
def epiAll (p : Bool) (P : Pt) : Acc F PUnit := do
  let s1 ← ld (F := F) .s1 (R2 P.ke 0 1 128 P.hke (by omega)) pos_1x128
  let a ← thread cols (epiPart p P.rb P.hrb (negLanes s1)) (fill 128 128 0x00000000#32, fill 128 128 0x00000000#32)
  epiEnd P.ke P.hke a

/-- The epilogue of one tile and the prologue of another, on the column blocks listed. -/
def side (p : Bool) (P : Pt) (ns1 s1c rc : A F 128 256) (l : List (Fin 10)) (a : A F 128 128 × A F 128 128) :
    Acc F (A F 128 128 × A F 128 128) :=
  thread l (fun i a => do
    let a' ← epiPart p P.rb P.hrb ns1 i a
    proPart p P.rb P.hrb P.hrb4 s1c rc i
    pure a') a

/-- A chunk of the main phase but the last: the next chunk's products, this one's gradient, the side work, the next one's residuals. -/
def chunk (p m : Bool) (P : Pt) (ns1 s1c rc : A F 128 256) (srow : A F 1 256) (c c' : Fin 6) (l : List (Fin 10))
    (s : FVec F (Sh 256 768) .bf16 × (A F 128 128 × A F 128 128)) : Acc F (FVec F (Sh 256 768) .bf16 × (A F 128 128 × A F 128 128)) := do
  let nxt ← fwd m P c'
  each cols (bwd1 m P c s.1)
  let a ← side p P ns1 s1c rc l s.2
  let e ← resid P srow c' nxt
  pure (e, a)

/-- A middle grid point: the epilogue of the tile before last and the prologue of the next one (buffers `p`) beside the two
    contractions of the last one (buffers `m`). -/
def step (p m : Bool) (P : Pt) (k1 : ℕ) (hk1 : k1 + 2 ≤ 54) : Acc F PUnit := do
  let s1 ← ld (F := F) .s1 (R2 P.kp 0 1 128 P.hkp (by omega)) pos_1x128
  let r ← ld (F := F) .r (R2 P.kp 0 1 128 P.hkp (by omega)) pos_1x128
  let s1e ← ld (F := F) .s1 (R2 P.ke 0 1 128 P.hke (by omega)) pos_1x128
  let s1m ← ld (F := F) .s1 (R2 k1 0 2 128 hk1 (by omega)) pos_2x128
  let acc ← fwd m P ⟨0, by decide⟩
  let e ← resid P (srowOf s1m) ⟨0, by decide⟩ acc
  let s := (e, (fill 128 128 0x00000000#32, fill 128 128 0x00000000#32))
  let s ← chunk p m P (negLanes s1e) (twice (lanes s1)) (twice (lanes r)) (srowOf s1m) ⟨0, by decide⟩ ⟨1, by decide⟩ [⟨0, by decide⟩] s
  let s ← chunk p m P (negLanes s1e) (twice (lanes s1)) (twice (lanes r)) (srowOf s1m) ⟨1, by decide⟩ ⟨2, by decide⟩ [⟨1, by decide⟩, ⟨2, by decide⟩] s
  let s ← chunk p m P (negLanes s1e) (twice (lanes s1)) (twice (lanes r)) (srowOf s1m) ⟨2, by decide⟩ ⟨3, by decide⟩ [⟨3, by decide⟩, ⟨4, by decide⟩] s
  let s ← chunk p m P (negLanes s1e) (twice (lanes s1)) (twice (lanes r)) (srowOf s1m) ⟨3, by decide⟩ ⟨4, by decide⟩ [⟨5, by decide⟩] s
  let s ← chunk p m P (negLanes s1e) (twice (lanes s1)) (twice (lanes r)) (srowOf s1m) ⟨4, by decide⟩ ⟨5, by decide⟩ [⟨6, by decide⟩, ⟨7, by decide⟩] s
  each cols (bwd1 m P ⟨5, by decide⟩ s.1)
  let a ← side p P (negLanes s1e) (twice (lanes s1)) (twice (lanes r)) [⟨8, by decide⟩, ⟨9, by decide⟩] s.2
  epiEnd P.ke P.hke a

/-- The first nine numbers. -/
abbrev nine : List (Fin 9) :=
  [⟨0, by decide⟩, ⟨1, by decide⟩, ⟨2, by decide⟩, ⟨3, by decide⟩, ⟨4, by decide⟩, ⟨5, by decide⟩, ⟨6, by decide⟩, ⟨7, by decide⟩,
    ⟨8, by decide⟩]

/-- The first eight numbers. -/
abbrev eight : List (Fin 8) :=
  [⟨0, by decide⟩, ⟨1, by decide⟩, ⟨2, by decide⟩, ⟨3, by decide⟩, ⟨4, by decide⟩, ⟨5, by decide⟩, ⟨6, by decide⟩, ⟨7, by decide⟩]

/-- A block of 128 tokens' mean squared residuals out. -/
def loss1 (b : Fin 72) : Acc F PUnit := do
  let l : A F 128 128 ← ld .la (R2 (128 * b.val) 0 128 128 (by omega) (by omega)) pos_128x128
  let _ ← ld (F := F) .loss (R2 b.val 0 1 128 (by omega) (by omega)) pos_1x128
  st .loss (R2 b.val 0 1 128 (by omega) (by omega)) (lossOf l) pos_1x128 rfl

/-- The last grid point's end: the column sums and the losses out. -/
def last : Acc F PUnit := do
  let d : A F 8 2560 ← ld .da (R2 0 0 8 2560 (by omega) (by omega)) pos_8x2560
  let _ ← ld (F := F) .dc (R2 0 0 1 2560 (by omega) (by omega)) pos_1x2560
  st .dc (R2 0 0 1 2560 (by omega) (by omega)) (colSums d) pos_1x2560 rfl
  each (nine) fun a => each eight fun b => loss1 ⟨8 * a.val + b.val, by omega⟩

/-- The first grid point's clearing of the scratch buffers. -/
def clear : Acc F PUnit := do
  let _ ← ld (F := F) (.z false) (R2 0 0 256 2560 (by omega) (by omega)) pos_256x2560
  st (.z false) (R2 0 0 256 2560 (by omega) (by omega)) (shapeCast (Sh 256 2560) (fill (F := F) 256 2560 0x00000000#32) (by decide)) pos_256x2560 rfl
  let _ ← ld (F := F) (.g false) (R2 0 0 256 2560 (by omega) (by omega)) pos_256x2560
  st (.g false) (R2 0 0 256 2560 (by omega) (by omega)) (shapeCast (Sh 256 2560) (fill (F := F) 256 2560 0x00000000#32) (by decide)) pos_256x2560 rfl
  let _ ← ld (F := F) (.z true) (R2 0 0 256 2560 (by omega) (by omega)) pos_256x2560
  st (.z true) (R2 0 0 256 2560 (by omega) (by omega)) (shapeCast (Sh 256 2560) (fill (F := F) 256 2560 0x00000000#32) (by decide)) pos_256x2560 rfl
  let _ ← ld (F := F) (.g true) (R2 0 0 256 2560 (by omega) (by omega)) pos_256x2560
  st (.g true) (R2 0 0 256 2560 (by omega) (by omega)) (shapeCast (Sh 256 2560) (fill (F := F) 256 2560 0x00000000#32) (by decide)) pos_256x2560 rfl
  let _ ← ld (F := F) (.q true) (R2 0 0 256 2560 (by omega) (by omega)) pos_256x2560
  Prog.lift (.store (.q true) (R2 0 0 256 2560 (by omega) (by omega))
    (shapeCast (Sh 256 2560) (broadcast (Sh 256 2560) (Scalar.ofBits .fp8e4m3 0x00#8) : FVec F (Sh 256 2560) .fp8e4m3) (by decide)) pos_256x2560 (.inr packed_q0))
  let _ ← ld (F := F) .la (R2 0 0 9216 128 (by omega) (by omega)) pos_9216x128
  st .la (R2 0 0 9216 128 (by omega) (by omega)) (shapeCast (Sh 9216 128) (fill (F := F) 9216 128 0x00000000#32) (by decide)) pos_9216x128 rfl
  let _ ← ld (F := F) .da (R2 0 0 8 2560 (by omega) (by omega)) pos_8x2560
  st .da (R2 0 0 8 2560 (by omega) (by omega)) (shapeCast (Sh 8 2560) (fill (F := F) 8 2560 0x00000000#32) (by decide)) pos_8x2560 rfl

/-! ## The grid point's rows, as the body computes them -/

def kpN (t h : ℕ) : ℕ := (Scalar.indexCast (Scalar.addi (Scalar.muli (Scalar.minsi (BitVec.ofNat 32 t) 26#32) 2#32) (BitVec.ofNat 32 h))).toNat
def keN (t h : ℕ) : ℕ := (Scalar.indexCast (Scalar.maxsi (Scalar.addi (Scalar.muli (Scalar.subi (BitVec.ofNat 32 t) 2#32) 2#32) (BitVec.ofNat 32 h)) 0#32)).toNat
def k1N (t : ℕ) : ℕ := (Scalar.indexCast (Scalar.muli (Scalar.subi (BitVec.ofNat 32 t) 1#32) 2#32)).toNat
def rbN (h : ℕ) : ℕ := (Scalar.indexCast (Scalar.muli (BitVec.ofNat 32 h) 128#32)).toNat
def xoN (h n : ℕ) : ℕ := (Scalar.indexCast (Scalar.addi (Scalar.muli (BitVec.ofNat 32 h) 4608#32) (BitVec.ofNat 32 n))).toNat
def soN (h n : ℕ) : ℕ := (Scalar.indexCast (Scalar.addi (Scalar.muli (BitVec.ofNat 32 h) 36#32) (BitVec.ofNat 32 n))).toNat

theorem kpN_eq (t : Fin 29) (h : Fin 2) : kpN t.val h.val = min t.val 26 * 2 + h.val := by revert t h; decide +kernel
theorem keN_eq (t : Fin 29) (h : Fin 2) : keN t.val h.val = (t.val * 2 + h.val) - 4 := by revert t h; decide +kernel
theorem k1N_eq (t : Fin 29) (ht : 0 < t.val) : k1N t.val = (t.val - 1) * 2 := by revert t; decide +kernel
theorem rbN_eq (h : Fin 2) : rbN h.val = 128 * h.val := by revert h; decide +kernel
theorem xoN_eq (h : Fin 2) (c b : Fin 6) : xoN h.val (768 * c.val + 128 * b.val) = 4608 * h.val + 768 * c.val + 128 * b.val := by revert h c b; decide +kernel
theorem xoN_eq' (h : Fin 2) (c : Fin 6) : xoN h.val (768 * c.val) = 4608 * h.val + 768 * c.val := by revert h c; decide +kernel
theorem soN_eq (h : Fin 2) (c b : Fin 6) : soN h.val (6 * c.val + b.val) = 36 * h.val + 6 * c.val + b.val := by revert h c b; decide +kernel

/-- The rows of grid point `(t, h)`. -/
def pt (t : Fin 29) (h : Fin 2) : Pt where
  kp := kpN t.val h.val
  ke := keN t.val h.val
  rb := rbN h.val
  xo c := xoN h.val (768 * c.val)
  so c b := soN h.val (6 * c.val + b.val)
  lo c b := xoN h.val (768 * c.val + 128 * b.val)
  hkp := by rw [kpN_eq]; omega
  hke := by rw [keN_eq]; omega
  hrb := by rw [rbN_eq]; omega
  hrb4 := by rw [rbN_eq]; omega
  hxo c := by rw [xoN_eq']; omega
  hso c b := by rw [soN_eq]; omega
  hlo c b := by rw [xoN_eq]; omega

theorem hk1 (t : Fin 29) (ht : 0 < t.val) (ht' : t.val < 28) : k1N t.val + 2 ≤ 54 := by rw [k1N_eq t ht]; omega

end Cert.Proof.FlexRound
end
-- ==== Proof.KernelStep.lean ====
/-
  The printed body of `Kernel` is the body's programs of loads and stores, the transfer's start before them at the
  first grid point and its wait after them at the second.
-/
module

public import proofs.«01_k».proof.Kernel
public import proofs.«01_k».proof.Proof.Gen.Kernel
public import proofs.«01_k».proof.Proof.Body

@[expose] public section

set_option maxRecDepth 100000
set_option maxHeartbeats 0

noncomputable section

namespace Cert.Kernel

open Facts₀ Facts Idealize.ShloMosaic Idealize.SL.Sem Cert.Proof.FlexRound

variable {F : FTy → Type} [FloatOps F]

/-- The body's vector-memory arguments as the buffers. -/
@[reducible] def refs (arg3 : Memref sig .tc .vmem S72x128 .f32) (arg4 : Memref sig .tc .vmem S128x2560 .f32) (arg5 : Memref sig .tc .vmem S128x2560 .f32)
    (arg6 : Memref sig .tc .vmem S54x128 .f32) (arg7 : Memref sig .tc .vmem S54x128 .f32) (arg8 : Memref sig .tc .vmem S1x2560 .f32)
    (arg9 : Memref sig .tc .vmem S4608x256 .bf16) (arg10 : Memref sig .tc .vmem S128x2560 .f32) (arg11 : Memref sig .tc .vmem S128x1280 .i8)
    (arg12 : Memref sig .tc .vmem S72x128 .f32) (arg13 : Memref sig .tc .vmem S54x128 .f32) (arg14 : Memref sig .tc .vmem S54x128 .f32)
    (arg15 : Memref sig .tc .vmem S1x2560 .f32) (arg16 : Memref sig .tc .vmem S9216x2560 .fp8e4m3) (arg17 : Memref sig .tc .vmem S256x2560 .fp8e4m3)
    (arg18 : Memref sig .tc .vmem S256x2560 .fp8e4m3) (arg19 : Memref sig .tc .vmem S256x2560 .f32) (arg20 : Memref sig .tc .vmem S256x2560 .f32)
    (arg21 : Memref sig .tc .vmem S256x2560 .f32) (arg22 : Memref sig .tc .vmem S256x2560 .f32) (arg23 : Memref sig .tc .vmem S9216x128 .f32)
    (arg24 : Memref sig .tc .vmem S8x2560 .f32) : Refs sig
  | .xs => arg3 | .w => arg4 | .s2 => arg5 | .s1 => arg6 | .r => arg7 | .c => arg8 | .y => arg9 | .ds2 => arg10 | .pk => arg11
  | .loss => arg12 | .dr => arg13 | .ds1 => arg14 | .dc => arg15 | .x => arg16 | .q false => arg17 | .q true => arg18
  | .z false => arg19 | .z true => arg20 | .g false => arg21 | .g true => arg22 | .la => arg23 | .da => arg24

theorem hk4 (i : grid0.Coords) (h : k0_cond4 i = 1#1) : k1N (i 0).val + 2 ≤ 54 := k0_off14_inb i h 0
theorem hk5 (i : grid0.Coords) (h : k0_cond5 i = 1#1) : k1N (i 0).val + 2 ≤ 54 := k0_off31_inb i h 0

/-- Whether the second grid coordinate is `b`, as the body computes it. -/
@[reducible] def second (i : grid0.Coords) (b : BitVec 32) : BitVec 1 :=
  Scalar.cmpi .ne (Scalar.extui (Scalar.cmpi .eq (BitVec.ofNat 32 (i 1).val) b) : BitVec 32) 0#32

/-- The body on buffers `M`, with what starts the transfer and what awaits it. -/
def bodyOf (M : Refs sig) (hM : ∀ b, (M b).IsWhole) (i : grid0.Coords)
    (start wait : Prog (TpuEff nD τ sig (Elt F) Λ₀ .tc) PUnit) : Prog (TpuEff nD τ sig (Elt F) Λ₀ .tc) PUnit :=
  if h1 : k0_cond1 i = 1#1 then
    if h2 : second i 0#32 = 1#1 then start >>= fun _ => toProg M hM (clear >>= fun _ => proAll false (pt (i 0) (i 1)))
    else if h3 : second i 1#32 = 1#1 then toProg M hM (proAll false (pt (i 0) (i 1))) >>= fun _ => wait
    else toProg M hM (proAll false (pt (i 0) (i 1)))
  else if h4 : k0_cond4 i = 1#1 then toProg M hM (step false true (pt (i 0) (i 1)) (k1N (i 0).val) (hk4 i h4))
  else if h5 : k0_cond5 i = 1#1 then toProg M hM (step true false (pt (i 0) (i 1)) (k1N (i 0).val) (hk5 i h5))
  else if h6 : k0_cond6 i = 1#1 then
    if h7 : k0_cond7 i = 1#1 then toProg M hM (epiAll false (pt (i 0) (i 1)) >>= fun _ => last)
    else toProg M hM (epiAll false (pt (i 0) (i 1)))
  else pure ⟨⟩

theorem cond_first : ∀ i : grid0.Coords, k0_cond1 i = 1#1 → k0_cond4 i ≠ 1#1 ∧ k0_cond5 i ≠ 1#1 ∧ k0_cond6 i ≠ 1#1 := by decide +kernel
theorem cond_even : ∀ i : grid0.Coords, k0_cond4 i = 1#1 → k0_cond5 i ≠ 1#1 ∧ k0_cond6 i ≠ 1#1 := by decide +kernel
theorem cond_odd : ∀ i : grid0.Coords, k0_cond5 i = 1#1 → k0_cond6 i ≠ 1#1 := by decide +kernel
theorem second_not : ∀ i : grid0.Coords, second i 0#32 = 1#1 → second i 1#32 ≠ 1#1 := by decide +kernel

/-- The printed body is the body's programs. -/
theorem body_eq (i : grid0.Coords)
    (arg2 : Memref sig .tc .hbm S9216x2560 .fp8e4m3) (harg2 : arg2.IsWhole)
    (arg3 : Memref sig .tc .vmem S72x128 .f32) (harg3 : arg3.IsWhole)
    (arg4 : Memref sig .tc .vmem S128x2560 .f32) (harg4 : arg4.IsWhole)
    (arg5 : Memref sig .tc .vmem S128x2560 .f32) (harg5 : arg5.IsWhole)
    (arg6 : Memref sig .tc .vmem S54x128 .f32) (harg6 : arg6.IsWhole)
    (arg7 : Memref sig .tc .vmem S54x128 .f32) (harg7 : arg7.IsWhole)
    (arg8 : Memref sig .tc .vmem S1x2560 .f32) (harg8 : arg8.IsWhole)
    (arg9 : Memref sig .tc .vmem S4608x256 .bf16) (harg9 : arg9.IsWhole)
    (arg10 : Memref sig .tc .vmem S128x2560 .f32) (harg10 : arg10.IsWhole)
    (arg11 : Memref sig .tc .vmem S128x1280 .i8) (harg11 : arg11.IsWhole)
    (arg12 : Memref sig .tc .vmem S72x128 .f32) (harg12 : arg12.IsWhole)
    (arg13 : Memref sig .tc .vmem S54x128 .f32) (harg13 : arg13.IsWhole)
    (arg14 : Memref sig .tc .vmem S54x128 .f32) (harg14 : arg14.IsWhole)
    (arg15 : Memref sig .tc .vmem S1x2560 .f32) (harg15 : arg15.IsWhole)
    (arg16 : Memref sig .tc .vmem S9216x2560 .fp8e4m3) (harg16 : arg16.IsWhole)
    (arg17 : Memref sig .tc .vmem S256x2560 .fp8e4m3) (harg17 : arg17.IsWhole)
    (arg18 : Memref sig .tc .vmem S256x2560 .fp8e4m3) (harg18 : arg18.IsWhole)
    (arg19 : Memref sig .tc .vmem S256x2560 .f32) (harg19 : arg19.IsWhole)
    (arg20 : Memref sig .tc .vmem S256x2560 .f32) (harg20 : arg20.IsWhole)
    (arg21 : Memref sig .tc .vmem S256x2560 .f32) (harg21 : arg21.IsWhole)
    (arg22 : Memref sig .tc .vmem S256x2560 .f32) (harg22 : arg22.IsWhole)
    (arg23 : Memref sig .tc .vmem S9216x128 .f32) (harg23 : arg23.IsWhole)
    (arg24 : Memref sig .tc .vmem S8x2560 .f32) (harg24 : arg24.IsWhole)
    (arg25 : DmaSems sig S_)
    (hM : ∀ b, (refs arg3 arg4 arg5 arg6 arg7 arg8 arg9 arg10 arg11 arg12 arg13 arg14 arg15 arg16 arg17 arg18 arg19 arg20 arg21 arg22 arg23 arg24 b).IsWhole) :
    cc0_flexround_step (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25
      = bodyOf (refs arg3 arg4 arg5 arg6 arg7 arg8 arg9 arg10 arg11 arg12 arg13 arg14 arg15 arg16 arg17 arg18 arg19 arg20 arg21 arg22 arg23 arg24) hM i
        (Prog.lift (.enqueueDma arg2 (.here arg16) (.dma arg25.sem) harg2.wordExact harg16.wordExact ⟨Or.inl rfl, trivial⟩))
        (Prog.lift (.waitDma2 arg25.sem arg2 arg16 harg2.wordExact harg16.wordExact)) := by
  by_cases h1 : k0_cond1 i = 1#1
  · have h4 := (cond_first i h1).1
    have h5 := (cond_first i h1).2.1
    have h6 := (cond_first i h1).2.2
    unfold cc0_flexround_step k0_part186 bodyOf
    simp only [dif_pos h1, dif_neg h4, dif_neg h5, dif_neg h6, bind_assoc, pure_bind]
    unfold k0_part1 k0_part18
    by_cases h2 : second i 0#32 = 1#1
    · have h3 := second_not i h2
      simp only [dif_pos h2, dif_neg h3, bind_assoc, pure_bind]
      rfl
    · simp only [dif_neg h2, bind_assoc, pure_bind]
      by_cases h3 : second i 1#32 = 1#1
      · simp only [dif_pos h3, bind_assoc, pure_bind]
        rfl
      · simp only [dif_neg h3, bind_assoc, pure_bind]
        rfl
  · delta cc0_flexround_step k0_part186 bodyOf
    generalize instDecidableEqBitVec (k0_cond1 i) 1#1 = d1
    generalize instDecidableEqBitVec (k0_cond4 i) 1#1 = d4
    generalize instDecidableEqBitVec (k0_cond5 i) 1#1 = d5
    generalize instDecidableEqBitVec (k0_cond6 i) 1#1 = d6
    generalize instDecidableEqBitVec (k0_cond7 i) 1#1 = d7
    match d1 with
    | .isTrue h => exact absurd h h1
    | .isFalse _ =>
      match d4 with
      | .isTrue h4 =>
        match d5, d6 with
        | .isTrue h, _ => exact absurd h (cond_even i h4).1
        | .isFalse _, .isTrue h => exact absurd h (cond_even i h4).2
        | .isFalse _, .isFalse _ => rfl
      | .isFalse _ =>
        match d5 with
        | .isTrue h5 =>
          match d6 with
          | .isTrue h => exact absurd h (cond_odd i h5)
          | .isFalse _ => rfl
        | .isFalse _ =>
          match d6 with
          | .isTrue h6 =>
            match d7 with
            | .isTrue _ => rfl
            | .isFalse _ => rfl
          | .isFalse _ => rfl

end Cert.Kernel
end
-- ==== Proof.Touch.lean ====
/-
  Which buffers the body's programs load and store: none of them stores to a staged input or to the token codes, and the
  programs of the first two grid points do not touch the codes' buffer at all.
-/
module

public import proofs.«01_k».proof.Proof.Body

@[expose] public section

noncomputable section

namespace Cert.Proof.FlexRound

open Idealize.ShloMosaic Idealize.SL.Sem

variable {F : FTy → Type} [FloatOps F]

/-- The outputs' and the scratch buffers but the codes': what the body stores to. -/
abbrev outs : Finset Bf := {.ds2, .pk, .loss, .dr, .ds1, .dc, .q false, .q true, .z false, .z true, .g false, .g true, .la, .da}

/-- Every buffer but the codes'. -/
abbrev noX : Finset Bf := Finset.univ.erase .x

theorem outs_noX : outs ⊆ noX := by decide

variable {S T : Finset Bf}

theorem Only_ld {b : Bf} {r : Rect b.shp} {h : 0 < r.shape.numel} (hb : b ∈ S) : Only S T (ld (F := F) b r h) := ⟨hb, fun _ => trivial⟩
theorem Only_st {b : Bf} {r : Rect b.shp} {v : r.shape.Idx → Elt F b.elt} {h : 0 < r.shape.numel} {hp : b.elt.bits = 32} (hb : b ∈ T) :
    Only S T (st b r v h hp) := ⟨hb, fun _ => trivial⟩
theorem Only_store {b : Bf} {r : Rect b.shp} {v : r.shape.Idx → Elt F b.elt} {h : 0 < r.shape.numel}
    {hp : b.elt.bits = 32 ∨ r.PackedRows b.elt.packing} (hb : b ∈ T) : Only S T (Prog.lift (Cmd.store b r v h hp)) := ⟨hb, fun _ => trivial⟩
theorem Only_pure {α : Type} (a : α) : Only (F := F) S T (pure a) := trivial

theorem Only_each {ι : Type} (l : List ι) {f : ι → Acc F PUnit} (h : ∀ i, Only S T (f i)) : Only S T (each l f) := by
  induction l with
  | nil => trivial
  | cons i l ih => exact Only_bind (h i) fun _ => ih

theorem Only_thread {ι σ : Type} (l : List ι) {f : ι → σ → Acc F σ} (h : ∀ i a, Only S T (f i a)) (a : σ) : Only S T (thread l f a) := by
  induction l generalizing a with
  | nil => trivial
  | cons i l ih => exact Only_bind (h i a) fun _ => ih _

theorem Only_proPart (p : Bool) (rb : ℕ) (hrb) (h4) (s1c rc : A F 128 256) (i : Fin 10) :
    Only {.s2, .c, .w, .z p, .q p, .pk} {.z p, .q p, .pk} (proPart p rb hrb h4 s1c rc i) := by
  unfold proPart
  repeat' (first | refine Only_bind ?_ (fun _ => ?_) | apply Only_ld | apply Only_store)
  all_goals cases p <;> decide

theorem Only_proAll (p : Bool) (P : Pt) :
    Only {.s1, .r, .s2, .c, .w, .z p, .q p, .pk} {.z p, .q p, .pk} (proAll (F := F) p P) := by
  unfold proAll
  refine Only_bind (Only_ld (by cases p <;> decide)) fun _ => Only_bind (Only_ld (by cases p <;> decide)) fun _ => Only_each _ fun i => ?_
  exact Only_mono (by cases p <;> decide) subset_rfl (Only_proPart ..)

theorem Only_epiPart (p : Bool) (rb : ℕ) (hrb) (ns1 : A F 128 256) (i : Fin 10) (a) :
    Only {.z p, .q p, .g p, .ds2, .da} {.g p, .ds2, .da} (epiPart p rb hrb ns1 i a) := by
  unfold epiPart
  repeat' (first | refine Only_bind ?_ (fun _ => ?_) | apply Only_ld | apply Only_store | apply Only_pure)
  all_goals cases p <;> decide

theorem Only_epiEnd (k : ℕ) (hk) (a) : Only {.dr, .ds1} {.dr, .ds1} (epiEnd (F := F) k hk a) := by
  unfold epiEnd
  repeat' (first | refine Only_bind ?_ (fun _ => ?_) | apply Only_ld | apply Only_store | apply Only_pure)
  all_goals decide

theorem Only_epiAll (p : Bool) (P : Pt) :
    Only {.s1, .z p, .q p, .g p, .ds2, .da, .dr, .ds1} {.g p, .ds2, .da, .dr, .ds1} (epiAll (F := F) p P) := by
  unfold epiAll
  refine Only_bind (Only_ld (by cases p <;> decide)) fun _ => Only_bind (Only_thread _ (fun i a => ?_) _) fun _ => ?_
  · exact Only_mono (by cases p <;> decide) (by cases p <;> decide) (Only_epiPart ..)
  · exact Only_mono (by cases p <;> decide) (by cases p <;> decide) (Only_epiEnd ..)

theorem Only_fwd (m : Bool) (P : Pt) (c : Fin 6) : Only {.x, .q m} T (fwd (F := F) m P c) := by
  unfold fwd
  repeat' (first | refine Only_bind ?_ (fun _ => ?_) | apply Only_ld | apply Only_pure)
  all_goals cases m <;> decide

theorem Only_resid1 (P : Pt) (srow : A F 1 256) (c : Fin 6) (acc) (b : Fin 6) : Only {.xs, .y, .la} {.la} (resid1 P srow c acc b) := by
  unfold resid1
  repeat' (first | refine Only_bind ?_ (fun _ => ?_) | apply Only_ld | apply Only_st | apply Only_pure)
  all_goals decide

theorem Only_resid (P : Pt) (srow : A F 1 256) (c : Fin 6) (acc) : Only {.xs, .y, .la} {.la} (resid P srow c acc) := by
  unfold resid
  repeat' (first | exact Only_resid1 .. | exact Only_pure _ | refine Only_bind ?_ (fun _ => ?_))

theorem Only_bwd1 (m : Bool) (P : Pt) (c : Fin 6) (e) (i : Fin 10) : Only {.x, .g m} {.g m} (bwd1 (F := F) m P c e i) := by
  unfold bwd1
  refine Only_bind (Only_ld (by cases m <;> decide)) fun _ => Only_bind ⟨by cases m <;> decide, fun _ => trivial⟩ fun _ => ?_
  exact Only_bind (Only_ld (by cases m <;> decide)) fun _ => Only_st (by cases m <;> decide)

/-- What a middle grid point stores to. -/
abbrev stepOuts (p m : Bool) : Finset Bf := {.z p, .q p, .pk, .g p, .ds2, .da, .dr, .ds1, .la, .g m}

theorem Only_side (p : Bool) (P : Pt) (ns1 s1c rc : A F 128 256) (l) (a) :
    Only {.s2, .c, .w, .z p, .q p, .pk, .g p, .ds2, .da} {.z p, .q p, .pk, .g p, .ds2, .da} (side p P ns1 s1c rc l a) := by
  unfold side
  refine Only_thread _ (fun i a => Only_bind ?_ fun _ => Only_bind ?_ fun _ => Only_pure _) _
  · exact Only_mono (by cases p <;> decide) (by cases p <;> decide) (Only_epiPart ..)
  · exact Only_mono (by cases p <;> decide) (by cases p <;> decide) (Only_proPart ..)

theorem Only_chunk (p m : Bool) (P : Pt) (ns1 s1c rc : A F 128 256) (srow) (c c') (l) (s) :
    Only Finset.univ (stepOuts p m) (chunk p m P ns1 s1c rc srow c c' l s) := by
  unfold chunk
  refine Only_bind ?_ fun _ => Only_bind (Only_each _ fun i => ?_) fun _ => Only_bind ?_ fun _ => Only_bind ?_ fun _ => Only_pure _
  · exact Only_mono (Finset.subset_univ _) (subset_rfl) (Only_fwd ..)
  · exact Only_mono (Finset.subset_univ _) (by cases p <;> cases m <;> decide) (Only_bwd1 ..)
  · exact Only_mono (Finset.subset_univ _) (by cases p <;> cases m <;> decide) (Only_side ..)
  · exact Only_mono (Finset.subset_univ _) (by cases p <;> cases m <;> decide) (Only_resid ..)

theorem Only_step (p m : Bool) (P : Pt) (k1 : ℕ) (hk1) : Only Finset.univ (stepOuts p m) (step (F := F) p m P k1 hk1) := by
  unfold step
  refine Only_bind (Only_ld (Finset.mem_univ _)) fun _ => Only_bind (Only_ld (Finset.mem_univ _)) fun _ =>
    Only_bind (Only_ld (Finset.mem_univ _)) fun _ => Only_bind (Only_ld (Finset.mem_univ _)) fun _ => Only_bind ?_ fun _ => Only_bind ?_ fun _ =>
    Only_bind (Only_chunk ..) fun _ => Only_bind (Only_chunk ..) fun _ => Only_bind (Only_chunk ..) fun _ => Only_bind (Only_chunk ..) fun _ =>
    Only_bind (Only_chunk ..) fun _ => Only_bind (Only_each _ fun i => ?_) fun _ => Only_bind ?_ fun _ => ?_
  · exact Only_mono (Finset.subset_univ _) (subset_rfl) (Only_fwd ..)
  · exact Only_mono (Finset.subset_univ _) (by cases p <;> cases m <;> decide) (Only_resid ..)
  · exact Only_mono (Finset.subset_univ _) (by cases p <;> cases m <;> decide) (Only_bwd1 ..)
  · exact Only_mono (Finset.subset_univ _) (by cases p <;> cases m <;> decide) (Only_side ..)
  · exact Only_mono (Finset.subset_univ _) (by cases p <;> cases m <;> decide) (Only_epiEnd ..)

theorem Only_last : Only {.la, .da, .dc, .loss} {.dc, .loss} (last (F := F)) := by
  unfold last
  refine Only_bind (Only_ld (by decide)) fun _ => Only_bind (Only_ld (by decide)) fun _ => Only_bind (Only_st (by decide)) fun _ =>
    Only_each _ fun a => Only_each _ fun b => ?_
  unfold loss1
  exact Only_bind (Only_ld (by decide)) fun _ => Only_bind (Only_ld (by decide)) fun _ => Only_st (by decide)

theorem Only_clear : Only {.z false, .g false, .z true, .g true, .q true, .la, .da} {.z false, .g false, .z true, .g true, .q true, .la, .da} (clear (F := F)) := by
  unfold clear
  repeat' (first | refine Only_bind ?_ (fun _ => ?_) | apply Only_ld | apply Only_store)
  all_goals decide

end Cert.Proof.FlexRound
end
-- ==== Proof.KernelPoint.lean ====
/-
  The launch of `Kernel`: the body's programs carried from grid point to grid point by an invariant of the scratch buffers'
  contents, the transfer of the token codes in flight between the first two points; and, for any such invariant, what every
  final state holds.
-/
module

public import proofs.«01_k».proof.Proof.KernelStep
public import proofs.«01_k».proof.Proof.Touch
public import proofs.«01_k».proof.Proof.Gen.Kernel.Frame
public import Idealize.ShloMosaic.Lib.Pipeline.FrameSuffixR
public import Idealize.ShloMosaic.Lib.Transfers

@[expose] public section

set_option maxRecDepth 100000
set_option maxHeartbeats 1000000

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)
open Cert.Proof.FlexRound hiding own
open Facts₀ Facts

variable {F : FTy → Type} [FloatOps F]

abbrev UU : Type := Pipeline.UD sig nD τ

local notation "𝕄" => MT nD τ sig Unit (Elt F) ℕ UU ℕ

/-! ## The body's program at a grid point -/

/-- The loads and stores at a grid point. -/
def progOf (i : grid0.Coords) : Acc F PUnit :=
  if h1 : k0_cond1 i = 1#1 then
    if h2 : second i 0#32 = 1#1 then clear >>= fun _ => proAll false (pt (i 0) (i 1)) else proAll false (pt (i 0) (i 1))
  else if h4 : k0_cond4 i = 1#1 then step false true (pt (i 0) (i 1)) (k1N (i 0).val) (hk4 i h4)
  else if h5 : k0_cond5 i = 1#1 then step true false (pt (i 0) (i 1)) (k1N (i 0).val) (hk5 i h5)
  else if h6 : k0_cond6 i = 1#1 then
    if h7 : k0_cond7 i = 1#1 then epiAll false (pt (i 0) (i 1)) >>= fun _ => last else epiAll false (pt (i 0) (i 1))
  else pure ⟨⟩

theorem step_outs (p m : Bool) : stepOuts p m ⊆ outs := by cases p <;> cases m <;> decide

theorem Only_progOf (i : grid0.Coords) : Only Finset.univ outs (progOf (F := F) i) := by
  unfold progOf
  split_ifs
  · exact Only_bind (Only_mono (Finset.subset_univ _) (by decide) Only_clear) fun _ => Only_mono (Finset.subset_univ _) (by decide) (Only_proAll ..)
  · exact Only_mono (Finset.subset_univ _) (by decide) (Only_proAll ..)
  · exact Only_mono (Finset.subset_univ _) (step_outs _ _) (Only_step ..)
  · exact Only_mono (Finset.subset_univ _) (step_outs _ _) (Only_step ..)
  · exact Only_bind (Only_mono (Finset.subset_univ _) (by decide) (Only_epiAll ..)) fun _ => Only_mono (Finset.subset_univ _) (by decide) Only_last
  · exact Only_mono (Finset.subset_univ _) (by decide) (Only_epiAll ..)
  · trivial

theorem Only_progOf_first (i : grid0.Coords) (h1 : k0_cond1 i = 1#1) : Only noX outs (progOf (F := F) i) := by
  unfold progOf
  rw [dif_pos h1]
  split_ifs
  · exact Only_bind (Only_mono (by decide) (by decide) Only_clear) fun _ => Only_mono (by decide) (by decide) (Only_proAll ..)
  · exact Only_mono (by decide) (by decide) (Only_proAll ..)

theorem point0 : ∀ t : Fin cfg0.N, t.val = 0 → k0_cond1 (grid0.coords t) = 1#1 ∧ second (grid0.coords t) 0#32 = 1#1 := by decide +kernel
theorem point1 : ∀ t : Fin cfg0.N, t.val = 1 → k0_cond1 (grid0.coords t) = 1#1 ∧ second (grid0.coords t) 0#32 ≠ 1#1
    ∧ second (grid0.coords t) 1#32 = 1#1 := by decide +kernel
theorem point2 : ∀ t : Fin cfg0.N, t.val ≠ 0 → t.val ≠ 1 → k0_cond1 (grid0.coords t) ≠ 1#1 := by decide +kernel

variable (M : Refs sig) (hM : ∀ b, (M b).IsWhole) (start wait : Prog (TpuEff nD τ sig (Elt F) Λ₀ .tc) PUnit)

theorem body0 (t : Fin cfg0.N) (ht : t.val = 0) :
    bodyOf M hM (grid0.coords t) start wait = start >>= fun _ => toProg M hM (progOf (grid0.coords t)) := by
  unfold bodyOf progOf
  rw [dif_pos (point0 t ht).1, dif_pos (point0 t ht).1, dif_pos (point0 t ht).2, dif_pos (point0 t ht).2]

theorem body1 (t : Fin cfg0.N) (ht : t.val = 1) :
    bodyOf M hM (grid0.coords t) start wait = toProg M hM (progOf (grid0.coords t)) >>= fun _ => wait := by
  unfold bodyOf progOf
  rw [dif_pos (point1 t ht).1, dif_pos (point1 t ht).1, dif_neg (point1 t ht).2.1, dif_neg (point1 t ht).2.1, dif_pos (point1 t ht).2.2]

theorem body2 (t : Fin cfg0.N) (h0 : t.val ≠ 0) (h1 : t.val ≠ 1) :
    bodyOf M hM (grid0.coords t) start wait = toProg M hM (progOf (grid0.coords t)) := by
  unfold bodyOf progOf
  rw [dif_neg (point2 t h0 h1), dif_neg (point2 t h0 h1)]
  split_ifs <;> rfl

/-! ## The buffers -/

/-- The buffers at a grid point: the windows' current staging buffers and the scratch. -/
abbrev refsAt (t : Fin cfg0.N) : Refs sig :=
  refs (win0_0.stage (cfg0.slots t 0)) (win0_1.stage (cfg0.slots t 1)) (win0_2.stage (cfg0.slots t 2)) (win0_3.stage (cfg0.slots t 3))
    (win0_4.stage (cfg0.slots t 4)) (win0_5.stage (cfg0.slots t 5)) (win0_6.stage (cfg0.slots t 6)) (win0_7.stage (cfg0.slots t 7))
    (win0_8.stage (cfg0.slots t 8)) (win0_9.stage (cfg0.slots t 9)) (win0_10.stage (cfg0.slots t 10)) (win0_11.stage (cfg0.slots t 11))
    (win0_12.stage (cfg0.slots t 12)) (Memref.whole cc0_scratch0) (Memref.whole cc0_scratch1) (Memref.whole cc0_scratch2)
    (Memref.whole cc0_scratch3) (Memref.whole cc0_scratch4) (Memref.whole cc0_scratch5) (Memref.whole cc0_scratch6)
    (Memref.whole cc0_scratch7) (Memref.whole cc0_scratch8)

theorem refsAt_whole (t : Fin cfg0.N) : ∀ b, (refsAt t b).IsWhole
  | .xs => hstage0_0 ((cfg0.slots t 0).cast nbuf0_0) | .w => hstage0_1 ((cfg0.slots t 1).cast nbuf0_1)
  | .s2 => hstage0_2 ((cfg0.slots t 2).cast nbuf0_2) | .s1 => hstage0_3 ((cfg0.slots t 3).cast nbuf0_3)
  | .r => hstage0_4 ((cfg0.slots t 4).cast nbuf0_4) | .c => hstage0_5 ((cfg0.slots t 5).cast nbuf0_5)
  | .y => hstage0_6 ((cfg0.slots t 6).cast nbuf0_6) | .ds2 => hstage0_7 ((cfg0.slots t 7).cast nbuf0_7)
  | .pk => hstage0_8 ((cfg0.slots t 8).cast nbuf0_8) | .loss => hstage0_9 ((cfg0.slots t 9).cast nbuf0_9)
  | .dr => hstage0_10 ((cfg0.slots t 10).cast nbuf0_10) | .ds1 => hstage0_11 ((cfg0.slots t 11).cast nbuf0_11)
  | .dc => hstage0_12 ((cfg0.slots t 12).cast nbuf0_12)
  | .x => Memref.isWhole_whole _ | .q false => Memref.isWhole_whole _ | .q true => Memref.isWhole_whole _
  | .z false => Memref.isWhole_whole _ | .z true => Memref.isWhole_whole _ | .g false => Memref.isWhole_whole _
  | .g true => Memref.isWhole_whole _ | .la => Memref.isWhole_whole _ | .da => Memref.isWhole_whole _

/-- The contents of the windows' staging buffers. -/
abbrev Stg (F : FTy → Type) : Type := (w : Fin cfg0.W) → (cfg0.win w).block.Idx → Elt F (cfg0.win w).elt

/-- The windows' contents and the scratch's, as the buffers' contents. -/
def mix (Y : Stg F) (s : St F) : St F
  | .xs => Y 0 | .w => Y 1 | .s2 => Y 2 | .s1 => Y 3 | .r => Y 4 | .c => Y 5 | .y => Y 6 | .ds2 => Y 7 | .pk => Y 8 | .loss => Y 9
  | .dr => Y 10 | .ds1 => Y 11 | .dc => Y 12
  | .x => s .x | .q p => s (.q p) | .z p => s (.z p) | .g p => s (.g p) | .la => s .la | .da => s .da

/-- A relation of what a buffer holds before and after a grid point. -/
abbrev Rel (F : FTy → Type) : Type := (t : ℕ) → (b : Bf) → (Y X : b.shp.Idx → Elt F b.elt) → Prop

/-- The same read at a window. -/
def afterOf (R : Rel F) : (w : Fin cfg0.W) → Fin cfg0.N → (Y X : (cfg0.win w).block.Idx → Elt F (cfg0.win w).elt) → Prop
  | ⟨0, _⟩, t => R t.val .xs | ⟨1, _⟩, t => R t.val .w | ⟨2, _⟩, t => R t.val .s2 | ⟨3, _⟩, t => R t.val .s1 | ⟨4, _⟩, t => R t.val .r
  | ⟨5, _⟩, t => R t.val .c | ⟨6, _⟩, t => R t.val .y | ⟨7, _⟩, t => R t.val .ds2 | ⟨8, _⟩, t => R t.val .pk | ⟨9, _⟩, t => R t.val .loss
  | ⟨10, _⟩, t => R t.val .dr | ⟨11, _⟩, t => R t.val .ds1 | ⟨12, _⟩, t => R t.val .dc

variable (m : (ℓ : Loc nD τ sig) → Buf (Elt F) ℓ)

/-- The token codes, as the transfer reads them. -/
abbrev codes (c : Dev nD) : (Sh 9216 2560).Idx → Elt F .fp8e4m3 := Gen.V m c main_v0

/-- The scratch buffers but the codes'. -/
def scr (c : Dev nD) (s : St F) : sProp 𝕄 :=
  iprop(owns (c : Thread nD τ) (Memref.whole cc0_scratch1) fullShare (s (.q false)) ∗ owns (c : Thread nD τ) (Memref.whole cc0_scratch2) fullShare (s (.q true))
    ∗ owns (c : Thread nD τ) (Memref.whole cc0_scratch3) fullShare (s (.z false)) ∗ owns (c : Thread nD τ) (Memref.whole cc0_scratch4) fullShare (s (.z true))
    ∗ owns (c : Thread nD τ) (Memref.whole cc0_scratch5) fullShare (s (.g false)) ∗ owns (c : Thread nD τ) (Memref.whole cc0_scratch6) fullShare (s (.g true))
    ∗ owns (c : Thread nD τ) (Memref.whole cc0_scratch7) fullShare (s .la) ∗ owns (c : Thread nD τ) (Memref.whole cc0_scratch8) fullShare (s .da))

/-- The semaphore of the transfer. -/
abbrev xsem : SemLoc sig := .dma cc0_scratch9.sem

/-- The codes' array and buffer and the semaphore at rest. -/
def xRest (c : Dev nD) (s : St F) : sProp 𝕄 :=
  iprop(owns (c : Thread nD τ) (Memref.whole cc0_scratch0) fullShare (s .x) ∗ semVal ((c : Thread nD τ), xsem) 0
    ∗ ((c : Thread nD τ).loc main_v0) ↦{fullShare} Gen.V m c main_v0)

/-- The transfer in flight. -/
def xFlight (c : Dev nD) : sProp 𝕄 :=
  Transfers.Flight countersEmb (c : Thread nD τ) xsem () ((Memref.whole cc0_scratch0).view.dmaCredit)
    iprop(owns (c : Thread nD τ) (Memref.whole cc0_scratch0) fullShare (codes m c) ∗ ((c : Thread nD τ).loc main_v0) ↦{fullShare} Gen.V m c main_v0)

/-- The invariant between grid points: the scratch at contents the given invariant has, the transfer in flight before the second. -/
def PhiOf (I : Dev nD → ℕ → St F → Prop) (c : Dev nD) (t : ℕ) : sProp 𝕄 :=
  iprop(∃ s, ⌜I c t s⌝ ∗ scr c s ∗ (∃ r, prngReg c r) ∗ if t = 1 then xFlight m c else xRest m c s)

/-- The launch's proof data, of an invariant of the scratch and a relation of the windows' contents. -/
def rdatOf (I : Dev nD → ℕ → St F → Prop) (R : Dev nD → Rel F) (c : Dev nD) : RDat τ (Elt F) Unit ℕ UU ℕ cfg0 c where
  A w := Gen.V m c (Pipeline.arrRef spec0 w)
  after := afterOf (R c)
  Φ t := PhiOf m I c t.val
  q _ := fullShare
  owed _ := 0

/-- The windows' buffers. -/
abbrev wins : List Bf := [.xs, .w, .s2, .s1, .r, .c, .y, .ds2, .pk, .loss, .dr, .ds1, .dc]
/-- The scratch buffers but the codes'. -/
abbrev scrs : List Bf := [.q false, .q true, .z false, .z true, .g false, .g true, .la, .da]

end Cert.Kernel
-- ==== Proof.KernelFrame.lean ====
/-
  The launch of `Kernel`: the body's programs carried from grid point to grid point by an invariant of the scratch buffers'
  contents, the transfer of the token codes in flight between the first two points; and, for any such invariant, what every
  final state holds.
-/
module

public import proofs.«01_k».proof.Proof.KernelPoint
public import proofs.«01_k».proof.Proof.Touch
public import proofs.«01_k».proof.Proof.Gen.Kernel.Frame
public import Idealize.ShloMosaic.Lib.Pipeline.FrameSuffixR
public import Idealize.ShloMosaic.Lib.Transfers
public import Idealize.ShloMosaic.Lib.Pipeline.BigSepL

@[expose] public section

set_option maxRecDepth 100000
set_option maxHeartbeats 1000000

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)
open Cert.Proof.FlexRound hiding own
open Facts₀ Facts

variable {F : FTy → Type} [FloatOps F]

local notation "𝕄" => MT nD τ sig Unit (Elt F) ℕ UU ℕ

/-- The windows' buffers in the windows' order. -/
def bfOf : Fin 13 → Bf := ![.xs, .w, .s2, .s1, .r, .c, .y, .ds2, .pk, .loss, .dr, .ds1, .dc]

/-- The buffers but the codes' are the windows' and the scratch. -/
theorem bigSep_noX (Φ : Bf → sProp 𝕄) : bigSep noX Φ = iprop(bigSep Finset.univ (fun w : Fin 13 => Φ (bfOf w))
    ∗ Φ (.q false) ∗ Φ (.q true) ∗ Φ (.z false) ∗ Φ (.z true) ∗ Φ (.g false) ∗ Φ (.g true) ∗ Φ .la ∗ Φ .da) := by
  rw [bigSep_eq_bigSepL_of_eq ([.xs, .w, .s2, .s1, .r, .c, .y, .ds2, .pk, .loss, .dr, .ds1, .dc] ++ [.q false, .q true, .z false, .z true,
    .g false, .g true, .la, .da]) (by decide) (by decide), bigSepL_append, Gen.bigSep_W0]
  rfl

/-- All the buffers are the codes' and the others. -/
theorem own_univ (c : Dev nD) (M : Refs sig) (s : St F) :
    (Cert.Proof.FlexRound.own Finset.univ M c s : sProp 𝕄) = iprop(owns (c : Thread nD τ) (M .x) fullShare (s .x) ∗ Cert.Proof.FlexRound.own noX M c s) := by
  unfold Cert.Proof.FlexRound.own; exact bigSep_erase (Finset.mem_univ _)

theorem own_stage (c : Dev nD) (t : Fin cfg0.N) (Y : Stg F) (s : St F) : ∀ w : Fin 13,
    (owns (c : Thread nD τ) ((cfg0.win w).stage (cfg0.slots t w)) fullShare (Y w) : sProp 𝕄)
      ⊢ owns (c : Thread nD τ) (refsAt t (bfOf w)) fullShare (mix Y s (bfOf w))
  | ⟨0, _⟩ => .rfl
  | ⟨1, _⟩ => .rfl
  | ⟨2, _⟩ => .rfl
  | ⟨3, _⟩ => .rfl
  | ⟨4, _⟩ => .rfl
  | ⟨5, _⟩ => .rfl
  | ⟨6, _⟩ => .rfl
  | ⟨7, _⟩ => .rfl
  | ⟨8, _⟩ => .rfl
  | ⟨9, _⟩ => .rfl
  | ⟨10, _⟩ => .rfl
  | ⟨11, _⟩ => .rfl
  | ⟨12, _⟩ => .rfl

theorem own_stages (c : Dev nD) (t : Fin cfg0.N) (Y : Stg F) (s : St F) :
    (bigSep Finset.univ (fun w => owns (c : Thread nD τ) ((cfg0.win w).stage (cfg0.slots t w)) fullShare (Y w)) : sProp 𝕄)
      ⊢ bigSep Finset.univ (fun w : Fin 13 => owns (c : Thread nD τ) (refsAt t (bfOf w)) fullShare (mix Y s (bfOf w))) :=
  bigSep_mono fun w _ => own_stage c t Y s w

theorem gather (c : Dev nD) (t : Fin cfg0.N) (Y : Stg F) (s : St F) :
    iprop(scr c s ∗ bigSep Finset.univ (fun w => owns (c : Thread nD τ) ((cfg0.win w).stage (cfg0.slots t w)) fullShare (Y w)))
      ⊢ (Cert.Proof.FlexRound.own noX (refsAt t) c (mix Y s) : sProp 𝕄) := by
  unfold Cert.Proof.FlexRound.own
  rw [bigSep_noX]
  iintro ⟨Hs, Hw⟩
  isplitl [Hw]
  · iapply (own_stages c t Y s) $$ Hw
  · unfold scr; iexact Hs

theorem aft {sh : Shape} {e : EltTy} (c : Dev nD) (m : Memref sig .tc .vmem sh e) {P : (sh.Idx → Elt F e) → Prop} {X : sh.Idx → Elt F e} (h : P X) :
    (owns (c : Thread nD τ) m fullShare X : sProp 𝕄) ⊢ iprop(∃ X, ⌜P X⌝ ∗ owns (c : Thread nD τ) m fullShare X) := by
  iintro H; iexists X; isplitr; · ipureintro; exact h
  iexact H

theorem own_after (c : Dev nD) (t : Fin cfg0.N) (Y : Stg F) (s s' : St F) (R : Rel F) (hR : ∀ b, R t.val b (mix Y s b) (s' b)) : ∀ w : Fin 13,
    (owns (c : Thread nD τ) (refsAt t (bfOf w)) fullShare (s' (bfOf w)) : sProp 𝕄)
      ⊢ iprop(∃ X, ⌜afterOf R w t (Y w) X⌝ ∗ owns (c : Thread nD τ) ((cfg0.win w).stage (cfg0.slots t w)) fullShare X)
  | ⟨0, _⟩ => aft c _ (hR .xs)
  | ⟨1, _⟩ => aft c _ (hR .w)
  | ⟨2, _⟩ => aft c _ (hR .s2)
  | ⟨3, _⟩ => aft c _ (hR .s1)
  | ⟨4, _⟩ => aft c _ (hR .r)
  | ⟨5, _⟩ => aft c _ (hR .c)
  | ⟨6, _⟩ => aft c _ (hR .y)
  | ⟨7, _⟩ => aft c _ (hR .ds2)
  | ⟨8, _⟩ => aft c _ (hR .pk)
  | ⟨9, _⟩ => aft c _ (hR .loss)
  | ⟨10, _⟩ => aft c _ (hR .dr)
  | ⟨11, _⟩ => aft c _ (hR .ds1)
  | ⟨12, _⟩ => aft c _ (hR .dc)

theorem own_afters (c : Dev nD) (t : Fin cfg0.N) (Y : Stg F) (s s' : St F) (R : Rel F) (hR : ∀ b, R t.val b (mix Y s b) (s' b)) :
    (bigSep Finset.univ (fun w : Fin 13 => owns (c : Thread nD τ) (refsAt t (bfOf w)) fullShare (s' (bfOf w))) : sProp 𝕄)
      ⊢ bigSep Finset.univ (fun w => iprop(∃ X, ⌜afterOf R w t (Y w) X⌝
        ∗ owns (c : Thread nD τ) ((cfg0.win w).stage (cfg0.slots t w)) fullShare X)) :=
  bigSep_mono fun w _ => own_after c t Y s s' R hR w

theorem scatter (c : Dev nD) (t : Fin cfg0.N) (Y : Stg F) (s s' : St F) (R : Rel F) (hR : ∀ b, R t.val b (mix Y s b) (s' b)) :
    (Cert.Proof.FlexRound.own noX (refsAt t) c s' : sProp 𝕄) ⊢ iprop(scr c s' ∗ bigSep Finset.univ (fun w => iprop(∃ X, ⌜afterOf R w t (Y w) X⌝
      ∗ owns (c : Thread nD τ) ((cfg0.win w).stage (cfg0.slots t w)) fullShare X))) := by
  unfold Cert.Proof.FlexRound.own
  rw [bigSep_noX]
  iintro ⟨Hw, Hs⟩
  isplitl [Hs]
  · unfold scr; iexact Hs
  · iapply (own_afters c t Y s s' R hR) $$ Hw
variable (m : (ℓ : Loc nD τ sig) → Buf (Elt F) ℓ)

theorem defs₀_row (t : Fin cfg0.N) : defs₀ (F := F) .tc cfg0.body (cfg0.bodyArgs t (cfg0.slots t)) = Gen.bodyAt0 t := by
  unfold defs₀; rw [Defs.onTc_tc]

/-! ## The body's obligation -/

/-- The scratch after a grid point's program, from windows at `Y` and scratch at `s`. -/
def nextOf (t : Fin cfg0.N) (Y : Stg F) (s : St F) : St F := (run (progOf (F := F) (grid0.coords t)) (mix Y s)).2

/-- What an invariant and a relation must satisfy: each grid point's program keeps them; what the first point leaves in the codes'
    buffer is anything, what the second leaves there is the codes. -/
structure Keeps (I : Dev nD → ℕ → St F → Prop) (R : Dev nD → Rel F) : Prop where
  zero : ∀ c s, I c 0 s
  rel : ∀ c t Y s, (∀ w, (rdatOf m I R c).Finds w t (Y w)) → I c t.val s → ∀ b, R c t.val b (mix Y s b) (nextOf t Y s b)
  first : ∀ c (t : Fin cfg0.N) Y s, (∀ w, (rdatOf m I R c).Finds w t (Y w)) → t.val = 0 → I c 1 (nextOf t Y s)
  second : ∀ c (t : Fin cfg0.N) Y s, (∀ w, (rdatOf m I R c).Finds w t (Y w)) → t.val = 1 → I c 1 s →
    I c 2 (Function.update (nextOf t Y s) .x (codes m c))
  later : ∀ c (t : Fin cfg0.N) Y s, (∀ w, (rdatOf m I R c).Finds w t (Y w)) → t.val ≠ 0 → t.val ≠ 1 → I c t.val s →
    I c (t.val + 1) (nextOf t Y s)

theorem credit_pos : 0 < (Memref.whole (sig := sig) (κ := .tc) cc0_scratch0).view.dmaCredit := by decide +kernel

variable {m} {I : Dev nD → ℕ → St F → Prop} {R : Dev nD → Rel F}

theorem scr_update (c : Dev nD) (s : St F) (x) : (scr c (Function.update s .x x) : sProp 𝕄) = scr c s := rfl

/-- What starts the transfer. -/
def startP : Prog (TpuEff nD τ sig (Elt F) Λ₀ .tc) PUnit :=
  Prog.lift (.enqueueDma (Memref.whole main_v0) (.here (Memref.whole cc0_scratch0)) xsem (Memref.isWhole_whole main_v0).wordExact
    (Memref.isWhole_whole cc0_scratch0).wordExact ⟨Or.inl rfl, trivial⟩)

/-- What awaits it. -/
def waitP : Prog (TpuEff nD τ sig (Elt F) Λ₀ .tc) PUnit :=
  Prog.lift (.waitDma2 cc0_scratch9.sem (Memref.whole main_v0) (Memref.whole cc0_scratch0) (Memref.isWhole_whole main_v0).wordExact
    (Memref.isWhole_whole cc0_scratch0).wordExact)

/-- The transfer started: the codes' array and buffer and the semaphore go into it. -/
theorem wp_start (c : Dev nD) (s : St F) {α : Type} (k : PUnit → Prog (TpuEff nD τ sig (Elt F) Λ₀ .tc) α) (Q : α → sProp 𝕄) :
    iprop(xRest m c s ∗ (xFlight m c -∗ wp frame (wpE (defs₀ (F := F)) Variants.none (c : Thread nD τ) none) Set.univ (k ⟨⟩) Q))
      ⊢ wp frame (wpE (defs₀ (F := F)) Variants.none (c : Thread nD τ) none) Set.univ (startP >>= k) Q := by
  unfold xRest
  rw [owns_whole]
  iintro ⟨⟨Hx, Hsem, Hv⟩, Hk⟩
  iapply (Transfers.wp_dmaLocal countersEmb Variants.none (c : Thread nD τ) none (src := Memref.whole main_v0) (dst := Memref.whole cc0_scratch0)
    (via := .same) (sm := xsem) (Sd := Finset.univ) (fs := Gen.V m c main_v0) (fd := s .x) (q := fullShare) (k := k) () (Memref.whole cc0_scratch0).view.dmaCredit rfl credit_pos
    (Finset.subset_univ _)) $$ [Hv Hx Hsem]
  · isplitl [Hv]
    · simp only [Memref.view_whole, View.set_whole]; iexact Hv
    isplitl [Hx]; · iexact Hx
    iexact Hsem
  iintro HF
  iapply Hk
  unfold xFlight
  iapply (Transfers.Flight_mono countersEmb (c : Thread nD τ) ?_) $$ HF
  rw [owns_whole]
  simp only [Memref.view_whole, View.set_whole, View.write_whole_univ]
  exact .rfl

/-- The transfer awaited. -/
theorem wp_await (c : Dev nD) (W) (Q : PUnit → sProp 𝕄) (s : St F) (hs : s .x = codes m c) :
    iprop(xFlight m c ∗ owes (c : Thread nD τ) 0 W ∗ (iprop(xRest m c s ∗ ∃ W, owes (c : Thread nD τ) 0 W) -∗ Q ⟨⟩))
      ⊢ wp frame (wpE (defs₀ (F := F)) Variants.none (c : Thread nD τ) none) Set.univ waitP Q := by
  unfold xFlight waitP
  iintro ⟨HF, HO, Hk⟩
  iapply (Transfers.wp_waitLocal countersEmb Variants.none (c : Thread nD τ) none (N := (Memref.whole cc0_scratch0).view.dmaCredit) () rfl) $$ [HF HO]
  · isplitl [HF]; · iexact HF
    iexact HO
  iintro ⟨⟨Hx, Hv⟩, Hsem, HO⟩
  sl_step
  iapply Hk
  unfold xRest
  rw [hs]
  isplitl [Hx Hv Hsem]
  · isplitl [Hx]; · iexact Hx
    isplitl [Hsem]; · iexact Hsem
    iexact Hv
  iexists _; iexact HO

theorem PhiOf_one (c : Dev nD) {t : ℕ} (ht : t = 1) :
    PhiOf m I c t = iprop(∃ s, ⌜I c 1 s⌝ ∗ scr c s ∗ (∃ r, prngReg c r) ∗ xFlight m c) := by
  subst ht; unfold PhiOf; simp only [if_true]

theorem PhiOf_ne (c : Dev nD) {t : ℕ} (ht : t ≠ 1) :
    PhiOf m I c t = iprop(∃ s, ⌜I c t s⌝ ∗ scr c s ∗ (∃ r, prngReg c r) ∗ xRest m c s) := by
  unfold PhiOf; simp only [if_neg ht]

/-- What a grid point's program is given. -/
def Pre (m : (ℓ : Loc nD τ sig) → Buf (Elt F) ℓ) (I : Dev nD → ℕ → St F → Prop) (c : Dev nD) (t : Fin cfg0.N) (Y : Stg F) : sProp 𝕄 :=
  iprop(PhiOf m I c t.val ∗ (∃ W, owes (c : Thread nD τ) 0 W)
    ∗ bigSep Finset.univ (fun w => owns (c : Thread nD τ) ((cfg0.win w).stage (cfg0.slots t w)) fullShare (Y w)))

/-- What it gives back. -/
def Post (m : (ℓ : Loc nD τ sig) → Buf (Elt F) ℓ) (I : Dev nD → ℕ → St F → Prop) (R : Dev nD → Rel F) (c : Dev nD) (t : Fin cfg0.N) (Y : Stg F) : sProp 𝕄 :=
  iprop(PhiOf m I c (t.val + 1) ∗ (∃ W, owes (c : Thread nD τ) 0 W) ∗ bigSep Finset.univ (fun w => iprop(∃ X, ⌜afterOf (R c) w t (Y w) X⌝
    ∗ owns (c : Thread nD τ) ((cfg0.win w).stage (cfg0.slots t w)) fullShare X)))

theorem wp_next (c : Dev nD) (t : Fin cfg0.N) (Y : Stg F) (s : St F) {S : Finset Bf} (hS : outs ⊆ S)
    (hp : Only S outs (progOf (F := F) (grid0.coords t))) (Q : PUnit → sProp 𝕄) :
    iprop(Cert.Proof.FlexRound.own S (refsAt t) c (mix Y s) ∗ (Cert.Proof.FlexRound.own S (refsAt t) c (nextOf t Y s) -∗ Q ⟨⟩))
      ⊢ wp frame (wpE (defs₀ (F := F)) Variants.none (c : Thread nD τ) none) Set.univ
        (toProg (refsAt t) (refsAt_whole t) (progOf (grid0.coords t))) Q :=
  wp_toProg hS (refsAt t) (refsAt_whole t) c Variants.none Set.univ _ hp (mix Y s) Q

theorem wp_point0 (K : Keeps m I R) (c : Dev nD) (t : Fin cfg0.N) (Y : Stg F) (hY : ∀ w, (rdatOf m I R c).Finds w t (Y w)) (h0 : t.val = 0) :
    Pre m I c t Y ⊢ wp frame (wpE (defs₀ (F := F)) Variants.none (c : Thread nD τ) none) Set.univ
      (startP >>= fun _ => toProg (refsAt t) (refsAt_whole t) (progOf (grid0.coords t))) (fun _ => Post m I R c t Y) := by
  unfold Pre Post
  rw [PhiOf_ne c (show t.val ≠ 1 by omega), PhiOf_one c (show t.val + 1 = 1 by omega)]
  iintro ⟨⟨%s, %hI, Hs, Hp, Hx⟩, HO, Hw⟩
  ihave Hown := (gather c t Y s) $$ [Hs Hw]
  · isplitl [Hs] <;> iassumption
  iapply (wp_start c s)
  isplitl [Hx]; · iexact Hx
  iintro HF
  iapply (wp_next c t Y s outs_noX (Only_progOf_first _ (point0 t h0).1))
  isplitl [Hown]; · iexact Hown
  iintro Hown
  ihave H := (scatter c t Y s _ (R c) (K.rel c t Y s hY hI)) $$ Hown
  icases H with ⟨Hs, Hw⟩
  isplitl [Hs Hp HF]
  · iexists (nextOf t Y s)
    isplitr; · ipureintro; exact K.first c t Y s hY h0
    isplitl [Hs]; · iexact Hs
    isplitl [Hp]; · iexact Hp
    iexact HF
  isplitl [HO]; · iexact HO
  iexact Hw

theorem wp_point1 (K : Keeps m I R) (c : Dev nD) (t : Fin cfg0.N) (Y : Stg F) (hY : ∀ w, (rdatOf m I R c).Finds w t (Y w)) (h1 : t.val = 1) :
    Pre m I c t Y ⊢ wp frame (wpE (defs₀ (F := F)) Variants.none (c : Thread nD τ) none) Set.univ
      (toProg (refsAt t) (refsAt_whole t) (progOf (grid0.coords t)) >>= fun _ => waitP) (fun _ => Post m I R c t Y) := by
  unfold Pre Post
  rw [PhiOf_one c h1, PhiOf_ne c (show t.val + 1 ≠ 1 by omega), wp_bind]
  iintro ⟨⟨%s, %hI, Hs, Hp, HF⟩, ⟨%W, HO⟩, Hw⟩
  ihave Hown := (gather c t Y s) $$ [Hs Hw]
  · isplitl [Hs] <;> iassumption
  iapply (wp_next c t Y s outs_noX (Only_progOf_first _ (point1 t h1).1))
  isplitl [Hown]; · iexact Hown
  iintro Hown
  ihave H := (scatter c t Y s _ (R c) (K.rel c t Y s hY (h1 ▸ hI))) $$ Hown
  icases H with ⟨Hs, Hw⟩
  iapply (wp_await c W _ (Function.update (nextOf t Y s) .x (codes m c)) (Function.update_self ..))
  isplitl [HF]; · iexact HF
  isplitl [HO]; · iexact HO
  iintro ⟨Hx, HO⟩
  isplitl [Hs Hp Hx]
  · iexists (Function.update (nextOf t Y s) .x (codes m c))
    isplitr; · ipureintro; rw [h1]; exact K.second c t Y s hY h1 hI
    rw [scr_update]
    isplitl [Hs]; · iexact Hs
    isplitl [Hp]; · iexact Hp
    iexact Hx
  isplitl [HO]; · iexact HO
  iexact Hw

theorem wp_point2 (K : Keeps m I R) (c : Dev nD) (t : Fin cfg0.N) (Y : Stg F) (hY : ∀ w, (rdatOf m I R c).Finds w t (Y w))
    (h0 : t.val ≠ 0) (h1 : t.val ≠ 1) :
    Pre m I c t Y ⊢ wp frame (wpE (defs₀ (F := F)) Variants.none (c : Thread nD τ) none) Set.univ
      (toProg (refsAt t) (refsAt_whole t) (progOf (grid0.coords t))) (fun _ => Post m I R c t Y) := by
  unfold Pre Post
  rw [PhiOf_ne c h1, PhiOf_ne c (show t.val + 1 ≠ 1 by omega)]
  unfold xRest
  iintro ⟨⟨%s, %hI, Hs, Hp, Hx, Hsem, Hv⟩, HO, Hw⟩
  ihave Hown := (gather c t Y s) $$ [Hs Hw]
  · isplitl [Hs] <;> iassumption
  iapply (wp_next c t Y s (Finset.subset_univ _) (Only_progOf _))
  rw [own_univ, own_univ]
  isplitl [Hown Hx]
  · isplitl [Hx]; · iexact Hx
    iexact Hown
  iintro ⟨Hx, Hown⟩
  ihave H := (scatter c t Y s _ (R c) (K.rel c t Y s hY hI)) $$ Hown
  icases H with ⟨Hs, Hw⟩
  isplitl [Hs Hp Hx Hsem Hv]
  · iexists (nextOf t Y s)
    isplitr; · ipureintro; exact K.later c t Y s hY h0 h1 hI
    isplitl [Hs]; · iexact Hs
    isplitl [Hp]; · iexact Hp
    isplitl [Hx]; · iexact Hx
    isplitl [Hsem]; · iexact Hsem
    iexact Hv
  isplitl [HO]; · iexact HO
  iexact Hw

/-- The body at a grid point, read as loads and stores and the transfer. -/
theorem bodyAt_eq (t : Fin cfg0.N) :
    Gen.bodyAt0 (F := F) t = bodyOf (refsAt t) (refsAt_whole t) (grid0.coords t) startP waitP :=
  body_eq (F := F) (grid0.coords t) (Memref.whole main_v0) (Memref.isWhole_whole _)
    (win0_0.stage (cfg0.slots t 0)) (refsAt_whole t .xs) (win0_1.stage (cfg0.slots t 1)) (refsAt_whole t .w)
    (win0_2.stage (cfg0.slots t 2)) (refsAt_whole t .s2) (win0_3.stage (cfg0.slots t 3)) (refsAt_whole t .s1)
    (win0_4.stage (cfg0.slots t 4)) (refsAt_whole t .r) (win0_5.stage (cfg0.slots t 5)) (refsAt_whole t .c)
    (win0_6.stage (cfg0.slots t 6)) (refsAt_whole t .y) (win0_7.stage (cfg0.slots t 7)) (refsAt_whole t .ds2)
    (win0_8.stage (cfg0.slots t 8)) (refsAt_whole t .pk) (win0_9.stage (cfg0.slots t 9)) (refsAt_whole t .loss)
    (win0_10.stage (cfg0.slots t 10)) (refsAt_whole t .dr) (win0_11.stage (cfg0.slots t 11)) (refsAt_whole t .ds1)
    (win0_12.stage (cfg0.slots t 12)) (refsAt_whole t .dc) (Memref.whole cc0_scratch0) (refsAt_whole t .x)
    (Memref.whole cc0_scratch1) (refsAt_whole t (.q false)) (Memref.whole cc0_scratch2) (refsAt_whole t (.q true))
    (Memref.whole cc0_scratch3) (refsAt_whole t (.z false)) (Memref.whole cc0_scratch4) (refsAt_whole t (.z true))
    (Memref.whole cc0_scratch5) (refsAt_whole t (.g false)) (Memref.whole cc0_scratch6) (refsAt_whole t (.g true))
    (Memref.whole cc0_scratch7) (refsAt_whole t .la) (Memref.whole cc0_scratch8) (refsAt_whole t .da) cc0_scratch9 (refsAt_whole t)

/-- The body's obligation to the launch. -/
theorem obligation (K : Keeps m I R) (c : Dev nD) : (rdatOf m I R c).BodyObligation (defs₀ (F := F)) Variants.none () Set.univ := by
  intro t Y hY
  rw [defs₀_row, bodyAt_eq]
  have key : Pre m I c t Y ⊢ wp frame (wpE (defs₀ (F := F)) Variants.none (c : Thread nD τ) none) Set.univ
      (bodyOf (refsAt t) (refsAt_whole t) (grid0.coords t) startP waitP) (fun _ => Post m I R c t Y) := by
    by_cases h0 : t.val = 0
    · rw [body0 _ _ _ _ t h0]; exact wp_point0 K c t Y hY h0
    by_cases h1 : t.val = 1
    · rw [body1 _ _ _ _ t h1]; exact wp_point1 K c t Y hY h1
    rw [body2 _ _ _ _ t h0 h1]; exact wp_point2 K c t Y hY h0 h1
  refine BIBase.Entails.trans ?_ (key.trans (Idealize.SL.Sem.wp_mono _ _ _ fun _ => ?_))
  · unfold Pre
    show iprop(PhiOf m I c t.val ∗ _) ⊢ _
    iintro ⟨H, ⟨%W, %hW, HO⟩, Hw⟩
    isplitl [H]; · iexact H
    isplitl [HO]; · iexists W; iexact HO
    iexact Hw
  · unfold Post
    show _ ⊢ iprop(PhiOf m I c (t.val + 1) ∗ _)
    iintro ⟨H, ⟨%W, HO⟩, Hw⟩
    isplitl [H]; · iexact H
    isplitl [HO]
    · iexists W
      isplitr; · ipureintro; exact fun _ _ => Or.inl trivial
      iexact HO
    iexact Hw

end Cert.Kernel
-- ==== Proof.KernelRun.lean ====
/-
  The launch of `Kernel`: the body's programs carried from grid point to grid point by an invariant of the scratch buffers'
  contents, the transfer of the token codes in flight between the first two points; and, for any such invariant, what every
  final state holds.
-/
module

public import proofs.«01_k».proof.Proof.KernelFrame
public import proofs.«01_k».proof.Proof.Touch
public import proofs.«01_k».proof.Proof.Gen.Kernel.Frame
public import Idealize.ShloMosaic.Lib.Pipeline.Frame
public import Idealize.ShloMosaic.Lib.Transfers
public import Idealize.ShloMosaic.Lib.Pipeline.BigSepL

@[expose] public section

set_option maxRecDepth 100000
set_option maxHeartbeats 1000000

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)
open Cert.Proof.FlexRound hiding own
open Facts₀ Facts

variable {F : FTy → Type} [FloatOps F]

local notation "𝕄" => MT nD τ sig Unit (Elt F) ℕ UU ℕ

variable (m : (ℓ : Loc nD τ sig) → Buf (Elt F) ℓ)

/-- The transfer's semaphore is the launch's only own one. -/
abbrev osem : Fin 1 → SemLoc sig := fun _ => xsem

theorem ownSemFacts : Pipeline.OwnSemFacts spec0 osem := by decide

/-- The array the transfer reads. -/
abbrev hset : Finset (Ref sig .tc) := {main_v0}

variable {m} {I : Dev nD → ℕ → St F → Prop} {R : Dev nD → Rel F}

/-- Contents of the scratch buffers, buffer by buffer. -/
def stOf (x : (Sh 9216 2560).Idx → Elt F .fp8e4m3) (q0 q1 : (Sh 256 2560).Idx → Elt F .fp8e4m3) (z0 z1 g0 g1 : (Sh 256 2560).Idx → Elt F .f32)
    (la : (Sh 9216 128).Idx → Elt F .f32) (da : (Sh 8 2560).Idx → Elt F .f32) (s : St F) : St F
  | .x => x | .q false => q0 | .q true => q1 | .z false => z0 | .z true => z1 | .g false => g0 | .g true => g1 | .la => la | .da => da
  | b => s b

theorem enter (K : Keeps m I R) (c : Dev nD) (s : St F) :
    (Pipeline.ΦD osem spec0 hset (Gen.V m) c : sProp 𝕄) ⊢ PhiOf m I c 0 := by
  rw [PhiOf_ne c (by decide)]
  unfold Pipeline.ΦD xRest scr
  rw [Gen.scopedRest0_eq, Pipeline.ownSems0_eq_of_list c osem [0] (by decide) (by decide), bigSep_singleton, bigSepL_singleton]
  iintro ⟨⟨⟨%x, Hx⟩, ⟨%q0, Hq0⟩, ⟨%q1, Hq1⟩, ⟨%z0, Hz0⟩, ⟨%z1, Hz1⟩, ⟨%g0, Hg0⟩, ⟨%g1, Hg1⟩, ⟨%la, Hla⟩, ⟨%da, Hda⟩⟩, Hp, Hsem, Hv⟩
  iexists (stOf x q0 q1 z0 z1 g0 g1 la da s)
  simp only [owns_whole]
  isplitr; · ipureintro; exact K.zero c _
  isplitl [Hq0 Hq1 Hz0 Hz1 Hg0 Hg1 Hla Hda]
  · isplitl [Hq0]; · iexact Hq0
    isplitl [Hq1]; · iexact Hq1
    isplitl [Hz0]; · iexact Hz0
    isplitl [Hz1]; · iexact Hz1
    isplitl [Hg0]; · iexact Hg0
    isplitl [Hg1]; · iexact Hg1
    isplitl [Hla]; · iexact Hla
    iexact Hda
  isplitl [Hp]; · iexact Hp
  isplitl [Hx]; · iexact Hx
  isplitl [Hsem]; · iexact Hsem
  iexact Hv

theorem leave (c : Dev nD) (t : ℕ) (ht : t ≠ 1) :
    PhiOf m I c t ⊢ (Pipeline.ΦD osem spec0 hset (Gen.V m) c : sProp 𝕄) := by
  rw [PhiOf_ne c ht]
  unfold Pipeline.ΦD xRest scr
  rw [Gen.scopedRest0_eq, Pipeline.ownSems0_eq_of_list c osem [0] (by decide) (by decide), bigSep_singleton, bigSepL_singleton]
  simp only [owns_whole]
  iintro ⟨%s, %hI, ⟨Hq0, Hq1, Hz0, Hz1, Hg0, Hg1, Hla, Hda⟩, Hp, Hx, Hsem, Hv⟩
  isplitl [Hx Hq0 Hq1 Hz0 Hz1 Hg0 Hg1 Hla Hda]
  · isplitl [Hx]; · iexists _; iexact Hx
    isplitl [Hq0]; · iexists _; iexact Hq0
    isplitl [Hq1]; · iexists _; iexact Hq1
    isplitl [Hz0]; · iexists _; iexact Hz0
    isplitl [Hz1]; · iexists _; iexact Hz1
    isplitl [Hg0]; · iexists _; iexact Hg0
    isplitl [Hg1]; · iexists _; iexact Hg1
    isplitl [Hla]; · iexists _; iexact Hla
    iexists _; iexact Hda
  isplitl [Hp]; · iexact Hp
  isplitl [Hsem]; · iexact Hsem
  iexact Hv

/-- Every run ends, at rest, each window's array at contents its relation admits and every other array as the launch found it. -/
theorem runs (K : Keeps m I R) (g : Dev nD → PrngReg) :
    θ_run (defs (F := F)) (onTc (τ := τ) (main (F := F))) ⟨m, fun _ => 0, g⟩
      (fun r => RDat.FramePost cfg0 (rdatOf m I R) (Gen.V m) r ∧ r.2.sem = fun _ => 0) := by
  refine RDat.θ_run_frame_dma cfgs 0 Gen.launch0 osem defs₀ Variants.none (rdatOf m I R) ownSemFacts hset (by decide) m g main
    (obligation K) (fun c w => ?_) (fun c t => rfl) (Gen.V m)
    (Pipeline.hmain_prefix cfgs 0 defs₀ Variants.none m main Gen.hostOps0 Gen.hostOps0_sub Gen.hostOps0_fresh Gen.main_chain) (fun c w => rfl)
    (fun c => enter K c (fun b _ => Classical.choice inferInstance)) (fun c => leave c _ (by decide)) _ (fun _ h => h)
  show (if (cfg0.win w).isOut then fullShare else fullShare) = _
  split_ifs <;> rfl

/-- An argument the launch does not stage ends as it was. -/
theorem arg_rest {r : PUnit × MemSt nD τ sig (Elt F)} (h : RDat.FramePost cfg0 (rdatOf m I R) (Gen.V m) r) (c : Dev nD) {b : Ref sig .tc}
    (hb : b ∈ Pipeline.restRefs sig cfg0.spec) (hV : Gen.V m c b = m ((c : Thread nD τ).loc b)) :
    r.2.mem ((c : Thread nD τ).loc b) = m ((c : Thread nD τ).loc b) := ((h c).2 b hb).trans hV

/-- Every run ends with the arguments as they were. -/
theorem args_kept {r : PUnit × MemSt nD τ sig (Elt F)} (h : RDat.FramePost cfg0 (rdatOf m I R) (Gen.V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7) :=
  ⟨arg_rest h c (by decide) (Gen.V_main_arg0 m c), arg_rest h c (by decide) (Gen.V_main_arg1 m c),
    (RDat.FramePost.arr_in h c 1 rfl).trans (Gen.V_main_arg2 m c), arg_rest h c (by decide) (Gen.V_main_arg3 m c),
    (RDat.FramePost.arr_in h c 2 rfl).trans (Gen.V_main_arg4 m c), arg_rest h c (by decide) (Gen.V_main_arg5 m c),
    arg_rest h c (by decide) (Gen.V_main_arg6 m c), arg_rest h c (by decide) (Gen.V_main_arg7 m c)⟩

/-- With nothing said of the contents, the body keeps its obligation. -/
theorem keeps_any : Keeps m (fun _ _ _ => True) (fun _ _ _ _ _ => True) :=
  ⟨fun _ _ => trivial, fun _ _ _ _ _ _ _ => trivial, fun _ _ _ _ _ _ => trivial, fun _ _ _ _ _ _ _ => trivial,
    fun _ _ _ _ _ _ _ _ => trivial⟩

/-- Every run from any memory ends, with the arguments as they were and every semaphore at zero. -/
theorem quiescent (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) ∧ r.2.sem = fun _ => 0) :=
  (θ_run _ _ _).mono (fun _ h => ⟨fun c => args_kept h.1 c, h.2⟩) (runs keeps_any g)

end Cert.Kernel
-- ==== Proof.KernelIdealStep.lean ====
/-
  The printed body of `KernelIdeal` is the body's programs of loads and stores, the transfer's start before them at the
  first grid point and its wait after them at the second.
-/
module

public import proofs.«01_k».proof.KernelIdeal
public import proofs.«01_k».proof.Proof.Gen.KernelIdeal
public import proofs.«01_k».proof.Proof.Body

@[expose] public section

set_option maxRecDepth 100000
set_option maxHeartbeats 0

noncomputable section

namespace Cert.KernelIdeal

open Facts₀ Facts Idealize.ShloMosaic Idealize.SL.Sem Cert.Proof.FlexRound

variable {F : FTy → Type} [FloatOps F]

/-- The body's vector-memory arguments as the buffers. -/
@[reducible] def refs (arg3 : Memref sig .tc .vmem S72x128 .f32) (arg4 : Memref sig .tc .vmem S128x2560 .f32) (arg5 : Memref sig .tc .vmem S128x2560 .f32)
    (arg6 : Memref sig .tc .vmem S54x128 .f32) (arg7 : Memref sig .tc .vmem S54x128 .f32) (arg8 : Memref sig .tc .vmem S1x2560 .f32)
    (arg9 : Memref sig .tc .vmem S4608x256 .bf16) (arg10 : Memref sig .tc .vmem S128x2560 .f32) (arg11 : Memref sig .tc .vmem S128x1280 .i8)
    (arg12 : Memref sig .tc .vmem S72x128 .f32) (arg13 : Memref sig .tc .vmem S54x128 .f32) (arg14 : Memref sig .tc .vmem S54x128 .f32)
    (arg15 : Memref sig .tc .vmem S1x2560 .f32) (arg16 : Memref sig .tc .vmem S9216x2560 .fp8e4m3) (arg17 : Memref sig .tc .vmem S256x2560 .fp8e4m3)
    (arg18 : Memref sig .tc .vmem S256x2560 .fp8e4m3) (arg19 : Memref sig .tc .vmem S256x2560 .f32) (arg20 : Memref sig .tc .vmem S256x2560 .f32)
    (arg21 : Memref sig .tc .vmem S256x2560 .f32) (arg22 : Memref sig .tc .vmem S256x2560 .f32) (arg23 : Memref sig .tc .vmem S9216x128 .f32)
    (arg24 : Memref sig .tc .vmem S8x2560 .f32) : Refs sig
  | .xs => arg3 | .w => arg4 | .s2 => arg5 | .s1 => arg6 | .r => arg7 | .c => arg8 | .y => arg9 | .ds2 => arg10 | .pk => arg11
  | .loss => arg12 | .dr => arg13 | .ds1 => arg14 | .dc => arg15 | .x => arg16 | .q false => arg17 | .q true => arg18
  | .z false => arg19 | .z true => arg20 | .g false => arg21 | .g true => arg22 | .la => arg23 | .da => arg24

theorem hk4 (i : grid0.Coords) (h : k0_cond4 i = 1#1) : k1N (i 0).val + 2 ≤ 54 := k0_off14_inb i h 0
theorem hk5 (i : grid0.Coords) (h : k0_cond5 i = 1#1) : k1N (i 0).val + 2 ≤ 54 := k0_off31_inb i h 0

/-- Whether the second grid coordinate is `b`, as the body computes it. -/
@[reducible] def second (i : grid0.Coords) (b : BitVec 32) : BitVec 1 :=
  Scalar.cmpi .ne (Scalar.extui (Scalar.cmpi .eq (BitVec.ofNat 32 (i 1).val) b) : BitVec 32) 0#32

/-- The body on buffers `M`, with what starts the transfer and what awaits it. -/
def bodyOf (M : Refs sig) (hM : ∀ b, (M b).IsWhole) (i : grid0.Coords)
    (start wait : Prog (TpuEff nD τ sig (Elt F) Λ₀ .tc) PUnit) : Prog (TpuEff nD τ sig (Elt F) Λ₀ .tc) PUnit :=
  if h1 : k0_cond1 i = 1#1 then
    if h2 : second i 0#32 = 1#1 then start >>= fun _ => toProg M hM (clear >>= fun _ => proAll false (pt (i 0) (i 1)))
    else if h3 : second i 1#32 = 1#1 then toProg M hM (proAll false (pt (i 0) (i 1))) >>= fun _ => wait
    else toProg M hM (proAll false (pt (i 0) (i 1)))
  else if h4 : k0_cond4 i = 1#1 then toProg M hM (step false true (pt (i 0) (i 1)) (k1N (i 0).val) (hk4 i h4))
  else if h5 : k0_cond5 i = 1#1 then toProg M hM (step true false (pt (i 0) (i 1)) (k1N (i 0).val) (hk5 i h5))
  else if h6 : k0_cond6 i = 1#1 then
    if h7 : k0_cond7 i = 1#1 then toProg M hM (epiAll false (pt (i 0) (i 1)) >>= fun _ => last)
    else toProg M hM (epiAll false (pt (i 0) (i 1)))
  else pure ⟨⟩

theorem cond_first : ∀ i : grid0.Coords, k0_cond1 i = 1#1 → k0_cond4 i ≠ 1#1 ∧ k0_cond5 i ≠ 1#1 ∧ k0_cond6 i ≠ 1#1 := by decide +kernel
theorem cond_even : ∀ i : grid0.Coords, k0_cond4 i = 1#1 → k0_cond5 i ≠ 1#1 ∧ k0_cond6 i ≠ 1#1 := by decide +kernel
theorem cond_odd : ∀ i : grid0.Coords, k0_cond5 i = 1#1 → k0_cond6 i ≠ 1#1 := by decide +kernel
theorem second_not : ∀ i : grid0.Coords, second i 0#32 = 1#1 → second i 1#32 ≠ 1#1 := by decide +kernel

/-- The printed body is the body's programs. -/
theorem body_eq (i : grid0.Coords)
    (arg2 : Memref sig .tc .hbm S9216x2560 .fp8e4m3) (harg2 : arg2.IsWhole)
    (arg3 : Memref sig .tc .vmem S72x128 .f32) (harg3 : arg3.IsWhole)
    (arg4 : Memref sig .tc .vmem S128x2560 .f32) (harg4 : arg4.IsWhole)
    (arg5 : Memref sig .tc .vmem S128x2560 .f32) (harg5 : arg5.IsWhole)
    (arg6 : Memref sig .tc .vmem S54x128 .f32) (harg6 : arg6.IsWhole)
    (arg7 : Memref sig .tc .vmem S54x128 .f32) (harg7 : arg7.IsWhole)
    (arg8 : Memref sig .tc .vmem S1x2560 .f32) (harg8 : arg8.IsWhole)
    (arg9 : Memref sig .tc .vmem S4608x256 .bf16) (harg9 : arg9.IsWhole)
    (arg10 : Memref sig .tc .vmem S128x2560 .f32) (harg10 : arg10.IsWhole)
    (arg11 : Memref sig .tc .vmem S128x1280 .i8) (harg11 : arg11.IsWhole)
    (arg12 : Memref sig .tc .vmem S72x128 .f32) (harg12 : arg12.IsWhole)
    (arg13 : Memref sig .tc .vmem S54x128 .f32) (harg13 : arg13.IsWhole)
    (arg14 : Memref sig .tc .vmem S54x128 .f32) (harg14 : arg14.IsWhole)
    (arg15 : Memref sig .tc .vmem S1x2560 .f32) (harg15 : arg15.IsWhole)
    (arg16 : Memref sig .tc .vmem S9216x2560 .fp8e4m3) (harg16 : arg16.IsWhole)
    (arg17 : Memref sig .tc .vmem S256x2560 .fp8e4m3) (harg17 : arg17.IsWhole)
    (arg18 : Memref sig .tc .vmem S256x2560 .fp8e4m3) (harg18 : arg18.IsWhole)
    (arg19 : Memref sig .tc .vmem S256x2560 .f32) (harg19 : arg19.IsWhole)
    (arg20 : Memref sig .tc .vmem S256x2560 .f32) (harg20 : arg20.IsWhole)
    (arg21 : Memref sig .tc .vmem S256x2560 .f32) (harg21 : arg21.IsWhole)
    (arg22 : Memref sig .tc .vmem S256x2560 .f32) (harg22 : arg22.IsWhole)
    (arg23 : Memref sig .tc .vmem S9216x128 .f32) (harg23 : arg23.IsWhole)
    (arg24 : Memref sig .tc .vmem S8x2560 .f32) (harg24 : arg24.IsWhole)
    (arg25 : DmaSems sig S_)
    (hM : ∀ b, (refs arg3 arg4 arg5 arg6 arg7 arg8 arg9 arg10 arg11 arg12 arg13 arg14 arg15 arg16 arg17 arg18 arg19 arg20 arg21 arg22 arg23 arg24 b).IsWhole) :
    cc0_flexround_step (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25
      = bodyOf (refs arg3 arg4 arg5 arg6 arg7 arg8 arg9 arg10 arg11 arg12 arg13 arg14 arg15 arg16 arg17 arg18 arg19 arg20 arg21 arg22 arg23 arg24) hM i
        (Prog.lift (.enqueueDma arg2 (.here arg16) (.dma arg25.sem) harg2.wordExact harg16.wordExact ⟨Or.inl rfl, trivial⟩))
        (Prog.lift (.waitDma2 arg25.sem arg2 arg16 harg2.wordExact harg16.wordExact)) := by
  by_cases h1 : k0_cond1 i = 1#1
  · have h4 := (cond_first i h1).1
    have h5 := (cond_first i h1).2.1
    have h6 := (cond_first i h1).2.2
    unfold cc0_flexround_step k0_part186 bodyOf
    simp only [dif_pos h1, dif_neg h4, dif_neg h5, dif_neg h6, bind_assoc, pure_bind]
    unfold k0_part1 k0_part18
    by_cases h2 : second i 0#32 = 1#1
    · have h3 := second_not i h2
      simp only [dif_pos h2, dif_neg h3, bind_assoc, pure_bind]
      rfl
    · simp only [dif_neg h2, bind_assoc, pure_bind]
      by_cases h3 : second i 1#32 = 1#1
      · simp only [dif_pos h3, bind_assoc, pure_bind]
        rfl
      · simp only [dif_neg h3, bind_assoc, pure_bind]
        rfl
  · delta cc0_flexround_step k0_part186 bodyOf
    generalize instDecidableEqBitVec (k0_cond1 i) 1#1 = d1
    generalize instDecidableEqBitVec (k0_cond4 i) 1#1 = d4
    generalize instDecidableEqBitVec (k0_cond5 i) 1#1 = d5
    generalize instDecidableEqBitVec (k0_cond6 i) 1#1 = d6
    generalize instDecidableEqBitVec (k0_cond7 i) 1#1 = d7
    match d1 with
    | .isTrue h => exact absurd h h1
    | .isFalse _ =>
      match d4 with
      | .isTrue h4 =>
        match d5, d6 with
        | .isTrue h, _ => exact absurd h (cond_even i h4).1
        | .isFalse _, .isTrue h => exact absurd h (cond_even i h4).2
        | .isFalse _, .isFalse _ => rfl
      | .isFalse _ =>
        match d5 with
        | .isTrue h5 =>
          match d6 with
          | .isTrue h => exact absurd h (cond_odd i h5)
          | .isFalse _ => rfl
        | .isFalse _ =>
          match d6 with
          | .isTrue h6 =>
            match d7 with
            | .isTrue _ => rfl
            | .isFalse _ => rfl
          | .isFalse _ => rfl

end Cert.KernelIdeal
end
-- ==== Proof.KernelIdealPoint.lean ====
/-
  The launch of `KernelIdeal`: the body's programs carried from grid point to grid point by an invariant of the scratch buffers'
  contents, the transfer of the token codes in flight between the first two points; and, for any such invariant, what every
  final state holds.
-/
module

public import proofs.«01_k».proof.Proof.KernelIdealStep
public import proofs.«01_k».proof.Proof.Touch
public import proofs.«01_k».proof.Proof.Gen.KernelIdeal.Frame
public import Idealize.ShloMosaic.Lib.Pipeline.FrameSuffixR
public import Idealize.ShloMosaic.Lib.Transfers

@[expose] public section

set_option maxRecDepth 100000
set_option maxHeartbeats 1000000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)
open Cert.Proof.FlexRound hiding own
open Facts₀ Facts

variable {F : FTy → Type} [FloatOps F]

abbrev UU : Type := Pipeline.UD sig nD τ

local notation "𝕄" => MT nD τ sig Unit (Elt F) ℕ UU ℕ

/-! ## The body's program at a grid point -/

/-- The loads and stores at a grid point. -/
def progOf (i : grid0.Coords) : Acc F PUnit :=
  if h1 : k0_cond1 i = 1#1 then
    if h2 : second i 0#32 = 1#1 then clear >>= fun _ => proAll false (pt (i 0) (i 1)) else proAll false (pt (i 0) (i 1))
  else if h4 : k0_cond4 i = 1#1 then step false true (pt (i 0) (i 1)) (k1N (i 0).val) (hk4 i h4)
  else if h5 : k0_cond5 i = 1#1 then step true false (pt (i 0) (i 1)) (k1N (i 0).val) (hk5 i h5)
  else if h6 : k0_cond6 i = 1#1 then
    if h7 : k0_cond7 i = 1#1 then epiAll false (pt (i 0) (i 1)) >>= fun _ => last else epiAll false (pt (i 0) (i 1))
  else pure ⟨⟩

theorem step_outs (p m : Bool) : stepOuts p m ⊆ outs := by cases p <;> cases m <;> decide

theorem Only_progOf (i : grid0.Coords) : Only Finset.univ outs (progOf (F := F) i) := by
  unfold progOf
  split_ifs
  · exact Only_bind (Only_mono (Finset.subset_univ _) (by decide) Only_clear) fun _ => Only_mono (Finset.subset_univ _) (by decide) (Only_proAll ..)
  · exact Only_mono (Finset.subset_univ _) (by decide) (Only_proAll ..)
  · exact Only_mono (Finset.subset_univ _) (step_outs _ _) (Only_step ..)
  · exact Only_mono (Finset.subset_univ _) (step_outs _ _) (Only_step ..)
  · exact Only_bind (Only_mono (Finset.subset_univ _) (by decide) (Only_epiAll ..)) fun _ => Only_mono (Finset.subset_univ _) (by decide) Only_last
  · exact Only_mono (Finset.subset_univ _) (by decide) (Only_epiAll ..)
  · trivial

theorem Only_progOf_first (i : grid0.Coords) (h1 : k0_cond1 i = 1#1) : Only noX outs (progOf (F := F) i) := by
  unfold progOf
  rw [dif_pos h1]
  split_ifs
  · exact Only_bind (Only_mono (by decide) (by decide) Only_clear) fun _ => Only_mono (by decide) (by decide) (Only_proAll ..)
  · exact Only_mono (by decide) (by decide) (Only_proAll ..)

theorem point0 : ∀ t : Fin cfg0.N, t.val = 0 → k0_cond1 (grid0.coords t) = 1#1 ∧ second (grid0.coords t) 0#32 = 1#1 := by decide +kernel
theorem point1 : ∀ t : Fin cfg0.N, t.val = 1 → k0_cond1 (grid0.coords t) = 1#1 ∧ second (grid0.coords t) 0#32 ≠ 1#1
    ∧ second (grid0.coords t) 1#32 = 1#1 := by decide +kernel
theorem point2 : ∀ t : Fin cfg0.N, t.val ≠ 0 → t.val ≠ 1 → k0_cond1 (grid0.coords t) ≠ 1#1 := by decide +kernel

variable (M : Refs sig) (hM : ∀ b, (M b).IsWhole) (start wait : Prog (TpuEff nD τ sig (Elt F) Λ₀ .tc) PUnit)

theorem body0 (t : Fin cfg0.N) (ht : t.val = 0) :
    bodyOf M hM (grid0.coords t) start wait = start >>= fun _ => toProg M hM (progOf (grid0.coords t)) := by
  unfold bodyOf progOf
  rw [dif_pos (point0 t ht).1, dif_pos (point0 t ht).1, dif_pos (point0 t ht).2, dif_pos (point0 t ht).2]

theorem body1 (t : Fin cfg0.N) (ht : t.val = 1) :
    bodyOf M hM (grid0.coords t) start wait = toProg M hM (progOf (grid0.coords t)) >>= fun _ => wait := by
  unfold bodyOf progOf
  rw [dif_pos (point1 t ht).1, dif_pos (point1 t ht).1, dif_neg (point1 t ht).2.1, dif_neg (point1 t ht).2.1, dif_pos (point1 t ht).2.2]

theorem body2 (t : Fin cfg0.N) (h0 : t.val ≠ 0) (h1 : t.val ≠ 1) :
    bodyOf M hM (grid0.coords t) start wait = toProg M hM (progOf (grid0.coords t)) := by
  unfold bodyOf progOf
  rw [dif_neg (point2 t h0 h1), dif_neg (point2 t h0 h1)]
  split_ifs <;> rfl

/-! ## The buffers -/

/-- The buffers at a grid point: the windows' current staging buffers and the scratch. -/
abbrev refsAt (t : Fin cfg0.N) : Refs sig :=
  refs (win0_0.stage (cfg0.slots t 0)) (win0_1.stage (cfg0.slots t 1)) (win0_2.stage (cfg0.slots t 2)) (win0_3.stage (cfg0.slots t 3))
    (win0_4.stage (cfg0.slots t 4)) (win0_5.stage (cfg0.slots t 5)) (win0_6.stage (cfg0.slots t 6)) (win0_7.stage (cfg0.slots t 7))
    (win0_8.stage (cfg0.slots t 8)) (win0_9.stage (cfg0.slots t 9)) (win0_10.stage (cfg0.slots t 10)) (win0_11.stage (cfg0.slots t 11))
    (win0_12.stage (cfg0.slots t 12)) (Memref.whole cc0_scratch0) (Memref.whole cc0_scratch1) (Memref.whole cc0_scratch2)
    (Memref.whole cc0_scratch3) (Memref.whole cc0_scratch4) (Memref.whole cc0_scratch5) (Memref.whole cc0_scratch6)
    (Memref.whole cc0_scratch7) (Memref.whole cc0_scratch8)

theorem refsAt_whole (t : Fin cfg0.N) : ∀ b, (refsAt t b).IsWhole
  | .xs => hstage0_0 ((cfg0.slots t 0).cast nbuf0_0) | .w => hstage0_1 ((cfg0.slots t 1).cast nbuf0_1)
  | .s2 => hstage0_2 ((cfg0.slots t 2).cast nbuf0_2) | .s1 => hstage0_3 ((cfg0.slots t 3).cast nbuf0_3)
  | .r => hstage0_4 ((cfg0.slots t 4).cast nbuf0_4) | .c => hstage0_5 ((cfg0.slots t 5).cast nbuf0_5)
  | .y => hstage0_6 ((cfg0.slots t 6).cast nbuf0_6) | .ds2 => hstage0_7 ((cfg0.slots t 7).cast nbuf0_7)
  | .pk => hstage0_8 ((cfg0.slots t 8).cast nbuf0_8) | .loss => hstage0_9 ((cfg0.slots t 9).cast nbuf0_9)
  | .dr => hstage0_10 ((cfg0.slots t 10).cast nbuf0_10) | .ds1 => hstage0_11 ((cfg0.slots t 11).cast nbuf0_11)
  | .dc => hstage0_12 ((cfg0.slots t 12).cast nbuf0_12)
  | .x => Memref.isWhole_whole _ | .q false => Memref.isWhole_whole _ | .q true => Memref.isWhole_whole _
  | .z false => Memref.isWhole_whole _ | .z true => Memref.isWhole_whole _ | .g false => Memref.isWhole_whole _
  | .g true => Memref.isWhole_whole _ | .la => Memref.isWhole_whole _ | .da => Memref.isWhole_whole _

/-- The contents of the windows' staging buffers. -/
abbrev Stg (F : FTy → Type) : Type := (w : Fin cfg0.W) → (cfg0.win w).block.Idx → Elt F (cfg0.win w).elt

/-- The windows' contents and the scratch's, as the buffers' contents. -/
def mix (Y : Stg F) (s : St F) : St F
  | .xs => Y 0 | .w => Y 1 | .s2 => Y 2 | .s1 => Y 3 | .r => Y 4 | .c => Y 5 | .y => Y 6 | .ds2 => Y 7 | .pk => Y 8 | .loss => Y 9
  | .dr => Y 10 | .ds1 => Y 11 | .dc => Y 12
  | .x => s .x | .q p => s (.q p) | .z p => s (.z p) | .g p => s (.g p) | .la => s .la | .da => s .da

/-- A relation of what a buffer holds before and after a grid point. -/
abbrev Rel (F : FTy → Type) : Type := (t : ℕ) → (b : Bf) → (Y X : b.shp.Idx → Elt F b.elt) → Prop

/-- The same read at a window. -/
def afterOf (R : Rel F) : (w : Fin cfg0.W) → Fin cfg0.N → (Y X : (cfg0.win w).block.Idx → Elt F (cfg0.win w).elt) → Prop
  | ⟨0, _⟩, t => R t.val .xs | ⟨1, _⟩, t => R t.val .w | ⟨2, _⟩, t => R t.val .s2 | ⟨3, _⟩, t => R t.val .s1 | ⟨4, _⟩, t => R t.val .r
  | ⟨5, _⟩, t => R t.val .c | ⟨6, _⟩, t => R t.val .y | ⟨7, _⟩, t => R t.val .ds2 | ⟨8, _⟩, t => R t.val .pk | ⟨9, _⟩, t => R t.val .loss
  | ⟨10, _⟩, t => R t.val .dr | ⟨11, _⟩, t => R t.val .ds1 | ⟨12, _⟩, t => R t.val .dc

variable (m : (ℓ : Loc nD τ sig) → Buf (Elt F) ℓ)

/-- The token codes, as the transfer reads them. -/
abbrev codes (c : Dev nD) : (Sh 9216 2560).Idx → Elt F .fp8e4m3 := Gen.V m c main_v0

/-- The scratch buffers but the codes'. -/
def scr (c : Dev nD) (s : St F) : sProp 𝕄 :=
  iprop(owns (c : Thread nD τ) (Memref.whole cc0_scratch1) fullShare (s (.q false)) ∗ owns (c : Thread nD τ) (Memref.whole cc0_scratch2) fullShare (s (.q true))
    ∗ owns (c : Thread nD τ) (Memref.whole cc0_scratch3) fullShare (s (.z false)) ∗ owns (c : Thread nD τ) (Memref.whole cc0_scratch4) fullShare (s (.z true))
    ∗ owns (c : Thread nD τ) (Memref.whole cc0_scratch5) fullShare (s (.g false)) ∗ owns (c : Thread nD τ) (Memref.whole cc0_scratch6) fullShare (s (.g true))
    ∗ owns (c : Thread nD τ) (Memref.whole cc0_scratch7) fullShare (s .la) ∗ owns (c : Thread nD τ) (Memref.whole cc0_scratch8) fullShare (s .da))

/-- The semaphore of the transfer. -/
abbrev xsem : SemLoc sig := .dma cc0_scratch9.sem

/-- The codes' array and buffer and the semaphore at rest. -/
def xRest (c : Dev nD) (s : St F) : sProp 𝕄 :=
  iprop(owns (c : Thread nD τ) (Memref.whole cc0_scratch0) fullShare (s .x) ∗ semVal ((c : Thread nD τ), xsem) 0
    ∗ ((c : Thread nD τ).loc main_v0) ↦{fullShare} Gen.V m c main_v0)

/-- The transfer in flight. -/
def xFlight (c : Dev nD) : sProp 𝕄 :=
  Transfers.Flight countersEmb (c : Thread nD τ) xsem () ((Memref.whole cc0_scratch0).view.dmaCredit)
    iprop(owns (c : Thread nD τ) (Memref.whole cc0_scratch0) fullShare (codes m c) ∗ ((c : Thread nD τ).loc main_v0) ↦{fullShare} Gen.V m c main_v0)

/-- The invariant between grid points: the scratch at contents the given invariant has, the transfer in flight before the second. -/
def PhiOf (I : Dev nD → ℕ → St F → Prop) (c : Dev nD) (t : ℕ) : sProp 𝕄 :=
  iprop(∃ s, ⌜I c t s⌝ ∗ scr c s ∗ (∃ r, prngReg c r) ∗ if t = 1 then xFlight m c else xRest m c s)

/-- The launch's proof data, of an invariant of the scratch and a relation of the windows' contents. -/
def rdatOf (I : Dev nD → ℕ → St F → Prop) (R : Dev nD → Rel F) (c : Dev nD) : RDat τ (Elt F) Unit ℕ UU ℕ cfg0 c where
  A w := Gen.V m c (Pipeline.arrRef spec0 w)
  after := afterOf (R c)
  Φ t := PhiOf m I c t.val
  q _ := fullShare
  owed _ := 0

/-- The windows' buffers. -/
abbrev wins : List Bf := [.xs, .w, .s2, .s1, .r, .c, .y, .ds2, .pk, .loss, .dr, .ds1, .dc]
/-- The scratch buffers but the codes'. -/
abbrev scrs : List Bf := [.q false, .q true, .z false, .z true, .g false, .g true, .la, .da]

end Cert.KernelIdeal
-- ==== Proof.KernelIdealFrame.lean ====
/-
  The launch of `KernelIdeal`: the body's programs carried from grid point to grid point by an invariant of the scratch buffers'
  contents, the transfer of the token codes in flight between the first two points; and, for any such invariant, what every
  final state holds.
-/
module

public import proofs.«01_k».proof.Proof.KernelIdealPoint
public import proofs.«01_k».proof.Proof.Touch
public import proofs.«01_k».proof.Proof.Gen.KernelIdeal.Frame
public import Idealize.ShloMosaic.Lib.Pipeline.FrameSuffixR
public import Idealize.ShloMosaic.Lib.Transfers
public import Idealize.ShloMosaic.Lib.Pipeline.BigSepL

@[expose] public section

set_option maxRecDepth 100000
set_option maxHeartbeats 1000000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)
open Cert.Proof.FlexRound hiding own
open Facts₀ Facts

variable {F : FTy → Type} [FloatOps F]

local notation "𝕄" => MT nD τ sig Unit (Elt F) ℕ UU ℕ

/-- The windows' buffers in the windows' order. -/
def bfOf : Fin 13 → Bf := ![.xs, .w, .s2, .s1, .r, .c, .y, .ds2, .pk, .loss, .dr, .ds1, .dc]

/-- The buffers but the codes' are the windows' and the scratch. -/
theorem bigSep_noX (Φ : Bf → sProp 𝕄) : bigSep noX Φ = iprop(bigSep Finset.univ (fun w : Fin 13 => Φ (bfOf w))
    ∗ Φ (.q false) ∗ Φ (.q true) ∗ Φ (.z false) ∗ Φ (.z true) ∗ Φ (.g false) ∗ Φ (.g true) ∗ Φ .la ∗ Φ .da) := by
  rw [bigSep_eq_bigSepL_of_eq ([.xs, .w, .s2, .s1, .r, .c, .y, .ds2, .pk, .loss, .dr, .ds1, .dc] ++ [.q false, .q true, .z false, .z true,
    .g false, .g true, .la, .da]) (by decide) (by decide), bigSepL_append, Gen.bigSep_W0]
  rfl

/-- All the buffers are the codes' and the others. -/
theorem own_univ (c : Dev nD) (M : Refs sig) (s : St F) :
    (Cert.Proof.FlexRound.own Finset.univ M c s : sProp 𝕄) = iprop(owns (c : Thread nD τ) (M .x) fullShare (s .x) ∗ Cert.Proof.FlexRound.own noX M c s) := by
  unfold Cert.Proof.FlexRound.own; exact bigSep_erase (Finset.mem_univ _)

theorem own_stage (c : Dev nD) (t : Fin cfg0.N) (Y : Stg F) (s : St F) : ∀ w : Fin 13,
    (owns (c : Thread nD τ) ((cfg0.win w).stage (cfg0.slots t w)) fullShare (Y w) : sProp 𝕄)
      ⊢ owns (c : Thread nD τ) (refsAt t (bfOf w)) fullShare (mix Y s (bfOf w))
  | ⟨0, _⟩ => .rfl
  | ⟨1, _⟩ => .rfl
  | ⟨2, _⟩ => .rfl
  | ⟨3, _⟩ => .rfl
  | ⟨4, _⟩ => .rfl
  | ⟨5, _⟩ => .rfl
  | ⟨6, _⟩ => .rfl
  | ⟨7, _⟩ => .rfl
  | ⟨8, _⟩ => .rfl
  | ⟨9, _⟩ => .rfl
  | ⟨10, _⟩ => .rfl
  | ⟨11, _⟩ => .rfl
  | ⟨12, _⟩ => .rfl

theorem own_stages (c : Dev nD) (t : Fin cfg0.N) (Y : Stg F) (s : St F) :
    (bigSep Finset.univ (fun w => owns (c : Thread nD τ) ((cfg0.win w).stage (cfg0.slots t w)) fullShare (Y w)) : sProp 𝕄)
      ⊢ bigSep Finset.univ (fun w : Fin 13 => owns (c : Thread nD τ) (refsAt t (bfOf w)) fullShare (mix Y s (bfOf w))) :=
  bigSep_mono fun w _ => own_stage c t Y s w

theorem gather (c : Dev nD) (t : Fin cfg0.N) (Y : Stg F) (s : St F) :
    iprop(scr c s ∗ bigSep Finset.univ (fun w => owns (c : Thread nD τ) ((cfg0.win w).stage (cfg0.slots t w)) fullShare (Y w)))
      ⊢ (Cert.Proof.FlexRound.own noX (refsAt t) c (mix Y s) : sProp 𝕄) := by
  unfold Cert.Proof.FlexRound.own
  rw [bigSep_noX]
  iintro ⟨Hs, Hw⟩
  isplitl [Hw]
  · iapply (own_stages c t Y s) $$ Hw
  · unfold scr; iexact Hs

theorem aft {sh : Shape} {e : EltTy} (c : Dev nD) (m : Memref sig .tc .vmem sh e) {P : (sh.Idx → Elt F e) → Prop} {X : sh.Idx → Elt F e} (h : P X) :
    (owns (c : Thread nD τ) m fullShare X : sProp 𝕄) ⊢ iprop(∃ X, ⌜P X⌝ ∗ owns (c : Thread nD τ) m fullShare X) := by
  iintro H; iexists X; isplitr; · ipureintro; exact h
  iexact H

theorem own_after (c : Dev nD) (t : Fin cfg0.N) (Y : Stg F) (s s' : St F) (R : Rel F) (hR : ∀ b, R t.val b (mix Y s b) (s' b)) : ∀ w : Fin 13,
    (owns (c : Thread nD τ) (refsAt t (bfOf w)) fullShare (s' (bfOf w)) : sProp 𝕄)
      ⊢ iprop(∃ X, ⌜afterOf R w t (Y w) X⌝ ∗ owns (c : Thread nD τ) ((cfg0.win w).stage (cfg0.slots t w)) fullShare X)
  | ⟨0, _⟩ => aft c _ (hR .xs)
  | ⟨1, _⟩ => aft c _ (hR .w)
  | ⟨2, _⟩ => aft c _ (hR .s2)
  | ⟨3, _⟩ => aft c _ (hR .s1)
  | ⟨4, _⟩ => aft c _ (hR .r)
  | ⟨5, _⟩ => aft c _ (hR .c)
  | ⟨6, _⟩ => aft c _ (hR .y)
  | ⟨7, _⟩ => aft c _ (hR .ds2)
  | ⟨8, _⟩ => aft c _ (hR .pk)
  | ⟨9, _⟩ => aft c _ (hR .loss)
  | ⟨10, _⟩ => aft c _ (hR .dr)
  | ⟨11, _⟩ => aft c _ (hR .ds1)
  | ⟨12, _⟩ => aft c _ (hR .dc)

theorem own_afters (c : Dev nD) (t : Fin cfg0.N) (Y : Stg F) (s s' : St F) (R : Rel F) (hR : ∀ b, R t.val b (mix Y s b) (s' b)) :
    (bigSep Finset.univ (fun w : Fin 13 => owns (c : Thread nD τ) (refsAt t (bfOf w)) fullShare (s' (bfOf w))) : sProp 𝕄)
      ⊢ bigSep Finset.univ (fun w => iprop(∃ X, ⌜afterOf R w t (Y w) X⌝
        ∗ owns (c : Thread nD τ) ((cfg0.win w).stage (cfg0.slots t w)) fullShare X)) :=
  bigSep_mono fun w _ => own_after c t Y s s' R hR w

theorem scatter (c : Dev nD) (t : Fin cfg0.N) (Y : Stg F) (s s' : St F) (R : Rel F) (hR : ∀ b, R t.val b (mix Y s b) (s' b)) :
    (Cert.Proof.FlexRound.own noX (refsAt t) c s' : sProp 𝕄) ⊢ iprop(scr c s' ∗ bigSep Finset.univ (fun w => iprop(∃ X, ⌜afterOf R w t (Y w) X⌝
      ∗ owns (c : Thread nD τ) ((cfg0.win w).stage (cfg0.slots t w)) fullShare X))) := by
  unfold Cert.Proof.FlexRound.own
  rw [bigSep_noX]
  iintro ⟨Hw, Hs⟩
  isplitl [Hs]
  · unfold scr; iexact Hs
  · iapply (own_afters c t Y s s' R hR) $$ Hw
variable (m : (ℓ : Loc nD τ sig) → Buf (Elt F) ℓ)

theorem defs₀_row (t : Fin cfg0.N) : defs₀ (F := F) .tc cfg0.body (cfg0.bodyArgs t (cfg0.slots t)) = Gen.bodyAt0 t := by
  unfold defs₀; rw [Defs.onTc_tc]

/-! ## The body's obligation -/

/-- The scratch after a grid point's program, from windows at `Y` and scratch at `s`. -/
def nextOf (t : Fin cfg0.N) (Y : Stg F) (s : St F) : St F := (run (progOf (F := F) (grid0.coords t)) (mix Y s)).2

/-- What an invariant and a relation must satisfy: each grid point's program keeps them; what the first point leaves in the codes'
    buffer is anything, what the second leaves there is the codes. -/
structure Keeps (I : Dev nD → ℕ → St F → Prop) (R : Dev nD → Rel F) : Prop where
  zero : ∀ c s, I c 0 s
  rel : ∀ c t Y s, (∀ w, (rdatOf m I R c).Finds w t (Y w)) → I c t.val s → ∀ b, R c t.val b (mix Y s b) (nextOf t Y s b)
  first : ∀ c (t : Fin cfg0.N) Y s, (∀ w, (rdatOf m I R c).Finds w t (Y w)) → t.val = 0 → I c 1 (nextOf t Y s)
  second : ∀ c (t : Fin cfg0.N) Y s, (∀ w, (rdatOf m I R c).Finds w t (Y w)) → t.val = 1 → I c 1 s →
    I c 2 (Function.update (nextOf t Y s) .x (codes m c))
  later : ∀ c (t : Fin cfg0.N) Y s, (∀ w, (rdatOf m I R c).Finds w t (Y w)) → t.val ≠ 0 → t.val ≠ 1 → I c t.val s →
    I c (t.val + 1) (nextOf t Y s)

theorem credit_pos : 0 < (Memref.whole (sig := sig) (κ := .tc) cc0_scratch0).view.dmaCredit := by decide +kernel

variable {m} {I : Dev nD → ℕ → St F → Prop} {R : Dev nD → Rel F}

theorem scr_update (c : Dev nD) (s : St F) (x) : (scr c (Function.update s .x x) : sProp 𝕄) = scr c s := rfl

/-- What starts the transfer. -/
def startP : Prog (TpuEff nD τ sig (Elt F) Λ₀ .tc) PUnit :=
  Prog.lift (.enqueueDma (Memref.whole main_v0) (.here (Memref.whole cc0_scratch0)) xsem (Memref.isWhole_whole main_v0).wordExact
    (Memref.isWhole_whole cc0_scratch0).wordExact ⟨Or.inl rfl, trivial⟩)

/-- What awaits it. -/
def waitP : Prog (TpuEff nD τ sig (Elt F) Λ₀ .tc) PUnit :=
  Prog.lift (.waitDma2 cc0_scratch9.sem (Memref.whole main_v0) (Memref.whole cc0_scratch0) (Memref.isWhole_whole main_v0).wordExact
    (Memref.isWhole_whole cc0_scratch0).wordExact)

/-- The transfer started: the codes' array and buffer and the semaphore go into it. -/
theorem wp_start (c : Dev nD) (s : St F) {α : Type} (k : PUnit → Prog (TpuEff nD τ sig (Elt F) Λ₀ .tc) α) (Q : α → sProp 𝕄) :
    iprop(xRest m c s ∗ (xFlight m c -∗ wp frame (wpE (defs₀ (F := F)) Variants.none (c : Thread nD τ) none) Set.univ (k ⟨⟩) Q))
      ⊢ wp frame (wpE (defs₀ (F := F)) Variants.none (c : Thread nD τ) none) Set.univ (startP >>= k) Q := by
  unfold xRest
  rw [owns_whole]
  iintro ⟨⟨Hx, Hsem, Hv⟩, Hk⟩
  iapply (Transfers.wp_dmaLocal countersEmb Variants.none (c : Thread nD τ) none (src := Memref.whole main_v0) (dst := Memref.whole cc0_scratch0)
    (via := .same) (sm := xsem) (Sd := Finset.univ) (fs := Gen.V m c main_v0) (fd := s .x) (q := fullShare) (k := k) () (Memref.whole cc0_scratch0).view.dmaCredit rfl credit_pos
    (Finset.subset_univ _)) $$ [Hv Hx Hsem]
  · isplitl [Hv]
    · simp only [Memref.view_whole, View.set_whole]; iexact Hv
    isplitl [Hx]; · iexact Hx
    iexact Hsem
  iintro HF
  iapply Hk
  unfold xFlight
  iapply (Transfers.Flight_mono countersEmb (c : Thread nD τ) ?_) $$ HF
  rw [owns_whole]
  simp only [Memref.view_whole, View.set_whole, View.write_whole_univ]
  exact .rfl

/-- The transfer awaited. -/
theorem wp_await (c : Dev nD) (W) (Q : PUnit → sProp 𝕄) (s : St F) (hs : s .x = codes m c) :
    iprop(xFlight m c ∗ owes (c : Thread nD τ) 0 W ∗ (iprop(xRest m c s ∗ ∃ W, owes (c : Thread nD τ) 0 W) -∗ Q ⟨⟩))
      ⊢ wp frame (wpE (defs₀ (F := F)) Variants.none (c : Thread nD τ) none) Set.univ waitP Q := by
  unfold xFlight waitP
  iintro ⟨HF, HO, Hk⟩
  iapply (Transfers.wp_waitLocal countersEmb Variants.none (c : Thread nD τ) none (N := (Memref.whole cc0_scratch0).view.dmaCredit) () rfl) $$ [HF HO]
  · isplitl [HF]; · iexact HF
    iexact HO
  iintro ⟨⟨Hx, Hv⟩, Hsem, HO⟩
  sl_step
  iapply Hk
  unfold xRest
  rw [hs]
  isplitl [Hx Hv Hsem]
  · isplitl [Hx]; · iexact Hx
    isplitl [Hsem]; · iexact Hsem
    iexact Hv
  iexists _; iexact HO

theorem PhiOf_one (c : Dev nD) {t : ℕ} (ht : t = 1) :
    PhiOf m I c t = iprop(∃ s, ⌜I c 1 s⌝ ∗ scr c s ∗ (∃ r, prngReg c r) ∗ xFlight m c) := by
  subst ht; unfold PhiOf; simp only [if_true]

theorem PhiOf_ne (c : Dev nD) {t : ℕ} (ht : t ≠ 1) :
    PhiOf m I c t = iprop(∃ s, ⌜I c t s⌝ ∗ scr c s ∗ (∃ r, prngReg c r) ∗ xRest m c s) := by
  unfold PhiOf; simp only [if_neg ht]

/-- What a grid point's program is given. -/
def Pre (m : (ℓ : Loc nD τ sig) → Buf (Elt F) ℓ) (I : Dev nD → ℕ → St F → Prop) (c : Dev nD) (t : Fin cfg0.N) (Y : Stg F) : sProp 𝕄 :=
  iprop(PhiOf m I c t.val ∗ (∃ W, owes (c : Thread nD τ) 0 W)
    ∗ bigSep Finset.univ (fun w => owns (c : Thread nD τ) ((cfg0.win w).stage (cfg0.slots t w)) fullShare (Y w)))

/-- What it gives back. -/
def Post (m : (ℓ : Loc nD τ sig) → Buf (Elt F) ℓ) (I : Dev nD → ℕ → St F → Prop) (R : Dev nD → Rel F) (c : Dev nD) (t : Fin cfg0.N) (Y : Stg F) : sProp 𝕄 :=
  iprop(PhiOf m I c (t.val + 1) ∗ (∃ W, owes (c : Thread nD τ) 0 W) ∗ bigSep Finset.univ (fun w => iprop(∃ X, ⌜afterOf (R c) w t (Y w) X⌝
    ∗ owns (c : Thread nD τ) ((cfg0.win w).stage (cfg0.slots t w)) fullShare X)))

theorem wp_next (c : Dev nD) (t : Fin cfg0.N) (Y : Stg F) (s : St F) {S : Finset Bf} (hS : outs ⊆ S)
    (hp : Only S outs (progOf (F := F) (grid0.coords t))) (Q : PUnit → sProp 𝕄) :
    iprop(Cert.Proof.FlexRound.own S (refsAt t) c (mix Y s) ∗ (Cert.Proof.FlexRound.own S (refsAt t) c (nextOf t Y s) -∗ Q ⟨⟩))
      ⊢ wp frame (wpE (defs₀ (F := F)) Variants.none (c : Thread nD τ) none) Set.univ
        (toProg (refsAt t) (refsAt_whole t) (progOf (grid0.coords t))) Q :=
  wp_toProg hS (refsAt t) (refsAt_whole t) c Variants.none Set.univ _ hp (mix Y s) Q

theorem wp_point0 (K : Keeps m I R) (c : Dev nD) (t : Fin cfg0.N) (Y : Stg F) (hY : ∀ w, (rdatOf m I R c).Finds w t (Y w)) (h0 : t.val = 0) :
    Pre m I c t Y ⊢ wp frame (wpE (defs₀ (F := F)) Variants.none (c : Thread nD τ) none) Set.univ
      (startP >>= fun _ => toProg (refsAt t) (refsAt_whole t) (progOf (grid0.coords t))) (fun _ => Post m I R c t Y) := by
  unfold Pre Post
  rw [PhiOf_ne c (show t.val ≠ 1 by omega), PhiOf_one c (show t.val + 1 = 1 by omega)]
  iintro ⟨⟨%s, %hI, Hs, Hp, Hx⟩, HO, Hw⟩
  ihave Hown := (gather c t Y s) $$ [Hs Hw]
  · isplitl [Hs] <;> iassumption
  iapply (wp_start c s)
  isplitl [Hx]; · iexact Hx
  iintro HF
  iapply (wp_next c t Y s outs_noX (Only_progOf_first _ (point0 t h0).1))
  isplitl [Hown]; · iexact Hown
  iintro Hown
  ihave H := (scatter c t Y s _ (R c) (K.rel c t Y s hY hI)) $$ Hown
  icases H with ⟨Hs, Hw⟩
  isplitl [Hs Hp HF]
  · iexists (nextOf t Y s)
    isplitr; · ipureintro; exact K.first c t Y s hY h0
    isplitl [Hs]; · iexact Hs
    isplitl [Hp]; · iexact Hp
    iexact HF
  isplitl [HO]; · iexact HO
  iexact Hw

theorem wp_point1 (K : Keeps m I R) (c : Dev nD) (t : Fin cfg0.N) (Y : Stg F) (hY : ∀ w, (rdatOf m I R c).Finds w t (Y w)) (h1 : t.val = 1) :
    Pre m I c t Y ⊢ wp frame (wpE (defs₀ (F := F)) Variants.none (c : Thread nD τ) none) Set.univ
      (toProg (refsAt t) (refsAt_whole t) (progOf (grid0.coords t)) >>= fun _ => waitP) (fun _ => Post m I R c t Y) := by
  unfold Pre Post
  rw [PhiOf_one c h1, PhiOf_ne c (show t.val + 1 ≠ 1 by omega), wp_bind]
  iintro ⟨⟨%s, %hI, Hs, Hp, HF⟩, ⟨%W, HO⟩, Hw⟩
  ihave Hown := (gather c t Y s) $$ [Hs Hw]
  · isplitl [Hs] <;> iassumption
  iapply (wp_next c t Y s outs_noX (Only_progOf_first _ (point1 t h1).1))
  isplitl [Hown]; · iexact Hown
  iintro Hown
  ihave H := (scatter c t Y s _ (R c) (K.rel c t Y s hY (h1 ▸ hI))) $$ Hown
  icases H with ⟨Hs, Hw⟩
  iapply (wp_await c W _ (Function.update (nextOf t Y s) .x (codes m c)) (Function.update_self ..))
  isplitl [HF]; · iexact HF
  isplitl [HO]; · iexact HO
  iintro ⟨Hx, HO⟩
  isplitl [Hs Hp Hx]
  · iexists (Function.update (nextOf t Y s) .x (codes m c))
    isplitr; · ipureintro; rw [h1]; exact K.second c t Y s hY h1 hI
    rw [scr_update]
    isplitl [Hs]; · iexact Hs
    isplitl [Hp]; · iexact Hp
    iexact Hx
  isplitl [HO]; · iexact HO
  iexact Hw

theorem wp_point2 (K : Keeps m I R) (c : Dev nD) (t : Fin cfg0.N) (Y : Stg F) (hY : ∀ w, (rdatOf m I R c).Finds w t (Y w))
    (h0 : t.val ≠ 0) (h1 : t.val ≠ 1) :
    Pre m I c t Y ⊢ wp frame (wpE (defs₀ (F := F)) Variants.none (c : Thread nD τ) none) Set.univ
      (toProg (refsAt t) (refsAt_whole t) (progOf (grid0.coords t))) (fun _ => Post m I R c t Y) := by
  unfold Pre Post
  rw [PhiOf_ne c h1, PhiOf_ne c (show t.val + 1 ≠ 1 by omega)]
  unfold xRest
  iintro ⟨⟨%s, %hI, Hs, Hp, Hx, Hsem, Hv⟩, HO, Hw⟩
  ihave Hown := (gather c t Y s) $$ [Hs Hw]
  · isplitl [Hs] <;> iassumption
  iapply (wp_next c t Y s (Finset.subset_univ _) (Only_progOf _))
  rw [own_univ, own_univ]
  isplitl [Hown Hx]
  · isplitl [Hx]; · iexact Hx
    iexact Hown
  iintro ⟨Hx, Hown⟩
  ihave H := (scatter c t Y s _ (R c) (K.rel c t Y s hY hI)) $$ Hown
  icases H with ⟨Hs, Hw⟩
  isplitl [Hs Hp Hx Hsem Hv]
  · iexists (nextOf t Y s)
    isplitr; · ipureintro; exact K.later c t Y s hY h0 h1 hI
    isplitl [Hs]; · iexact Hs
    isplitl [Hp]; · iexact Hp
    isplitl [Hx]; · iexact Hx
    isplitl [Hsem]; · iexact Hsem
    iexact Hv
  isplitl [HO]; · iexact HO
  iexact Hw

/-- The body at a grid point, read as loads and stores and the transfer. -/
theorem bodyAt_eq (t : Fin cfg0.N) :
    Gen.bodyAt0 (F := F) t = bodyOf (refsAt t) (refsAt_whole t) (grid0.coords t) startP waitP :=
  body_eq (F := F) (grid0.coords t) (Memref.whole main_v0) (Memref.isWhole_whole _)
    (win0_0.stage (cfg0.slots t 0)) (refsAt_whole t .xs) (win0_1.stage (cfg0.slots t 1)) (refsAt_whole t .w)
    (win0_2.stage (cfg0.slots t 2)) (refsAt_whole t .s2) (win0_3.stage (cfg0.slots t 3)) (refsAt_whole t .s1)
    (win0_4.stage (cfg0.slots t 4)) (refsAt_whole t .r) (win0_5.stage (cfg0.slots t 5)) (refsAt_whole t .c)
    (win0_6.stage (cfg0.slots t 6)) (refsAt_whole t .y) (win0_7.stage (cfg0.slots t 7)) (refsAt_whole t .ds2)
    (win0_8.stage (cfg0.slots t 8)) (refsAt_whole t .pk) (win0_9.stage (cfg0.slots t 9)) (refsAt_whole t .loss)
    (win0_10.stage (cfg0.slots t 10)) (refsAt_whole t .dr) (win0_11.stage (cfg0.slots t 11)) (refsAt_whole t .ds1)
    (win0_12.stage (cfg0.slots t 12)) (refsAt_whole t .dc) (Memref.whole cc0_scratch0) (refsAt_whole t .x)
    (Memref.whole cc0_scratch1) (refsAt_whole t (.q false)) (Memref.whole cc0_scratch2) (refsAt_whole t (.q true))
    (Memref.whole cc0_scratch3) (refsAt_whole t (.z false)) (Memref.whole cc0_scratch4) (refsAt_whole t (.z true))
    (Memref.whole cc0_scratch5) (refsAt_whole t (.g false)) (Memref.whole cc0_scratch6) (refsAt_whole t (.g true))
    (Memref.whole cc0_scratch7) (refsAt_whole t .la) (Memref.whole cc0_scratch8) (refsAt_whole t .da) cc0_scratch9 (refsAt_whole t)

/-- The body's obligation to the launch. -/
theorem obligation (K : Keeps m I R) (c : Dev nD) : (rdatOf m I R c).BodyObligation (defs₀ (F := F)) Variants.none () Set.univ := by
  intro t Y hY
  rw [defs₀_row, bodyAt_eq]
  have key : Pre m I c t Y ⊢ wp frame (wpE (defs₀ (F := F)) Variants.none (c : Thread nD τ) none) Set.univ
      (bodyOf (refsAt t) (refsAt_whole t) (grid0.coords t) startP waitP) (fun _ => Post m I R c t Y) := by
    by_cases h0 : t.val = 0
    · rw [body0 _ _ _ _ t h0]; exact wp_point0 K c t Y hY h0
    by_cases h1 : t.val = 1
    · rw [body1 _ _ _ _ t h1]; exact wp_point1 K c t Y hY h1
    rw [body2 _ _ _ _ t h0 h1]; exact wp_point2 K c t Y hY h0 h1
  refine BIBase.Entails.trans ?_ (key.trans (Idealize.SL.Sem.wp_mono _ _ _ fun _ => ?_))
  · unfold Pre
    show iprop(PhiOf m I c t.val ∗ _) ⊢ _
    iintro ⟨H, ⟨%W, %hW, HO⟩, Hw⟩
    isplitl [H]; · iexact H
    isplitl [HO]; · iexists W; iexact HO
    iexact Hw
  · unfold Post
    show _ ⊢ iprop(PhiOf m I c (t.val + 1) ∗ _)
    iintro ⟨H, ⟨%W, HO⟩, Hw⟩
    isplitl [H]; · iexact H
    isplitl [HO]
    · iexists W
      isplitr; · ipureintro; exact fun _ _ => Or.inl trivial
      iexact HO
    iexact Hw

end Cert.KernelIdeal
-- ==== Proof.KernelIdealRun.lean ====
/-
  The launch of `KernelIdeal`: the body's programs carried from grid point to grid point by an invariant of the scratch buffers'
  contents, the transfer of the token codes in flight between the first two points; and, for any such invariant, what every
  final state holds.
-/
module

public import proofs.«01_k».proof.Proof.KernelIdealFrame
public import proofs.«01_k».proof.Proof.Touch
public import proofs.«01_k».proof.Proof.Gen.KernelIdeal.Frame
public import Idealize.ShloMosaic.Lib.Pipeline.Frame
public import Idealize.ShloMosaic.Lib.Transfers
public import Idealize.ShloMosaic.Lib.Pipeline.BigSepL

@[expose] public section

set_option maxRecDepth 100000
set_option maxHeartbeats 1000000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)
open Cert.Proof.FlexRound hiding own
open Facts₀ Facts

variable {F : FTy → Type} [FloatOps F]

local notation "𝕄" => MT nD τ sig Unit (Elt F) ℕ UU ℕ

variable (m : (ℓ : Loc nD τ sig) → Buf (Elt F) ℓ)

/-- The transfer's semaphore is the launch's only own one. -/
abbrev osem : Fin 1 → SemLoc sig := fun _ => xsem

theorem ownSemFacts : Pipeline.OwnSemFacts spec0 osem := by decide

/-- The array the transfer reads. -/
abbrev hset : Finset (Ref sig .tc) := {main_v0}

variable {m} {I : Dev nD → ℕ → St F → Prop} {R : Dev nD → Rel F}

/-- Contents of the scratch buffers, buffer by buffer. -/
def stOf (x : (Sh 9216 2560).Idx → Elt F .fp8e4m3) (q0 q1 : (Sh 256 2560).Idx → Elt F .fp8e4m3) (z0 z1 g0 g1 : (Sh 256 2560).Idx → Elt F .f32)
    (la : (Sh 9216 128).Idx → Elt F .f32) (da : (Sh 8 2560).Idx → Elt F .f32) (s : St F) : St F
  | .x => x | .q false => q0 | .q true => q1 | .z false => z0 | .z true => z1 | .g false => g0 | .g true => g1 | .la => la | .da => da
  | b => s b

theorem enter (K : Keeps m I R) (c : Dev nD) (s : St F) :
    (Pipeline.ΦD osem spec0 hset (Gen.V m) c : sProp 𝕄) ⊢ PhiOf m I c 0 := by
  rw [PhiOf_ne c (by decide)]
  unfold Pipeline.ΦD xRest scr
  rw [Gen.scopedRest0_eq, Pipeline.ownSems0_eq_of_list c osem [0] (by decide) (by decide), bigSep_singleton, bigSepL_singleton]
  iintro ⟨⟨⟨%x, Hx⟩, ⟨%q0, Hq0⟩, ⟨%q1, Hq1⟩, ⟨%z0, Hz0⟩, ⟨%z1, Hz1⟩, ⟨%g0, Hg0⟩, ⟨%g1, Hg1⟩, ⟨%la, Hla⟩, ⟨%da, Hda⟩⟩, Hp, Hsem, Hv⟩
  iexists (stOf x q0 q1 z0 z1 g0 g1 la da s)
  simp only [owns_whole]
  isplitr; · ipureintro; exact K.zero c _
  isplitl [Hq0 Hq1 Hz0 Hz1 Hg0 Hg1 Hla Hda]
  · isplitl [Hq0]; · iexact Hq0
    isplitl [Hq1]; · iexact Hq1
    isplitl [Hz0]; · iexact Hz0
    isplitl [Hz1]; · iexact Hz1
    isplitl [Hg0]; · iexact Hg0
    isplitl [Hg1]; · iexact Hg1
    isplitl [Hla]; · iexact Hla
    iexact Hda
  isplitl [Hp]; · iexact Hp
  isplitl [Hx]; · iexact Hx
  isplitl [Hsem]; · iexact Hsem
  iexact Hv

theorem leave (c : Dev nD) (t : ℕ) (ht : t ≠ 1) :
    PhiOf m I c t ⊢ (Pipeline.ΦD osem spec0 hset (Gen.V m) c : sProp 𝕄) := by
  rw [PhiOf_ne c ht]
  unfold Pipeline.ΦD xRest scr
  rw [Gen.scopedRest0_eq, Pipeline.ownSems0_eq_of_list c osem [0] (by decide) (by decide), bigSep_singleton, bigSepL_singleton]
  simp only [owns_whole]
  iintro ⟨%s, %hI, ⟨Hq0, Hq1, Hz0, Hz1, Hg0, Hg1, Hla, Hda⟩, Hp, Hx, Hsem, Hv⟩
  isplitl [Hx Hq0 Hq1 Hz0 Hz1 Hg0 Hg1 Hla Hda]
  · isplitl [Hx]; · iexists _; iexact Hx
    isplitl [Hq0]; · iexists _; iexact Hq0
    isplitl [Hq1]; · iexists _; iexact Hq1
    isplitl [Hz0]; · iexists _; iexact Hz0
    isplitl [Hz1]; · iexists _; iexact Hz1
    isplitl [Hg0]; · iexists _; iexact Hg0
    isplitl [Hg1]; · iexists _; iexact Hg1
    isplitl [Hla]; · iexists _; iexact Hla
    iexists _; iexact Hda
  isplitl [Hp]; · iexact Hp
  isplitl [Hsem]; · iexact Hsem
  iexact Hv

/-- Every run ends, at rest, each window's array at contents its relation admits and every other array as the launch found it. -/
theorem runs (K : Keeps m I R) (g : Dev nD → PrngReg) :
    θ_run (defs (F := F)) (onTc (τ := τ) (main (F := F))) ⟨m, fun _ => 0, g⟩
      (fun r => RDat.FramePost cfg0 (rdatOf m I R) (Gen.V m) r ∧ r.2.sem = fun _ => 0) := by
  refine RDat.θ_run_frame_dma cfgs 0 Gen.launch0 osem defs₀ Variants.none (rdatOf m I R) ownSemFacts hset (by decide) m g main
    (obligation K) (fun c w => ?_) (fun c t => rfl) (Gen.V m)
    (Pipeline.hmain_prefix cfgs 0 defs₀ Variants.none m main Gen.hostOps0 Gen.hostOps0_sub Gen.hostOps0_fresh Gen.main_chain) (fun c w => rfl)
    (fun c => enter K c (fun b _ => Classical.choice inferInstance)) (fun c => leave c _ (by decide)) _ (fun _ h => h)
  show (if (cfg0.win w).isOut then fullShare else fullShare) = _
  split_ifs <;> rfl

/-- An argument the launch does not stage ends as it was. -/
theorem arg_rest {r : PUnit × MemSt nD τ sig (Elt F)} (h : RDat.FramePost cfg0 (rdatOf m I R) (Gen.V m) r) (c : Dev nD) {b : Ref sig .tc}
    (hb : b ∈ Pipeline.restRefs sig cfg0.spec) (hV : Gen.V m c b = m ((c : Thread nD τ).loc b)) :
    r.2.mem ((c : Thread nD τ).loc b) = m ((c : Thread nD τ).loc b) := ((h c).2 b hb).trans hV

/-- Every run ends with the arguments as they were. -/
theorem args_kept {r : PUnit × MemSt nD τ sig (Elt F)} (h : RDat.FramePost cfg0 (rdatOf m I R) (Gen.V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7) :=
  ⟨arg_rest h c (by decide) (Gen.V_main_arg0 m c), arg_rest h c (by decide) (Gen.V_main_arg1 m c),
    (RDat.FramePost.arr_in h c 1 rfl).trans (Gen.V_main_arg2 m c), arg_rest h c (by decide) (Gen.V_main_arg3 m c),
    (RDat.FramePost.arr_in h c 2 rfl).trans (Gen.V_main_arg4 m c), arg_rest h c (by decide) (Gen.V_main_arg5 m c),
    arg_rest h c (by decide) (Gen.V_main_arg6 m c), arg_rest h c (by decide) (Gen.V_main_arg7 m c)⟩

/-- With nothing said of the contents, the body keeps its obligation. -/
theorem keeps_any : Keeps m (fun _ _ _ => True) (fun _ _ _ _ _ => True) :=
  ⟨fun _ _ => trivial, fun _ _ _ _ _ _ _ => trivial, fun _ _ _ _ _ _ => trivial, fun _ _ _ _ _ _ _ => trivial,
    fun _ _ _ _ _ _ _ _ => trivial⟩

/-- Every run from any memory ends, with the arguments as they were and every semaphore at zero. -/
theorem quiescent (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) ∧ r.2.sem = fun _ => 0) :=
  (θ_run _ _ _).mono (fun _ h => ⟨fun c => args_kept h.1 c, h.2⟩) (runs keeps_any g)

end Cert.KernelIdeal
-- ==== Proof.Read.lean ====
/-
  The arrays the kernel computes, read at a row and a column over the extended reals.
-/
module

public import proofs.«01_k».proof.Proof.Body
public import Idealize.ShloMosaic.Lib.Pointwise

@[expose] public section

noncomputable section

namespace Cert.Proof.FlexRound

open Idealize.ShloMosaic Idealize.SL.Sem

/-! ## Arrays at numbers -/

/-- An array's element at a row and a column given as numbers. -/
def at2 {R C : ℕ} [NeZero R] [NeZero C] {α : Type} (a : (Sh R C).Idx → α) (i j : ℕ) : α := a (ix2 (Fin.ofNat R i) (Fin.ofNat C j))

section
variable {R C h w : ℕ} [NeZero R] [NeZero C] [NeZero h] [NeZero w] {α : Type}

theorem at2_ix2 (a : (Sh R C).Idx → α) (i : Fin R) (j : Fin C) : a (ix2 i j) = at2 a i.val j.val := by
  unfold at2; congr 2 <;> exact Fin.ext (Nat.mod_eq_of_lt (Fin.isLt _)).symm

theorem at2_eq (a : (Sh R C).Idx → α) {i j : ℕ} (hi : i < R) (hj : j < C) : at2 a i j = a (ix2 ⟨i, hi⟩ ⟨j, hj⟩) := (at2_ix2 a ⟨i, hi⟩ ⟨j, hj⟩).symm

theorem at2_ext {a b : (Sh R C).Idx → α} (hab : ∀ i < R, ∀ j < C, at2 a i j = at2 b i j) : a = b := by
  funext k
  rw [eq_ix2 k, at2_ix2 (R := R) (C := C) a (k 0) (k 1), at2_ix2 (R := R) (C := C) b (k 0) (k 1)]
  exact hab _ (Fin.isLt _) _ (Fin.isLt _)

theorem R2_emb {a b : ℕ} (ha : a + h ≤ R) (hb : b + w ≤ C) {i j : ℕ} (hi : i < h) (hj : j < w) :
    (R2 (R := R) (C := C) a b h w ha hb).emb (ix2 (Fin.ofNat h i) (Fin.ofNat w j)) = ix2 (Fin.ofNat R (a + i)) (Fin.ofNat C (b + j)) := by
  funext k
  apply Fin.ext
  rw [Rect.emb_apply]
  have e1 : i % h = i := Nat.mod_eq_of_lt hi
  have e2 : j % w = j := Nat.mod_eq_of_lt hj
  have e3 : (a + i) % R = a + i := Nat.mod_eq_of_lt (by omega)
  have e4 : (b + j) % C = b + j := Nat.mod_eq_of_lt (by omega)
  match k with
  | ⟨0, _⟩ => show a + 1 * (i % h) = (a + i) % R; rw [e1, e3]; omega
  | ⟨1, _⟩ => show b + 1 * (j % w) = (b + j) % C; rw [e2, e4]; omega

/-- What a load reads. -/
theorem at2_ld {a b : ℕ} (ha : a + h ≤ R) (hb : b + w ≤ C) (x : (Sh R C).Idx → α) {i j : ℕ} (hi : i < h) (hj : j < w) :
    at2 (R := h) (C := w) (fun k => x ((R2 (R := R) (C := C) a b h w ha hb).toLoadRect.idx k)) i j = at2 x (a + i) (b + j) :=
  congrArg x (R2_emb ha hb hi hj)

/-- What a store leaves. -/
theorem at2_put {a b : ℕ} (ha : a + h ≤ R) (hb : b + w ≤ C) (v : (Sh h w).Idx → α) (x : (Sh R C).Idx → α) {i j : ℕ} (hi : i < R) (hj : j < C) :
    at2 (put (R2 (R := R) (C := C) a b h w ha hb) v x) i j
      = if (a ≤ i ∧ i < a + h) ∧ (b ≤ j ∧ j < b + w) then at2 v (i - a) (j - b) else at2 x i j := by
  split
  · rename_i hc
    have e := R2_emb (R := R) (C := C) ha hb (i := i - a) (j := j - b) (by omega) (by omega)
    rw [show a + (i - a) = i by omega, show b + (j - b) = j by omega] at e
    unfold at2
    rw [← e, put_emb]
  · rename_i hc
    refine put_miss _ _ _ fun k hk => hc ?_
    have h0 := congrArg (fun f : (Sh R C).Idx => (f 0).val) hk
    have h1 := congrArg (fun f : (Sh R C).Idx => (f 1).val) hk
    have e3 : i % R = i := Nat.mod_eq_of_lt hi
    have e4 : j % C = j := Nat.mod_eq_of_lt hj
    replace h0 : a + 1 * (k 0).val = i % R := h0
    replace h1 : b + 1 * (k 1).val = j % C := h1
    have k0 : (k 0).val < h := (k 0).isLt
    have k1 : (k 1).val < w := (k 1).isLt
    omega
end

/-! ## The values -/

/-- The quotient. -/
def zS (w s1 s2 r c : EReal) : EReal := Ideal.div w (s1 * Ideal.exp (s2 + r + c))

/-- The code: the quotient rounded and clipped to [-8, 7]. -/
def qS (z : EReal) : EReal := min (Ideal.ofBits FTy.f32 0x40E00000#32) (max (Ideal.ofBits FTy.f32 0xC1000000#32) (Ideal.liftRound Ideal.roundHalfEven z))

/-- The quotient where the code is not clipped, zero elsewhere. -/
def mzS (z : EReal) : EReal :=
  Scalar.select (IntOp.andi (BitVec.ofBool (decide (Ideal.ofBits FTy.f32 0xC1080000#32 ≤ z)))
    (BitVec.ofBool (decide (z < Ideal.ofBits FTy.f32 0x40F00000#32)))) z (0 : EReal)

/-- The error a token hands to the gradient. -/
def errS (acc xs s1 y : EReal) : EReal := (acc * xs * s1 - y) * xs * Ideal.ofBits FTy.f32 0x3306D905#32

local notation "𝔸" => A Ideal

theorem zOf_at (s1c rc s2 : 𝔸 128 256) (c : 𝔸 1 256) (w : 𝔸 128 256) (i j : ℕ) :
    at2 (zOf s1c rc s2 c w) i j = zS (at2 w i j) (at2 s1c i j) (at2 s2 i j) (at2 rc i j) (at2 c 0 j) := by
  unfold at2 zS; pointwise [zOf, downRows]; rfl

theorem qOf_at (z : 𝔸 128 256) (i j : ℕ) : at2 (qOf z) i j = qS (at2 z i j) := by
  unfold at2 qS; pointwise [qOf, fill]

theorem mzOf_at (z : 𝔸 128 256) (i j : ℕ) : at2 (mzOf z) i j = mzS (at2 z i j) := by
  unfold at2 mzS; pointwise [mzOf, fill]

theorem rows_at (v : 𝔸 1 128) {i : ℕ} (hi : i < 128) (j : ℕ) : at2 (twice (lanes v)) i j = at2 v 0 i := by
  unfold at2; pointwise [twice, lanes]; split <;> rfl

theorem negRows_at (v : 𝔸 1 128) {i : ℕ} (hi : i < 128) (j : ℕ) : at2 (negLanes v) i j = 0 - at2 v 0 i := by
  unfold at2; pointwise [negLanes, twice, lanes, fill]; split <;> rfl

theorem dOf_at (ns1 z g : 𝔸 128 256) (i j : ℕ) : at2 (dOf ns1 z g) i j = at2 ns1 i j * at2 z i j * at2 g i j := by
  unfold at2; pointwise [dOf]

theorem eOf_at (z g : 𝔸 128 256) (q : FVec Ideal (Sh 128 256) .fp8e4m3) (i j : ℕ) : at2 (eOf z g q) i j = at2 g i j * ((at2 q i j : EReal) - at2 z i j) := by
  unfold at2; pointwise [eOf]

theorem halves_at (d : 𝔸 128 256) {i j : ℕ} (hi : i < 128) (hj : j < 128) : at2 (halves d) i j = at2 d i j + at2 d i (128 + j) := by
  unfold at2; pointwise [halves]
  have h1 : ((Fin.ofNat 128 i : Fin 128) : ℕ) = i := Nat.mod_eq_of_lt hi
  have h2 : ((Fin.ofNat 128 j : Fin 128) : ℕ) = j := Nat.mod_eq_of_lt hj
  refine congrArg₂ (· + ·) ?_ ?_ <;> (refine congrArg d (congrArg₂ ix2 (Fin.ext ?_) (Fin.ext ?_)) <;> simp [h1, h2] <;> omega)

theorem rowSums_at (a : 𝔸 128 128) (j : ℕ) : at2 (rowSums a) 0 j = ∑ l ∈ Finset.range 128, (at2 a j l : EReal) := by
  rw [Finset.sum_range]
  unfold at2; pointwise [rowSums]
  refine Finset.sum_congr rfl fun k _ => ?_
  rw [show Fin.ofNat 128 k.val = k from Fin.ext (Nat.mod_eq_of_lt k.isLt)]

theorem fill0_at (i j : ℕ) : at2 (fill (F := Ideal) 128 128 0x00000000#32) i j = (0 : EReal) := by
  unfold at2; pointwise [fill]

theorem fill_at (i j : ℕ) : at2 (fill (F := Ideal) 128 256 0x00000000#32) i j = (0 : EReal) := by
  unfold at2; pointwise [fill]

theorem srow_at (v : 𝔸 2 128) {j : ℕ} (hj : j < 256) : at2 (srowOf v) 0 j = at2 v (j / 128) (j % 128) := by
  unfold at2; pointwise [srowOf]
  have e : j % 256 = j := Nat.mod_eq_of_lt hj
  have h' : ((Fin.ofNat 256 j : Fin 256) : ℕ) = j := e
  split
  · rename_i h
    rw [h'] at h
    congr 2
    · apply Fin.ext; show 0 = (j / 128) % 2; omega
    · apply Fin.ext; show j % 256 = (j % 128) % 128; omega
  · rename_i h
    rw [h'] at h
    congr 2
    · apply Fin.ext; show 1 = (j / 128) % 2; omega
    · apply Fin.ext; show j % 256 - 128 = (j % 128) % 128; omega

theorem fwd_at (x : FVec Ideal (Sh 768 2560) .fp8e4m3) (q : FVec Ideal (Sh 256 2560) .fp8e4m3) (n o : ℕ) :
    at2 (fwdOf x q) n o = ∑ k ∈ Finset.range 2560, (at2 x n k * at2 q o k : EReal) := by
  rw [Finset.sum_range]
  unfold at2; pointwise [fwdOf, dotF]
  refine Finset.sum_congr rfl fun k _ => ?_
  rw [show Fin.ofNat 2560 k.val = k from Fin.ext (Nat.mod_eq_of_lt k.isLt)]

theorem bwd_at (e : FVec Ideal (Sh 256 768) .bf16) (x : FVec Ideal (Sh 768 256) .fp8e4m3) (o i : ℕ) :
    at2 (bwdOf e x) o i = ∑ n ∈ Finset.range 768, (at2 e o n * at2 x n i : EReal) := by
  rw [Finset.sum_range]
  unfold at2; pointwise [bwdOf, dotB]
  refine Finset.sum_congr rfl fun k _ => ?_
  rw [show Fin.ofNat 768 k.val = k from Fin.ext (Nat.mod_eq_of_lt k.isLt)]

theorem err_at (b : Fin 6) (acc : 𝔸 768 256) (v : 𝔸 1 128) (srow : 𝔸 1 256) (y : FVec Ideal (Sh 128 256) .bf16) {n : ℕ} (hn : n < 128) (o : ℕ) :
    at2 (errOf (resOf b acc (xsOf v) srow y) (xsOf v)) n o = errS (at2 acc (128 * b.val + n) o) (at2 v 0 n) (at2 srow 0 o) (at2 y n o) := by
  have hx : ∀ j, at2 (xsOf v) n j = at2 v 0 n := rows_at v hn
  have e : at2 (errOf (resOf b acc (xsOf v) srow y) (xsOf v)) n o
      = errS (at2 acc (128 * b.val + n) o) (at2 (xsOf v) n o) (at2 srow 0 o) (at2 y n o) := by
    generalize xsOf v = xs
    unfold at2 errS; pointwise [errOf, resOf, fill, downRows]
    have h1 : ((Fin.ofNat 128 n : Fin 128) : ℕ) = n := Nat.mod_eq_of_lt hn
    have h2 : (⟨128 * b.val + ((Fin.ofNat 128 n : Fin 128) : ℕ), by rw [h1]; omega⟩ : Fin 768) = Fin.ofNat 768 (128 * b.val + n) :=
      Fin.ext (by show 128 * b.val + ((Fin.ofNat 128 n : Fin 128) : ℕ) = (128 * b.val + n) % 768; rw [h1]; omega)
    rw [h2]; rfl
  rw [e, hx]

theorem errT_at (e : Fin 6 → FVec Ideal (Sh 128 256) .bf16) (o : ℕ) {n : ℕ} (hn : n < 768) :
    at2 (errT (e 0) (e 1) (e 2) (e 3) (e 4) (e 5)) o n = at2 (e ⟨n / 128, by omega⟩) (n % 128) o := by
  unfold at2; pointwise [errT]
  have h1 : ((Fin.ofNat 768 n : Fin 768) : ℕ) = n := Nat.mod_eq_of_lt hn
  have key : ∀ (b : Fin 6) (k : ℕ) (hk : k < 128), b.val = n / 128 → k = n % 128 →
      e b (ix2 ⟨k, hk⟩ (Fin.ofNat 256 o)) = e ⟨n / 128, by omega⟩ (ix2 (Fin.ofNat 128 (n % 128)) (Fin.ofNat 256 o)) := by
    intro b k hk hb hk'
    have : b = ⟨n / 128, by omega⟩ := Fin.ext hb
    rw [← this]; congr 2; exact Fin.ext (by show k = n % 128 % 128; omega)
  split_ifs <;> (simp only [h1] at *) <;> apply key <;> (try simp only [Fin.isValue]) <;> omega

end Cert.Proof.FlexRound
end
-- ==== Proof.Phase.lean ====
/-
  What each phase of the kernel's body leaves in the buffers, element by element, over the extended reals.
-/
module

public import proofs.«01_k».proof.Proof.Read
public import proofs.«01_k».proof.Proof.Touch

@[expose] public section

set_option maxRecDepth 100000

noncomputable section

namespace Cert.Proof.FlexRound

open Idealize.ShloMosaic Idealize.SL.Sem

local notation "𝔸" => A Ideal

/-- A rectangle's contents. -/
def rd (s : St Ideal) (b : Bf) (r : Rect b.shp) : r.shape.Idx → Elt Ideal b.elt := fun k => s b (r.toLoadRect.idx k)

/-- The buffers after a store. -/
def wr (s : St Ideal) (b : Bf) (r : Rect b.shp) (v : r.shape.Idx → Elt Ideal b.elt) : St Ideal := Function.update s b (put r v (s b))

theorem wr_self (s : St Ideal) (b : Bf) (r : Rect b.shp) (v) : wr s b r v b = put r v (s b) := Function.update_self ..
theorem wr_ne (s : St Ideal) {b b' : Bf} (r : Rect b.shp) (v) (h : b' ≠ b) : wr s b r v b' = s b' := Function.update_of_ne h ..

theorem addf_at {R C : ℕ} [NeZero R] [NeZero C] (a b : 𝔸 R C) (n k : ℕ) : at2 (addf a b) n k = at2 a n k + at2 b n k := by
  unfold at2; pointwise []

/-! ## One column block of the epilogue and of the prologue -/

/-- The quotient of the prologue at a row and column of the column block. -/
def zP (i : Fin 10) (s : St Ideal) (s1c rc : 𝔸 128 256) : 𝔸 128 256 :=
  zOf s1c rc (rd s .s2 (R2 0 (256 * i.val) 128 256 (by omega) (by omega))) (rd s .c (R2 0 (256 * i.val) 1 256 (by omega) (by omega)))
    (rd s .w (R2 0 (256 * i.val) 128 256 (by omega) (by omega)))

section
variable (p : Bool) (rb : ℕ) (hrb : rb + 128 ≤ 256) (h4 : 4 ∣ rb) (i : Fin 10) (s : St Ideal)

theorem epi_run (ns1 : 𝔸 128 256) (a : 𝔸 128 128 × 𝔸 128 128) :
    ∃ v : 𝔸 8 256, (run (epiPart p rb hrb ns1 i a) s).2 = wr (wr (wr s .ds2 (R2 0 (256 * i.val) 128 256 (by omega) (by omega))
        (dOf ns1 (rd s (.z p) (R2 rb (256 * i.val) 128 256 hrb (by omega))) (rd s (.g p) (R2 rb (256 * i.val) 128 256 hrb (by omega)))))
      .da (R2 0 (256 * i.val) 8 256 (by omega) (by omega)) v) (.g p) (R2 rb (256 * i.val) 128 256 hrb (by omega))
        (shapeCast (Sh 128 256) (fill (F := Ideal) 128 256 0x00000000#32) (by decide)) := ⟨_, rfl⟩

theorem epi_val (ns1 : 𝔸 128 256) (a : 𝔸 128 128 × 𝔸 128 128) : (run (epiPart p rb hrb ns1 i a) s).1
    = (addf a.1 (halves (dOf ns1 (rd s (.z p) (R2 rb (256 * i.val) 128 256 hrb (by omega))) (rd s (.g p) (R2 rb (256 * i.val) 128 256 hrb (by omega))))),
      addf a.2 (halves (eOf (rd s (.z p) (R2 rb (256 * i.val) 128 256 hrb (by omega))) (rd s (.g p) (R2 rb (256 * i.val) 128 256 hrb (by omega)))
        (rd s (.q p) (R2 rb (256 * i.val) 128 256 hrb (by omega)))))) := rfl

theorem pro_run (s1c rc : 𝔸 128 256) :
    (run (proPart p rb hrb h4 s1c rc i) s).2 = wr (wr (wr s (.z p) (R2 rb (256 * i.val) 128 256 hrb (by omega))
        (shapeCast (Sh 128 256) (mzOf (zP i s s1c rc)) (by decide)))
      (.q p) (R2 rb (256 * i.val) 128 256 hrb (by omega))
        (shapeCast (Sh 128 256) (truncf .fp8e4m3 (qOf (zP i s s1c rc)) (by decide) : FVec Ideal (Sh 128 256) .fp8e4m3) (by decide)))
      .pk (R2 0 (128 * i.val) 128 128 (by omega) (by omega)) (pkOf (qOf (zP i s s1c rc))) := rfl

theorem epi_kept (ns1 : 𝔸 128 256) (a) {b : Bf} (hb : b ∉ ({.g p, .ds2, .da} : Finset Bf)) : (run (epiPart p rb hrb ns1 i a) s).2 b = s b :=
  run_kept _ (Only_epiPart ..) s hb

theorem pro_kept (s1c rc : 𝔸 128 256) {b : Bf} (hb : b ∉ ({.z p, .q p, .pk} : Finset Bf)) : (run (proPart p rb hrb h4 s1c rc i) s).2 b = s b :=
  run_kept _ (Only_proPart ..) s hb

theorem zP_at (s1c rc : 𝔸 128 256) {n k : ℕ} (hn : n < 128) (hk : k < 256) : at2 (zP i s s1c rc) n k
    = zS (at2 (s .w) n (256 * i.val + k)) (at2 s1c n k) (at2 (s .s2) n (256 * i.val + k)) (at2 rc n k) (at2 (s .c) 0 (256 * i.val + k)) := by
  unfold zP rd
  rw [zOf_at]
  erw [at2_ld _ _ _ hn hk, at2_ld _ _ _ hn hk, at2_ld _ _ _ (by omega) hk]
  simp only [Nat.zero_add]

theorem epi_ds2 (ns1 : 𝔸 128 256) (a) {n k : ℕ} (hn : n < 128) (hk : k < 2560) : at2 ((run (epiPart p rb hrb ns1 i a) s).2 .ds2) n k
    = if 256 * i.val ≤ k ∧ k < 256 * i.val + 256 then at2 ns1 n (k - 256 * i.val) * at2 (s (.z p)) (rb + n) k * at2 (s (.g p)) (rb + n) k
      else at2 (s .ds2) n k := by
  obtain ⟨v, e⟩ := epi_run p rb hrb i s ns1 a
  rw [e, wr_ne _ _ _ (by simp), wr_ne _ _ _ (by simp), wr_self, at2_put _ _ _ _ hn hk]
  refine if_ctx_congr ⟨fun h => h.2, fun h => ⟨⟨by omega, by omega⟩, h⟩⟩ (fun h => ?_) fun _ => rfl
  rw [dOf_at]
  unfold rd
  erw [at2_ld _ _ _ (by omega) (by omega), at2_ld _ _ _ (by omega) (by omega)]
  rw [show 256 * i.val + (k - 256 * i.val) = k by omega, Nat.sub_zero]

theorem epi_g (ns1 : 𝔸 128 256) (a) {n k : ℕ} (hn : n < 256) (hk : k < 2560) : at2 ((run (epiPart p rb hrb ns1 i a) s).2 (.g p)) n k
    = if (rb ≤ n ∧ n < rb + 128) ∧ (256 * i.val ≤ k ∧ k < 256 * i.val + 256) then (0 : EReal) else at2 (s (.g p)) n k := by
  obtain ⟨v, e⟩ := epi_run p rb hrb i s ns1 a
  rw [e, wr_self, wr_ne _ _ _ (by simp), wr_ne _ _ _ (by simp), at2_put _ _ _ _ hn hk, shapeCast_self]
  exact if_congr Iff.rfl (fill_at _ _) rfl

/-- What a column block adds to the two accumulators of row sums. -/
theorem epi_acc (ns1 : 𝔸 128 256) (a : 𝔸 128 128 × 𝔸 128 128) {n l : ℕ} (hn : n < 128) (hl : l < 128) :
    at2 (run (epiPart p rb hrb ns1 i a) s).1.1 n l = at2 a.1 n l
        + (at2 ns1 n l * at2 (s (.z p)) (rb + n) (256 * i.val + l) * at2 (s (.g p)) (rb + n) (256 * i.val + l)
          + at2 ns1 n (128 + l) * at2 (s (.z p)) (rb + n) (256 * i.val + (128 + l)) * at2 (s (.g p)) (rb + n) (256 * i.val + (128 + l)))
      ∧ at2 (run (epiPart p rb hrb ns1 i a) s).1.2 n l = at2 a.2 n l
        + (at2 (s (.g p)) (rb + n) (256 * i.val + l) * ((at2 (s (.q p)) (rb + n) (256 * i.val + l) : EReal) - at2 (s (.z p)) (rb + n) (256 * i.val + l))
          + at2 (s (.g p)) (rb + n) (256 * i.val + (128 + l)) * ((at2 (s (.q p)) (rb + n) (256 * i.val + (128 + l)) : EReal)
            - at2 (s (.z p)) (rb + n) (256 * i.val + (128 + l)))) := by
  rw [epi_val]
  constructor
  · refine (addf_at _ _ _ _).trans ?_
    rw [halves_at _ hn hl, dOf_at, dOf_at]
    unfold rd
    erw [at2_ld _ _ _ (by omega) (by omega), at2_ld _ _ _ (by omega) (by omega), at2_ld _ _ _ (by omega) (by omega), at2_ld _ _ _ (by omega) (by omega)]
  · refine (addf_at _ _ _ _).trans ?_
    rw [halves_at _ hn hl, eOf_at, eOf_at]
    unfold rd
    erw [at2_ld _ _ _ (by omega) (by omega), at2_ld _ _ _ (by omega) (by omega), at2_ld _ _ _ (by omega) (by omega), at2_ld _ _ _ (by omega) (by omega),
      at2_ld _ _ _ (by omega) (by omega), at2_ld _ _ _ (by omega) (by omega)]

theorem pro_z (s1c rc : 𝔸 128 256) {n k : ℕ} (hn : n < 256) (hk : k < 2560) : at2 ((run (proPart p rb hrb h4 s1c rc i) s).2 (.z p)) n k
    = if (rb ≤ n ∧ n < rb + 128) ∧ (256 * i.val ≤ k ∧ k < 256 * i.val + 256) then
        mzS (zS (at2 (s .w) (n - rb) k) (at2 s1c (n - rb) (k - 256 * i.val)) (at2 (s .s2) (n - rb) k) (at2 rc (n - rb) (k - 256 * i.val)) (at2 (s .c) 0 k))
      else at2 (s (.z p)) n k := by
  rw [pro_run, wr_ne _ _ _ (by simp), wr_ne _ _ _ (by simp), wr_self, at2_put _ _ _ _ hn hk, shapeCast_self]
  refine if_ctx_congr Iff.rfl (fun h => ?_) fun _ => rfl
  erw [mzOf_at, zP_at _ _ _ _ (by omega) (by omega)]
  rw [show 256 * i.val + (k - 256 * i.val) = k by omega]

theorem pro_q (s1c rc : 𝔸 128 256) {n k : ℕ} (hn : n < 256) (hk : k < 2560) : at2 ((run (proPart p rb hrb h4 s1c rc i) s).2 (.q p)) n k
    = if (rb ≤ n ∧ n < rb + 128) ∧ (256 * i.val ≤ k ∧ k < 256 * i.val + 256) then
        qS (zS (at2 (s .w) (n - rb) k) (at2 s1c (n - rb) (k - 256 * i.val)) (at2 (s .s2) (n - rb) k) (at2 rc (n - rb) (k - 256 * i.val)) (at2 (s .c) 0 k))
      else at2 (s (.q p)) n k := by
  rw [pro_run, wr_ne _ _ _ (by simp), wr_self, wr_ne _ _ _ (by simp), at2_put _ _ _ _ hn hk, shapeCast_self]
  refine if_ctx_congr Iff.rfl (fun h => ?_) fun _ => rfl
  refine (qOf_at (zP i s s1c rc) _ _).trans ?_
  rw [zP_at _ _ _ _ (by omega) (by omega), show 256 * i.val + (k - 256 * i.val) = k by omega]
end

/-- The two rows the epilogue's end writes. -/
theorem epiEnd_run (s : St Ideal) (k : ℕ) (hk : k + 1 ≤ 54) (a : 𝔸 128 128 × 𝔸 128 128) : (run (epiEnd k hk a) s).2
    = wr (wr s .dr (R2 k 0 1 128 hk (by omega)) (rowSums a.1)) .ds1 (R2 k 0 1 128 hk (by omega)) (rowSums a.2) := rfl

theorem epiEnd_at (s : St Ideal) (k : ℕ) (hk : k + 1 ≤ 54) (a : 𝔸 128 128 × 𝔸 128 128) {n l : ℕ} (hn : n < 54) (hl : l < 128) :
    (at2 ((run (epiEnd k hk a) s).2 .dr) n l : EReal) = (if n = k then ∑ j ∈ Finset.range 128, (at2 a.1 l j : EReal) else at2 (s .dr) n l)
      ∧ (at2 ((run (epiEnd k hk a) s).2 .ds1) n l : EReal) = if n = k then ∑ j ∈ Finset.range 128, (at2 a.2 l j : EReal) else at2 (s .ds1) n l := by
  rw [epiEnd_run]
  constructor
  · rw [wr_ne _ _ _ (by simp), wr_self, at2_put _ _ _ _ hn hl]
    refine if_ctx_congr (by omega) (fun h => ?_) fun _ => rfl
    subst h
    rw [Nat.sub_self, Nat.sub_zero]
    exact rowSums_at a.1 l
  · rw [wr_self, wr_ne _ _ _ (by simp), at2_put _ _ _ _ hn hl]
    refine if_ctx_congr (by omega) (fun h => ?_) fun _ => rfl
    subst h
    rw [Nat.sub_self, Nat.sub_zero]
    exact rowSums_at a.2 l

/-- The buffers after the first of six programs. -/
def after6 {α : Type} (f : Fin 6 → Acc Ideal α) (s : St Ideal) : ℕ → St Ideal
  | 0 => s
  | k + 1 => (run (f (Fin.ofNat 6 k)) (after6 f s k)).2

theorem run6 {α β : Type} (f : Fin 6 → Acc Ideal α) (g : α → α → α → α → α → α → β) (s : St Ideal) :
    (run (do
      let e0 ← f ⟨0, by decide⟩
      let e1 ← f ⟨1, by decide⟩
      let e2 ← f ⟨2, by decide⟩
      let e3 ← f ⟨3, by decide⟩
      let e4 ← f ⟨4, by decide⟩
      let e5 ← f ⟨5, by decide⟩
      pure (g e0 e1 e2 e3 e4 e5)) s).1
    = (fun e : Fin 6 → α => g (e 0) (e 1) (e 2) (e 3) (e 4) (e 5)) (fun b => (run (f b) (after6 f s b.val)).1) := by
  simp only [run_bind]; rfl

/-! ## A chunk's products, errors and additions to the gradient -/

section
variable (m : Bool) (P : Pt) (c : Fin 6) (s : St Ideal)

theorem fwd_state : (run (fwd m P c) s).2 = s := rfl

theorem fwd_val {n o : ℕ} (hn : n < 768) (ho : o < 256) : at2 (run (fwd m P c) s).1 n o
    = ∑ k ∈ Finset.range 2560, (at2 (s .x) (P.xo c + n) k * at2 (s (.q m)) o k : EReal) := by
  refine (fwd_at (rd s .x (R2 (P.xo c) 0 768 2560 (P.hxo c) (by omega))) (rd s (.q m) (R2 0 0 256 2560 (by omega) (by omega))) n o).trans ?_
  refine Finset.sum_congr rfl fun k hk => ?_
  have hk := Finset.mem_range.mp hk
  unfold rd
  erw [at2_ld _ _ _ hn hk, at2_ld _ _ _ ho hk]
  simp only [Nat.zero_add]

theorem bwd_run (e : FVec Ideal (Sh 256 768) .bf16) (i : Fin 10) :
    (run (bwd1 m P c e i) s).2 = wr s (.g m) (R2 0 (256 * i.val) 256 256 (by omega) (by omega))
      (shapeCast (Sh 256 256) (addf (rd s (.g m) (R2 0 (256 * i.val) 256 256 (by omega) (by omega)) : 𝔸 256 256)
        (bwdOf e (fun k => s .x ((R2 (R := 9216) (C := 2560) (P.xo c) 0 768 2560 (P.hxo c) (by omega)).emb
          ((R2 (R := 768) (C := 2560) 0 (256 * i.val) 768 256 (by omega) (by omega)).toLoadRect.idx k))))) (by decide)) := rfl

theorem bwd_g (e : FVec Ideal (Sh 256 768) .bf16) (i : Fin 10) {n k : ℕ} (hn : n < 256) (hk : k < 2560) : at2 ((run (bwd1 m P c e i) s).2 (.g m)) n k
    = if 256 * i.val ≤ k ∧ k < 256 * i.val + 256 then
        at2 (s (.g m)) n k + ∑ j ∈ Finset.range 768, (at2 e n j * at2 (s .x) (P.xo c + j) k : EReal)
      else at2 (s (.g m)) n k := by
  rw [bwd_run, wr_self, at2_put _ _ _ _ hn hk, shapeCast_self]
  refine if_ctx_congr ⟨fun h => h.2, fun h => ⟨⟨by omega, by omega⟩, h⟩⟩ (fun h => ?_) fun _ => rfl
  refine (addf_at _ _ _ _).trans ?_
  rw [bwd_at]
  unfold rd
  erw [at2_ld _ _ _ (by omega) (by omega)]
  rw [show 256 * i.val + (k - 256 * i.val) = k by omega, Nat.sub_zero, Nat.zero_add]
  refine congrArg (at2 (s (.g m)) n k + ·) (Finset.sum_congr rfl fun j hj => congrArg (at2 e n j * ·) ?_)
  have hj := Finset.mem_range.mp hj
  refine (at2_ld (R := 768) (C := 2560) (h := 768) (w := 256) (by omega) (by omega)
    (fun k => s .x ((R2 (R := 9216) (C := 2560) (P.xo c) 0 768 2560 (P.hxo c) (by omega)).emb k)) hj (by omega)).trans ?_
  refine (at2_ld (R := 9216) (C := 2560) (h := 768) (w := 2560) (P.hxo c) (by omega) (s .x) (by omega) (by omega)).trans ?_
  rw [show 256 * i.val + (k - 256 * i.val) = k by omega, Nat.zero_add, Nat.zero_add]

theorem bwd_kept (e : FVec Ideal (Sh 256 768) .bf16) (i : Fin 10) {b : Bf} (hb : b ≠ .g m) : (run (bwd1 m P c e i) s).2 b = s b :=
  run_kept _ (Only_bwd1 ..) s (by simpa using hb)

variable (srow : 𝔸 1 256) (acc : 𝔸 768 256)

theorem resid1_val (b : Fin 6) {n o : ℕ} (hn : n < 128) (ho : o < 256) : at2 (run (resid1 P srow c acc b) s).1 n o
    = errS (at2 acc (128 * b.val + n) o) (at2 (s .xs) (P.so c b) n) (at2 srow 0 o) (at2 (s .y) (768 * c.val + 128 * b.val + n) o) := by
  refine (err_at b acc (rd s .xs (R2 (P.so c b) 0 1 128 (P.hso c b) (by omega))) srow
    (rd s .y (R2 (768 * c.val + 128 * b.val) 0 128 256 (by omega) (by omega))) hn o).trans ?_
  unfold rd
  erw [at2_ld _ _ _ (by omega) hn, at2_ld _ _ _ hn ho]
  simp only [Nat.zero_add, Nat.add_zero]

/-- The buffers after a chunk's first blocks' residuals. -/
def afterResid : ℕ → St Ideal := after6 (resid1 P srow c acc) s

theorem afterResid_kept {b : Bf} (hb : b ≠ .la) (k : ℕ) : afterResid P c s srow acc k b = s b := by
  induction k with
  | zero => rfl
  | succ k ih => exact (run_kept _ (Only_resid1 ..) _ (by simpa using hb)).trans ih

theorem resid_run : (run (resid P srow c acc) s).1 =
    (fun e : Fin 6 → FVec Ideal (Sh 128 256) .bf16 => errT (e 0) (e 1) (e 2) (e 3) (e 4) (e 5))
      (fun b => (run (resid1 P srow c acc b) (afterResid P c s srow acc b.val)).1) := run6 (resid1 P srow c acc) errT s

theorem resid_val {n o : ℕ} (hn : n < 768) (ho : o < 256) : at2 (run (resid P srow c acc) s).1 o n
    = errS (at2 acc n o) (at2 (s .xs) (P.so c ⟨n / 128, by omega⟩) (n % 128)) (at2 srow 0 o) (at2 (s .y) (768 * c.val + n) o) := by
  rw [resid_run]
  refine (errT_at (fun b => (run (resid1 P srow c acc b) (afterResid P c s srow acc b.val)).1) o hn).trans ?_
  rw [resid1_val _ _ _ _ _ _ (by omega) ho, afterResid_kept _ _ _ _ _ (by simp), afterResid_kept _ _ _ _ _ (by simp)]
  show errS (at2 acc (128 * (n / 128) + n % 128) o) _ _ (at2 (s .y) (768 * c.val + 128 * (n / 128) + n % 128) o) = _
  rw [show 128 * (n / 128) + n % 128 = n by omega, show 768 * c.val + 128 * (n / 128) + n % 128 = 768 * c.val + n by omega]

theorem resid_kept {b : Bf} (hb : b ≠ .la) : (run (resid P srow c acc) s).2 b = s b :=
  run_kept _ (Only_resid ..) s (by simpa using hb)
end

end Cert.Proof.FlexRound
end
-- ==== Proof.Walk.lean ====
/-
  What a grid point of the kernel leaves in the buffers, over the extended reals: the phases chained.
-/
module

public import proofs.«01_k».proof.Proof.Phase

@[expose] public section

set_option maxRecDepth 100000

noncomputable section

namespace Cert.Proof.FlexRound

open Idealize.ShloMosaic Idealize.SL.Sem

local notation "𝔸" => A Ideal

/-- A program at each of consecutive numbers carries a predicate from the first to past the last. -/
theorem each_inv {J : ℕ → St Ideal → Prop} {f : Fin 10 → Acc Ideal PUnit} (h : ∀ i s, J i.val s → J (i.val + 1) (run (f i) s).2) (l : List (Fin 10)) :
    ∀ (d : ℕ) (s : St Ideal), l.map Fin.val = List.range' d l.length → J d s → J (d + l.length) (run (each l f) s).2 := by
  induction l with
  | nil => exact fun d s _ hs => hs
  | cons i l ih =>
    intro d s hl hs
    rw [List.map_cons, List.length_cons, List.range'_succ, List.cons.injEq] at hl
    have e : (run (each (i :: l) f) s).2 = (run (each l f) (run (f i) s).2).2 := congrArg Prod.snd (run_bind (f i) (fun _ => each l f) s)
    rw [e, List.length_cons, show d + (l.length + 1) = d + 1 + l.length by omega]
    exact ih (d + 1) _ hl.2 (hl.1 ▸ h i s (hl.1 ▸ hs))

theorem thread_inv {σ : Type} {J : ℕ → σ → St Ideal → Prop} {f : Fin 10 → σ → Acc Ideal σ}
    (h : ∀ i a s, J i.val a s → J (i.val + 1) (run (f i a) s).1 (run (f i a) s).2)
    (l : List (Fin 10)) : ∀ (d : ℕ) (s : St Ideal) (a : σ), l.map Fin.val = List.range' d l.length → J d a s →
      J (d + l.length) (run (thread l f a) s).1 (run (thread l f a) s).2 := by
  induction l with
  | nil => exact fun d s _ _ hs => hs
  | cons i l ih =>
    intro d s a hl hs
    rw [List.map_cons, List.length_cons, List.range'_succ, List.cons.injEq] at hl
    have e : run (thread (i :: l) f a) s = run (thread l f (run (f i a) s).1) (run (f i a) s).2 := run_bind (f i a) (fun a' => thread l f a') s
    rw [e, List.length_cons, show d + (l.length + 1) = d + 1 + l.length by omega]
    exact ih (d + 1) _ _ hl.2 (hl.1 ▸ h i a s (hl.1 ▸ hs))

/-- The sum of ten column blocks' halves, lane by lane, is the sum along the row. -/
theorem sum_halves (f : ℕ → EReal) (n : ℕ) : ∑ j ∈ Finset.range 128, ∑ i ∈ Finset.range n, (f (256 * i + j) + f (256 * i + (128 + j)))
    = ∑ k ∈ Finset.range (256 * n), f k := by
  induction n with
  | zero => simp
  | succ n ih =>
    rw [Finset.sum_congr rfl fun j _ => Finset.sum_range_succ (fun i => f (256 * i + j) + f (256 * i + (128 + j))) n, Finset.sum_add_distrib, ih,
      show 256 * (n + 1) = 256 * n + (128 + 128) by ring, Finset.sum_range_add _ (256 * n), Finset.sum_range_add _ 128 128, Finset.sum_add_distrib]

/-! ## What the phases compute, from the buffers at the grid point's start -/

section
variable (p m : Bool) (P : Pt) (X0 S0 : ℕ) (s0 : St Ideal) (srow : 𝔸 1 256)

/-- The prologue's quotient. -/
def ZV (n k : ℕ) : EReal := zS (at2 (s0 .w) n k) (at2 (s0 .s1) P.kp n) (at2 (s0 .s2) n k) (at2 (s0 .r) P.kp n) (at2 (s0 .c) 0 k)

/-- The epilogue's scale gradient. -/
def DV (n k : ℕ) : EReal := (0 - at2 (s0 .s1) P.ke n) * at2 (s0 (.z p)) (P.rb + n) k * at2 (s0 (.g p)) (P.rb + n) k

/-- The epilogue's addend of the row scale's gradient. -/
def SV (n k : ℕ) : EReal := at2 (s0 (.g p)) (P.rb + n) k * ((at2 (s0 (.q p)) (P.rb + n) k : EReal) - at2 (s0 (.z p)) (P.rb + n) k)

/-- The two accumulators of row sums over the first column blocks. -/
def AInv (d : ℕ) (a : 𝔸 128 128 × 𝔸 128 128) : Prop := ∀ n < 128, ∀ l < 128,
  (at2 a.1 n l : EReal) = ∑ i ∈ Finset.range d, (DV p P s0 n (256 * i + l) + DV p P s0 n (256 * i + (128 + l)))
  ∧ (at2 a.2 n l : EReal) = ∑ i ∈ Finset.range d, (SV p P s0 n (256 * i + l) + SV p P s0 n (256 * i + (128 + l)))

/-- The two rows of row sums written. -/
def RInv (s : St Ideal) : Prop := ∀ n < 54, ∀ l < 128,
  (at2 (s .dr) n l : EReal) = (if n = P.ke then ∑ k ∈ Finset.range 2560, DV p P s0 l k else at2 (s0 .dr) n l)
  ∧ (at2 (s .ds1) n l : EReal) = if n = P.ke then ∑ k ∈ Finset.range 2560, SV p P s0 l k else at2 (s0 .ds1) n l

/-- The main phase's code of a token. -/
def XV (n k : ℕ) : EReal := at2 (s0 .x) (X0 + n) k

/-- The main phase's error of a token. -/
def EV (n o : ℕ) : EReal :=
  errS (∑ k ∈ Finset.range 2560, XV X0 s0 n k * (at2 (s0 (.q m)) o k : EReal)) (at2 (s0 .xs) (S0 + n / 128) (n % 128)) (at2 srow 0 o) (at2 (s0 .y) n o)

/-- The main phase's gradient over the first chunks. -/
def GV (K o k : ℕ) : EReal := ∑ n ∈ Finset.range (768 * K), EV m X0 S0 s0 srow n o * XV X0 s0 n k

/-- The prologue done on the first columns. -/
def PInv (d : ℕ) (s : St Ideal) : Prop := ∀ n < 256, ∀ k < 2560,
  (at2 (s (.z p)) n k : EReal) = (if (P.rb ≤ n ∧ n < P.rb + 128) ∧ k < 256 * d then mzS (ZV P s0 (n - P.rb) k) else at2 (s0 (.z p)) n k)
  ∧ (at2 (s (.q p)) n k : EReal) = (if (P.rb ≤ n ∧ n < P.rb + 128) ∧ k < 256 * d then qS (ZV P s0 (n - P.rb) k) else at2 (s0 (.q p)) n k)

/-- The epilogue done on the first columns. -/
def EInv (d : ℕ) (s : St Ideal) : Prop :=
  (∀ n < 128, ∀ k < 2560, k < 256 * d → (at2 (s .ds2) n k : EReal) = DV p P s0 n k)
  ∧ ∀ n < 256, ∀ k < 2560, (at2 (s (.g p)) n k : EReal)
    = if (P.rb ≤ n ∧ n < P.rb + 128) ∧ k < 256 * d then (0 : EReal) else at2 (s0 (.g p)) n k

/-- The gradient of the first chunks added, and of the next one on the first columns. -/
def GInv (K d : ℕ) (s : St Ideal) : Prop := ∀ n < 256, ∀ k < 2560,
  (at2 (s (.g m)) n k : EReal) = at2 (s0 (.g m)) n k + (if k < 256 * d then GV m X0 S0 s0 srow (K + 1) n k else GV m X0 S0 s0 srow K n k)

variable {p m P X0 S0 s0 srow}

theorem PInv.of_eq {d : ℕ} {s s' : St Ideal} (H : PInv p P s0 d s) (hz : s' (.z p) = s (.z p)) (hq : s' (.q p) = s (.q p)) : PInv p P s0 d s' := by
  intro n hn k hk; rw [hz, hq]; exact H n hn k hk

theorem EInv.of_eq {d : ℕ} {s s' : St Ideal} (H : EInv p P s0 d s) (hd : s' .ds2 = s .ds2) (hg : s' (.g p) = s (.g p)) : EInv p P s0 d s' := by
  unfold EInv; rw [hd, hg]; exact H

theorem GInv.of_eq {K d : ℕ} {s s' : St Ideal} (H : GInv m X0 S0 s0 srow K d s) (hg : s' (.g m) = s (.g m)) : GInv m X0 S0 s0 srow K d s' := by
  intro n hn k hk; rw [hg]; exact H n hn k hk

theorem PInv.zero : PInv p P s0 0 s0 := fun n _ k _ => ⟨(if_neg (by omega)).symm, (if_neg (by omega)).symm⟩
theorem EInv.zero : EInv p P s0 0 s0 := ⟨fun n _ k _ h => absurd h (by omega), fun n _ k _ => (if_neg (by omega)).symm⟩
theorem GInv.zero : GInv m X0 S0 s0 srow 0 0 s0 := fun n _ k _ => by
  rw [if_neg (by omega)]; unfold GV; rw [Nat.mul_zero, Finset.sum_range_zero, add_zero]

theorem pro_step (v r : 𝔸 1 128) (hv : ∀ n < 128, at2 v 0 n = at2 (s0 .s1) P.kp n) (hr : ∀ n < 128, at2 r 0 n = at2 (s0 .r) P.kp n)
    (i : Fin 10) (s : St Ideal) (hw : s .w = s0 .w) (hs2 : s .s2 = s0 .s2) (hc : s .c = s0 .c) (H : PInv p P s0 i.val s) :
    PInv p P s0 (i.val + 1) (run (proPart p P.rb P.hrb P.hrb4 (twice (lanes v)) (twice (lanes r)) i) s).2 := by
  intro n hn k hk
  obtain ⟨h1, h2⟩ := H n hn k hk
  rw [pro_z _ _ _ _ _ _ _ _ hn hk, pro_q _ _ _ _ _ _ _ _ hn hk, h1, h2]
  by_cases hr' : P.rb ≤ n ∧ n < P.rb + 128
  · rw [rows_at v (by omega), rows_at r (by omega), hv _ (by omega), hr _ (by omega), hw, hs2, hc]
    simp only [hr', true_and, and_true]
    have e := Nat.lt_or_ge k (256 * i.val)
    constructor <;> (split_ifs <;> first | rfl | omega)
  · constructor <;> simp only [hr', false_and, if_false]

theorem epi_step (v : 𝔸 1 128) (hv : ∀ n < 128, at2 v 0 n = at2 (s0 .s1) P.ke n) (i : Fin 10) (a) (s : St Ideal)
    (hz : ∀ n < 128, ∀ k < 2560, 256 * i.val ≤ k → (at2 (s (.z p)) (P.rb + n) k : EReal) = at2 (s0 (.z p)) (P.rb + n) k) (H : EInv p P s0 i.val s) :
    EInv p P s0 (i.val + 1) (run (epiPart p P.rb P.hrb (negLanes v) i a) s).2 := by
  have hb := P.hrb
  refine ⟨fun n hn k hk hd => ?_, fun n hn k hk => ?_⟩
  · rw [epi_ds2 _ _ _ _ _ _ _ hn hk]
    split
    · rename_i h
      rw [negRows_at v hn, hv n hn]
      erw [hz n hn k hk h.1, H.2 (P.rb + n) (by omega) k hk]
      rw [if_neg (by omega)]
      rfl
    · exact H.1 n hn k hk (by omega)
  · rw [epi_g _ _ _ _ _ _ _ hn hk, H.2 n hn k hk]
    split_ifs <;> first | rfl | omega

theorem AInv.zero : AInv p P s0 0 (fill 128 128 0x00000000#32, fill 128 128 0x00000000#32) := fun n _ l _ => by
  rw [Finset.sum_range_zero, Finset.sum_range_zero]; exact ⟨fill0_at n l, fill0_at n l⟩

theorem acc_step (v : 𝔸 1 128) (hv : ∀ n < 128, at2 v 0 n = at2 (s0 .s1) P.ke n) (i : Fin 10) (a) (s : St Ideal)
    (hz : ∀ n < 128, ∀ k < 2560, 256 * i.val ≤ k → (at2 (s (.z p)) (P.rb + n) k : EReal) = at2 (s0 (.z p)) (P.rb + n) k)
    (hq : ∀ n < 128, ∀ k < 2560, 256 * i.val ≤ k → (at2 (s (.q p)) (P.rb + n) k : EReal) = at2 (s0 (.q p)) (P.rb + n) k)
    (H : EInv p P s0 i.val s) (A : AInv p P s0 i.val a) : AInv p P s0 (i.val + 1) (run (epiPart p P.rb P.hrb (negLanes v) i a) s).1 := by
  have hb := P.hrb
  intro n hn l hl
  have hg : ∀ k < 2560, 256 * i.val ≤ k → (at2 (s (.g p)) (P.rb + n) k : EReal) = at2 (s0 (.g p)) (P.rb + n) k := fun k hk h => by
    rw [H.2 (P.rb + n) (by omega) k hk, if_neg (by omega)]
  have e := epi_acc p P.rb P.hrb i s (negLanes v) a hn hl
  rw [Finset.sum_range_succ, Finset.sum_range_succ]
  constructor
  · refine e.1.trans ?_
    rw [negRows_at v hn, negRows_at v hn, hv n hn]
    erw [(A n hn l hl).1, hz n hn _ (by omega) (by omega), hz n hn _ (by omega) (by omega), hg _ (by omega) (by omega), hg _ (by omega) (by omega)]
    rfl
  · refine e.2.trans ?_
    erw [(A n hn l hl).2, hz n hn _ (by omega) (by omega), hz n hn _ (by omega) (by omega), hg _ (by omega) (by omega), hg _ (by omega) (by omega),
      hq n hn _ (by omega) (by omega), hq n hn _ (by omega) (by omega)]
    rfl

theorem rows_step (a) (s : St Ideal) (A : AInv p P s0 10 a) (h1 : s .dr = s0 .dr) (h2 : s .ds1 = s0 .ds1) :
    RInv p P s0 (run (epiEnd P.ke P.hke a) s).2 := by
  intro n hn l hl
  have e := epiEnd_at s P.ke P.hke a hn hl
  rw [e.1, e.2, h1, h2]
  refine ⟨if_congr Iff.rfl ?_ rfl, if_congr Iff.rfl ?_ rfl⟩
  · exact (Finset.sum_congr rfl fun j hj => (A l hl j (Finset.mem_range.1 hj)).1).trans (sum_halves _ 10)
  · exact (Finset.sum_congr rfl fun j hj => (A l hl j (Finset.mem_range.1 hj)).2).trans (sum_halves _ 10)

theorem bwd_step (c : Fin 6) (hx : ∀ c, P.xo c = X0 + 768 * c.val) (e : FVec Ideal (Sh 256 768) .bf16)
    (he : ∀ n < 768, ∀ o < 256, (at2 e o n : EReal) = EV m X0 S0 s0 srow (768 * c.val + n) o)
    (i : Fin 10) (s : St Ideal) (hsx : s .x = s0 .x) (H : GInv m X0 S0 s0 srow c.val i.val s) :
    GInv m X0 S0 s0 srow c.val (i.val + 1) (run (bwd1 m P c e i) s).2 := by
  intro n hn k hk
  rw [bwd_g _ _ _ _ _ _ hn hk, H n hn k hk]
  by_cases h : 256 * i.val ≤ k ∧ k < 256 * i.val + 256
  · rw [if_pos h, if_neg (by omega), if_pos (by omega), add_assoc]
    congr 1
    unfold GV
    rw [show 768 * (c.val + 1) = 768 * c.val + 768 by ring, Finset.sum_range_add]
    congr 1
    refine Finset.sum_congr rfl fun j hj => ?_
    rw [he j (Finset.mem_range.mp hj) n hn, hsx, hx]
    unfold XV
    rw [Nat.add_assoc]
  · rw [if_neg h]
    congr 1
    have := h
    split_ifs <;> first | rfl | omega

theorem bwd_all (c : Fin 6) (hx : ∀ c, P.xo c = X0 + 768 * c.val) (e : FVec Ideal (Sh 256 768) .bf16)
    (he : ∀ n < 768, ∀ o < 256, (at2 e o n : EReal) = EV m X0 S0 s0 srow (768 * c.val + n) o)
    (s : St Ideal) (hsx : s .x = s0 .x) (H : GInv m X0 S0 s0 srow c.val 0 s) :
    GInv m X0 S0 s0 srow (c.val + 1) 0 (run (each cols (bwd1 m P c e)) s).2 := by
  have h := each_inv (J := fun d s => GInv m X0 S0 s0 srow c.val d s ∧ s .x = s0 .x) (f := bwd1 m P c e)
    (fun i s hs => ⟨bwd_step c hx e he i s hs.2 hs.1, (bwd_kept m P c s e i (by simp)).trans hs.2⟩) cols 0 s rfl ⟨H, hsx⟩
  intro n hn k hk
  rw [h.1 n hn k hk, if_pos (show k < 256 * (0 + cols.length) from hk), if_neg (by omega)]

theorem bwd_all_kept (c : Fin 6) (e : FVec Ideal (Sh 256 768) .bf16) (s : St Ideal) {b : Bf} (hb : b ≠ .g m) :
    (run (each cols (bwd1 m P c e)) s).2 b = s b :=
  run_kept _ (Only_each _ fun i => Only_bwd1 m P c e i) s (by simpa using hb)

theorem err_val (c : Fin 6) (hx : ∀ c, P.xo c = X0 + 768 * c.val) (hs : ∀ c b, P.so c b = S0 + 6 * c.val + b.val) (s s' : St Ideal)
    (h1 : s .x = s0 .x) (h2 : s (.q m) = s0 (.q m)) (h3 : s' .xs = s0 .xs) (h4 : s' .y = s0 .y) {n o : ℕ} (hn : n < 768) (ho : o < 256) :
    (at2 (run (resid P srow c (run (fwd m P c) s).1) s').1 o n : EReal) = EV m X0 S0 s0 srow (768 * c.val + n) o := by
  rw [resid_val _ _ _ _ _ hn ho, fwd_val _ _ _ _ hn ho, h1, h2, h3, h4, hs, hx]
  unfold EV XV
  rw [show S0 + 6 * c.val + (⟨n / 128, by omega⟩ : Fin 6).val = S0 + (768 * c.val + n) / 128 by show S0 + 6 * c.val + n / 128 = _; omega,
    show n % 128 = (768 * c.val + n) % 128 by omega]
  simp only [Nat.add_assoc]

/-! ## A middle grid point -/

theorem run_ld {β : Type} (b : Bf) (r : Rect b.shp) (h : 0 < r.shape.numel) (k : (r.shape.Idx → Elt Ideal b.elt) → Acc Ideal β) (s : St Ideal) :
    (run (ld b r h >>= k) s).2 = (run (k (rd s b r)) s).2 := rfl

theorem out_step {b : Bf} (hb : b ∉ stepOuts p m) : b ∉ ({.dr, .ds1} : Finset Bf) :=
  fun h => hb (by simp only [Finset.mem_insert, Finset.mem_singleton] at h ⊢; tauto)

theorem out_epi {b : Bf} (hb : b ∉ ({.g p, .ds2, .da, .dr, .ds1} : Finset Bf)) :
    b ∉ ({.dr, .ds1} : Finset Bf) ∧ b ∉ ({.g p, .ds2, .da} : Finset Bf) :=
  ⟨fun h => hb (by simp only [Finset.mem_insert, Finset.mem_singleton] at h ⊢; tauto),
    fun h => hb (by simp only [Finset.mem_insert, Finset.mem_singleton] at h ⊢; tauto)⟩

variable (p m P X0 S0 s0 srow) in
/-- A middle grid point with `K` chunks of its gradient added and its side work done on `d` column blocks. -/
structure Mid (K d : ℕ) (s : St Ideal) : Prop where
  pro : PInv p P s0 d s
  epi : EInv p P s0 d s
  main : GInv m X0 S0 s0 srow K 0 s
  dr : s .dr = s0 .dr
  ds1 : s .ds1 = s0 .ds1
  kept : ∀ b, b ∉ stepOuts p m → s b = s0 b

theorem mid_side (hpm : p ≠ m) (v v' r : 𝔸 1 128) (hv : ∀ n < 128, at2 v 0 n = at2 (s0 .s1) P.ke n)
    (hv' : ∀ n < 128, at2 v' 0 n = at2 (s0 .s1) P.kp n) (hr : ∀ n < 128, at2 r 0 n = at2 (s0 .r) P.kp n) (l : List (Fin 10)) {K d : ℕ}
    (hl : l.map Fin.val = List.range' d l.length) (a) (s : St Ideal) (A : AInv p P s0 d a) (H : Mid p m P X0 S0 s0 srow K d s) :
    AInv p P s0 (d + l.length) (run (side p P (negLanes v) (twice (lanes v')) (twice (lanes r)) l a) s).1
      ∧ Mid p m P X0 S0 s0 srow K (d + l.length) (run (side p P (negLanes v) (twice (lanes v')) (twice (lanes r)) l a) s).2 := by
  refine thread_inv (J := fun d a s => AInv p P s0 d a ∧ Mid p m P X0 S0 s0 srow K d s) (fun i a s H => ?_) l d s a hl ⟨A, H⟩
  obtain ⟨A, H⟩ := H
  refine ⟨acc_step v hv i a s (fun n hn k hk hik => by rw [(H.pro (P.rb + n) (by have := P.hrb; omega) k hk).1, if_neg (by omega)])
    (fun n hn k hk hik => by rw [(H.pro (P.rb + n) (by have := P.hrb; omega) k hk).2, if_neg (by omega)]) H.epi A, ?_⟩
  show Mid p m P X0 S0 s0 srow K (i.val + 1) (run (proPart p P.rb P.hrb P.hrb4 (twice (lanes v')) (twice (lanes r)) i)
    (run (epiPart p P.rb P.hrb (negLanes v) i a) s).2).2
  have ke : ∀ b, b ∉ ({.g p, .ds2, .da} : Finset Bf) → (run (epiPart p P.rb P.hrb (negLanes v) i a) s).2 b = s b :=
    fun b hb => epi_kept p P.rb P.hrb i s (negLanes v) a hb
  generalize hs1 : (run (epiPart p P.rb P.hrb (negLanes v) i a) s).2 = s1 at ke ⊢
  have he : EInv p P s0 (i.val + 1) s1 := by
    rw [← hs1]
    refine epi_step v hv i a s (fun n hn k hk hik => ?_) H.epi
    rw [(H.pro (P.rb + n) (by have := P.hrb; omega) k hk).1, if_neg (by omega)]
  have kp : ∀ b, b ∉ ({.z p, .q p, .pk} : Finset Bf) →
      (run (proPart p P.rb P.hrb P.hrb4 (twice (lanes v')) (twice (lanes r)) i) s1).2 b = s1 b :=
    fun b hb => pro_kept p P.rb P.hrb P.hrb4 i s1 _ _ hb
  have k0 : ∀ b, b ∉ stepOuts p m → s1 b = s0 b := fun b hb =>
    (ke b (fun h => hb (by simp only [Finset.mem_insert, Finset.mem_singleton] at h ⊢; tauto))).trans (H.kept b hb)
  refine ⟨pro_step v' r hv' hr i s1 (k0 _ (by simp)) (k0 _ (by simp)) (k0 _ (by simp)) (H.pro.of_eq (ke _ (by simp)) (ke _ (by simp))),
    he.of_eq (kp _ (by simp)) (kp _ (by simp)), H.main.of_eq ((kp _ (by simp)).trans (ke _ (by simp [Ne.symm hpm]))),
    (kp _ (by simp)).trans ((ke _ (by simp)).trans H.dr), (kp _ (by simp)).trans ((ke _ (by simp)).trans H.ds1), fun b hb => ?_⟩
  exact (kp b (fun h => hb (by simp only [Finset.mem_insert, Finset.mem_singleton] at h ⊢; tauto))).trans (k0 b hb)

theorem chunk_run (ns1 s1c rc : 𝔸 128 256) (c c' : Fin 6) (l : List (Fin 10)) (e : FVec Ideal (Sh 256 768) .bf16) (a) (s : St Ideal) :
    run (chunk p m P ns1 s1c rc srow c c' l (e, a)) s
      = (((run (resid P srow c' (run (fwd m P c') s).1) (run (side p P ns1 s1c rc l a) (run (each cols (bwd1 m P c e)) s).2).2).1,
          (run (side p P ns1 s1c rc l a) (run (each cols (bwd1 m P c e)) s).2).1),
        (run (resid P srow c' (run (fwd m P c') s).1) (run (side p P ns1 s1c rc l a) (run (each cols (bwd1 m P c e)) s).2).2).2) := by
  simp only [chunk, run_bind, fwd_state]; rfl

theorem mid_bwd (hpm : p ≠ m) (hx : ∀ c, P.xo c = X0 + 768 * c.val) (c : Fin 6) {d : ℕ} (e : FVec Ideal (Sh 256 768) .bf16)
    (he : ∀ n < 768, ∀ o < 256, (at2 e o n : EReal) = EV m X0 S0 s0 srow (768 * c.val + n) o) (s : St Ideal)
    (H : Mid p m P X0 S0 s0 srow c.val d s) : Mid p m P X0 S0 s0 srow (c.val + 1) d (run (each cols (bwd1 m P c e)) s).2 := by
  have k : ∀ b, b ≠ .g m → (run (each cols (bwd1 m P c e)) s).2 b = s b := fun b hb => bwd_all_kept c e s hb
  refine ⟨H.pro.of_eq (k _ (by simp)) (k _ (by simp)), H.epi.of_eq (k _ (by simp)) (k _ (by simp [hpm])),
    bwd_all c hx e he s (H.kept _ (by simp)) H.main, (k _ (by simp)).trans H.dr, (k _ (by simp)).trans H.ds1, fun b hb => (k b fun h => hb (by simp [h])).trans (H.kept b hb)⟩

theorem mid_resid (hpm : p ≠ m) (c : Fin 6) {K d : ℕ} (acc) (s : St Ideal) (H : Mid p m P X0 S0 s0 srow K d s) :
    Mid p m P X0 S0 s0 srow K d (run (resid P srow c acc) s).2 := by
  have k : ∀ b, b ≠ .la → (run (resid P srow c acc) s).2 b = s b := fun b hb => resid_kept P c s srow acc hb
  exact ⟨H.pro.of_eq (k _ (by simp)) (k _ (by simp)), H.epi.of_eq (k _ (by simp)) (k _ (by simp)), H.main.of_eq (k _ (by simp)),
    (k _ (by simp)).trans H.dr, (k _ (by simp)).trans H.ds1, fun b hb => (k b fun h => hb (by simp [h])).trans (H.kept b hb)⟩

theorem mid_chunk (hpm : p ≠ m) (hx : ∀ c, P.xo c = X0 + 768 * c.val) (hs : ∀ c b, P.so c b = S0 + 6 * c.val + b.val) (v v' r : 𝔸 1 128)
    (hv : ∀ n < 128, at2 v 0 n = at2 (s0 .s1) P.ke n) (hv' : ∀ n < 128, at2 v' 0 n = at2 (s0 .s1) P.kp n)
    (hr : ∀ n < 128, at2 r 0 n = at2 (s0 .r) P.kp n) (c c' : Fin 6) (l : List (Fin 10)) {d : ℕ} (hl : l.map Fin.val = List.range' d l.length)
    (x : (FVec Ideal (Sh 256 768) .bf16 × (𝔸 128 128 × 𝔸 128 128)) × St Ideal)
    (H : (∀ n < 768, ∀ o < 256, (at2 x.1.1 o n : EReal) = EV m X0 S0 s0 srow (768 * c.val + n) o) ∧ AInv p P s0 d x.1.2 ∧ Mid p m P X0 S0 s0 srow c.val d x.2) :
    (fun y => (∀ n < 768, ∀ o < 256, (at2 y.1.1 o n : EReal) = EV m X0 S0 s0 srow (768 * c'.val + n) o)
      ∧ AInv p P s0 (d + l.length) y.1.2 ∧ Mid p m P X0 S0 s0 srow (c.val + 1) (d + l.length) y.2)
      (run (chunk p m P (negLanes v) (twice (lanes v')) (twice (lanes r)) srow c c' l x.1) x.2) := by
  obtain ⟨⟨e, a⟩, s⟩ := x
  rw [chunk_run]
  have h1 := mid_bwd hpm hx c e H.1 s H.2.2
  have h2' := mid_side hpm v v' r hv hv' hr l hl a _ H.2.1 h1
  have h2 := h2'.2
  refine ⟨fun n hn o ho => ?_, h2'.1, mid_resid hpm c' _ _ h2⟩
  exact err_val c' hx hs s _ (H.2.2.kept _ (by simp)) (H.2.2.kept _ (by simp [Ne.symm hpm])) (h2.kept _ (by simp)) (h2.kept _ (by simp)) hn ho

/-- What a middle grid point leaves. -/
structure StepPost (p m : Bool) (P : Pt) (X0 S0 : ℕ) (srow : 𝔸 1 256) (s0 s : St Ideal) : Prop where
  pro : PInv p P s0 10 s
  epi : EInv p P s0 10 s
  main : GInv m X0 S0 s0 srow 6 0 s
  rows : RInv p P s0 s
  kept : ∀ b, b ∉ stepOuts p m → s b = s0 b

theorem step_post (hpm : p ≠ m) (hx : ∀ c, P.xo c = X0 + 768 * c.val) (hs : ∀ c b, P.so c b = S0 + 6 * c.val + b.val) (k1 : ℕ) (hk1 : k1 + 2 ≤ 54) :
    StepPost p m P X0 S0 (srowOf (rd s0 .s1 (R2 k1 0 2 128 hk1 (by omega)))) s0 (run (step p m P k1 hk1) s0).2 := by
  have hv (k : ℕ) (hk : k + 1 ≤ 54) : ∀ n < 128, at2 (rd s0 .s1 (R2 k 0 1 128 hk (by omega))) 0 n = at2 (s0 .s1) k n := fun n hn => by
    unfold rd; erw [at2_ld _ _ _ (by omega) hn]; simp only [Nat.zero_add, Nat.add_zero]
  have hr : ∀ n < 128, at2 (rd s0 .r (R2 P.kp 0 1 128 P.hkp (by omega))) 0 n = at2 (s0 .r) P.kp n := fun n hn => by
    unfold rd; erw [at2_ld _ _ _ (by omega) hn]; simp only [Nat.zero_add, Nat.add_zero]
  generalize e1 : rd s0 .s1 (R2 P.kp 0 1 128 P.hkp (by omega)) = v' at *
  have hv1 := hv P.ke P.hke
  have hv2 := hv P.kp P.hkp
  rw [e1] at hv2
  generalize e2 : rd s0 .s1 (R2 P.ke 0 1 128 P.hke (by omega)) = v at *
  generalize e3 : rd s0 .r (R2 P.kp 0 1 128 P.hkp (by omega)) = r at *
  generalize e4 : srowOf (F := Ideal) (rd s0 .s1 (R2 k1 0 2 128 hk1 (by omega))) = sr at *
  obtain ⟨y0, hy0⟩ : ∃ y, y = run (resid P sr ⟨0, by decide⟩ (run (fwd m P ⟨0, by decide⟩) s0).1) s0 := ⟨_, rfl⟩
  obtain ⟨y1, hy1⟩ : ∃ y, y = run (chunk p m P (negLanes v) (twice (lanes v')) (twice (lanes r)) sr ⟨0, by decide⟩ ⟨1, by decide⟩ [⟨0, by decide⟩]
    (y0.1, (fill 128 128 0x00000000#32, fill 128 128 0x00000000#32))) y0.2 := ⟨_, rfl⟩
  obtain ⟨y2, hy2⟩ : ∃ y, y = run (chunk p m P (negLanes v) (twice (lanes v')) (twice (lanes r)) sr ⟨1, by decide⟩ ⟨2, by decide⟩
    [⟨1, by decide⟩, ⟨2, by decide⟩] y1.1) y1.2 := ⟨_, rfl⟩
  obtain ⟨y3, hy3⟩ : ∃ y, y = run (chunk p m P (negLanes v) (twice (lanes v')) (twice (lanes r)) sr ⟨2, by decide⟩ ⟨3, by decide⟩
    [⟨3, by decide⟩, ⟨4, by decide⟩] y2.1) y2.2 := ⟨_, rfl⟩
  obtain ⟨y4, hy4⟩ : ∃ y, y = run (chunk p m P (negLanes v) (twice (lanes v')) (twice (lanes r)) sr ⟨3, by decide⟩ ⟨4, by decide⟩
    [⟨5, by decide⟩] y3.1) y3.2 := ⟨_, rfl⟩
  obtain ⟨y5, hy5⟩ : ∃ y, y = run (chunk p m P (negLanes v) (twice (lanes v')) (twice (lanes r)) sr ⟨4, by decide⟩ ⟨5, by decide⟩
    [⟨6, by decide⟩, ⟨7, by decide⟩] y4.1) y4.2 := ⟨_, rfl⟩
  obtain ⟨y6, hy6⟩ : ∃ y, y = run (side p P (negLanes v) (twice (lanes v')) (twice (lanes r)) [⟨8, by decide⟩, ⟨9, by decide⟩] y5.1.2)
    (run (each cols (bwd1 m P ⟨5, by decide⟩ y5.1.1)) y5.2).2 := ⟨_, rfl⟩
  have e : (run (step p m P k1 hk1) s0).2 = (run (epiEnd P.ke P.hke y6.1) y6.2).2 := by
    rw [hy6, hy5, hy4, hy3, hy2, hy1, hy0, ← e4, ← e3, ← e2, ← e1]
    unfold step
    refine (run_ld _ _ _ _ _).trans ((run_ld _ _ _ _ _).trans ((run_ld _ _ _ _ _).trans ((run_ld _ _ _ _ _).trans ?_)))
    simp only [run_bind, fwd_state]
  have H0 : (∀ n < 768, ∀ o < 256, (at2 y0.1 o n : EReal) = EV m X0 S0 s0 sr (768 * (⟨0, by decide⟩ : Fin 6).val + n) o)
      ∧ AInv p P s0 0 (fill 128 128 0x00000000#32, fill 128 128 0x00000000#32) ∧ Mid p m P X0 S0 s0 sr (⟨0, by decide⟩ : Fin 6).val 0 y0.2 := by
    rw [hy0]
    exact ⟨fun n hn o ho => err_val _ hx hs s0 s0 rfl rfl rfl rfl hn ho, AInv.zero,
      mid_resid hpm _ _ s0 ⟨PInv.zero, EInv.zero, GInv.zero, rfl, rfl, fun _ _ => rfl⟩⟩
  have H1 := mid_chunk hpm hx hs v v' r hv1 hv2 hr ⟨0, by decide⟩ ⟨1, by decide⟩ [⟨0, by decide⟩] rfl
    ((y0.1, (fill 128 128 0x00000000#32, fill 128 128 0x00000000#32)), y0.2) H0
  rw [← hy1] at H1
  have H2 := mid_chunk hpm hx hs v v' r hv1 hv2 hr ⟨1, by decide⟩ ⟨2, by decide⟩ [⟨1, by decide⟩, ⟨2, by decide⟩] rfl y1 H1
  rw [← hy2] at H2
  have H3 := mid_chunk hpm hx hs v v' r hv1 hv2 hr ⟨2, by decide⟩ ⟨3, by decide⟩ [⟨3, by decide⟩, ⟨4, by decide⟩] rfl y2 H2
  rw [← hy3] at H3
  have H4 := mid_chunk hpm hx hs v v' r hv1 hv2 hr ⟨3, by decide⟩ ⟨4, by decide⟩ [⟨5, by decide⟩] rfl y3 H3
  rw [← hy4] at H4
  have H5 := mid_chunk hpm hx hs v v' r hv1 hv2 hr ⟨4, by decide⟩ ⟨5, by decide⟩ [⟨6, by decide⟩, ⟨7, by decide⟩] rfl y4 H4
  rw [← hy5] at H5
  have H6 := mid_side hpm v v' r hv1 hv2 hr [⟨8, by decide⟩, ⟨9, by decide⟩] rfl y5.1.2 _ H5.2.1 (mid_bwd hpm hx ⟨5, by decide⟩ y5.1.1 H5.1 y5.2 H5.2.2)
  rw [← hy6] at H6
  obtain ⟨A6, H6⟩ := H6
  have k : ∀ b, b ∉ ({.dr, .ds1} : Finset Bf) → (run (epiEnd P.ke P.hke y6.1) y6.2).2 b = y6.2 b := fun b hb => run_kept _ (Only_epiEnd ..) _ hb
  rw [e]
  exact ⟨H6.pro.of_eq (k _ (by simp)) (k _ (by simp)), H6.epi.of_eq (k _ (by simp)) (k _ (by simp)), H6.main.of_eq (k _ (by simp)), rows_step _ _ A6 H6.dr H6.ds1,
    fun b hb => (k b (out_step hb)).trans (H6.kept b hb)⟩

/-! ## The first grid points and the last ones -/

theorem pro_post : PInv p P s0 10 (run (proAll p P) s0).2 ∧ ∀ b, b ∉ ({.z p, .q p, .pk} : Finset Bf) → (run (proAll p P) s0).2 b = s0 b := by
  have k (s : St Ideal) (v r : 𝔸 1 128) (i : Fin 10) : ∀ b, b ∉ ({.z p, .q p, .pk} : Finset Bf) →
      (run (proPart p P.rb P.hrb P.hrb4 (twice (lanes v)) (twice (lanes r)) i) s).2 b = s b := fun b hb => pro_kept p P.rb P.hrb P.hrb4 i s _ _ hb
  have h := each_inv (J := fun d s => PInv p P s0 d s ∧ ∀ b, b ∉ ({.z p, .q p, .pk} : Finset Bf) → s b = s0 b)
    (f := proPart p P.rb P.hrb P.hrb4 (twice (lanes (rd s0 .s1 (R2 P.kp 0 1 128 P.hkp (by omega))))) (twice (lanes (rd s0 .r (R2 P.kp 0 1 128 P.hkp (by omega))))))
    (fun i s hs => ⟨pro_step _ _ (fun n hn => by unfold rd; erw [at2_ld _ _ _ (by omega) hn]; simp only [Nat.zero_add, Nat.add_zero])
      (fun n hn => by unfold rd; erw [at2_ld _ _ _ (by omega) hn]; simp only [Nat.zero_add, Nat.add_zero]) i s (hs.2 _ (by simp)) (hs.2 _ (by simp)) (hs.2 _ (by simp)) hs.1,
      fun b hb => (k s _ _ i b hb).trans (hs.2 b hb)⟩) cols 0 s0 rfl ⟨PInv.zero, fun _ _ => rfl⟩
  have e : (run (proAll p P) s0).2 = (run (each cols (proPart p P.rb P.hrb P.hrb4 (twice (lanes (rd s0 .s1 (R2 P.kp 0 1 128 P.hkp (by omega)))))
      (twice (lanes (rd s0 .r (R2 P.kp 0 1 128 P.hkp (by omega))))))) s0).2 := by
    unfold proAll; exact (run_ld _ _ _ _ _).trans (run_ld _ _ _ _ _)
  rw [e]
  exact h

theorem epi_post : EInv p P s0 10 (run (epiAll p P) s0).2 ∧ RInv p P s0 (run (epiAll p P) s0).2
    ∧ ∀ b, b ∉ ({.g p, .ds2, .da, .dr, .ds1} : Finset Bf) → (run (epiAll p P) s0).2 b = s0 b := by
  have k (s : St Ideal) (v : 𝔸 1 128) (i : Fin 10) (a) : ∀ b, b ∉ ({.g p, .ds2, .da} : Finset Bf) →
      (run (epiPart p P.rb P.hrb (negLanes v) i a) s).2 b = s b := fun b hb => epi_kept p P.rb P.hrb i s _ a hb
  have hv : ∀ n < 128, at2 (rd s0 .s1 (R2 P.ke 0 1 128 P.hke (by omega))) 0 n = at2 (s0 .s1) P.ke n := fun n hn => by
    unfold rd; erw [at2_ld _ _ _ (by omega) hn]; simp only [Nat.zero_add, Nat.add_zero]
  have h := thread_inv (J := fun d a s => AInv p P s0 d a ∧ EInv p P s0 d s ∧ ∀ b, b ∉ ({.g p, .ds2, .da} : Finset Bf) → s b = s0 b)
    (f := epiPart p P.rb P.hrb (negLanes (rd s0 .s1 (R2 P.ke 0 1 128 P.hke (by omega)))))
    (fun i a s hs => ⟨acc_step _ hv i a s (fun n hn k hk _ => by rw [hs.2.2 (.z p) (by simp)]) (fun n hn k hk _ => by rw [hs.2.2 (.q p) (by simp)]) hs.2.1 hs.1,
      epi_step _ hv i a s (fun n hn k hk _ => by rw [hs.2.2 (.z p) (by simp)]) hs.2.1,
      fun b hb => (k s _ i a b hb).trans (hs.2.2 b hb)⟩) cols 0 s0 (fill 128 128 0x00000000#32, fill 128 128 0x00000000#32) rfl
    ⟨AInv.zero, EInv.zero, fun _ _ => rfl⟩
  have e : (run (epiAll p P) s0).2 = (run (epiEnd P.ke P.hke (run (thread cols (epiPart p P.rb P.hrb (negLanes (rd s0 .s1 (R2 P.ke 0 1 128 P.hke (by omega)))))
      (fill 128 128 0x00000000#32, fill 128 128 0x00000000#32)) s0).1) (run (thread cols (epiPart p P.rb P.hrb (negLanes (rd s0 .s1 (R2 P.ke 0 1 128 P.hke (by omega)))))
      (fill 128 128 0x00000000#32, fill 128 128 0x00000000#32)) s0).2).2 := by
    unfold epiAll; refine (run_ld _ _ _ _ _).trans ?_; simp only [run_bind]
  rw [e]
  refine ⟨h.2.1.of_eq (run_kept _ (Only_epiEnd ..) _ (by simp)) (run_kept _ (Only_epiEnd ..) _ (by simp)),
    rows_step _ _ h.1 (h.2.2 _ (by simp)) (h.2.2 _ (by simp)), fun b hb => ?_⟩
  exact (run_kept _ (Only_epiEnd ..) _ (out_epi hb).1).trans (h.2.2 b (out_epi hb).2)
end

end Cert.Proof.FlexRound
end
-- ==== Proof.Grid.lean ====
/-
  The kernel's pipeline over its grid: what the scratch buffers hold before each grid point, and that a grid point carries it on.
-/
module

public import proofs.«01_k».proof.Proof.Walk

@[expose] public section

set_option maxRecDepth 100000

noncomputable section

namespace Cert.Proof.FlexRound

open Idealize.ShloMosaic Idealize.SL.Sem

local notation "𝔸" => A Ideal

/-- The inputs, at numbers: token codes and scales, weights, the log scale's three parts, the row scale, the target.  The two
    row-indexed ones and the token scales lie 128 to a row. -/
structure Data where
  x : ℕ → ℕ → EReal
  xs : ℕ → ℕ → EReal
  w : ℕ → ℕ → EReal
  s2 : ℕ → ℕ → EReal
  s1 : ℕ → ℕ → EReal
  r : ℕ → ℕ → EReal
  c : ℕ → EReal
  y : ℕ → ℕ → EReal

namespace Data
variable (D : Data)

/-- The quotient. -/
def z (o k : ℕ) : EReal := zS (D.w o k) (D.s1 (o / 128) (o % 128)) (D.s2 o k) (D.r (o / 128) (o % 128)) (D.c k)

/-- The error of a token and a row of the weights. -/
def e (n o : ℕ) : EReal :=
  errS (∑ k ∈ Finset.range 2560, D.x n k * qS (D.z o k)) (D.xs (n / 128) (n % 128)) (D.s1 (o / 128) (o % 128)) (D.y n o)

/-- The gradient over the first chunks of tokens. -/
def g (K o k : ℕ) : EReal := ∑ n ∈ Finset.range (768 * K), D.e n o * D.x n k

/-- The scale's gradient. -/
def d (o k : ℕ) : EReal := (0 - D.s1 (o / 128) (o % 128)) * mzS (D.z o k) * D.g 12 o k

/-- The row offset's gradient. -/
def dr (o : ℕ) : EReal := ∑ k ∈ Finset.range 2560, D.d o k

/-- The row scale's gradient. -/
def ds1 (o : ℕ) : EReal := ∑ k ∈ Finset.range 2560, D.g 12 o k * (qS (D.z o k) - mzS (D.z o k))

/-- What a grid point's inputs hold. -/
structure In (t h : ℕ) (s : St Ideal) : Prop where
  w : t ≤ 26 → ∀ n < 128, ∀ k < 2560, (at2 (s .w) n k : EReal) = D.w (256 * t + 128 * h + n) k
  s2 : t ≤ 26 → ∀ n < 128, ∀ k < 2560, (at2 (s .s2) n k : EReal) = D.s2 (256 * t + 128 * h + n) k
  s1 : ∀ a < 54, ∀ j < 128, (at2 (s .s1) a j : EReal) = D.s1 a j
  r : ∀ a < 54, ∀ j < 128, (at2 (s .r) a j : EReal) = D.r a j
  c : ∀ k < 2560, (at2 (s .c) 0 k : EReal) = D.c k
  xs : ∀ a < 72, ∀ j < 128, (at2 (s .xs) a j : EReal) = D.xs a j
  y : 1 ≤ t → t ≤ 27 → ∀ n < 4608, ∀ o < 256, (at2 (s .y) n o : EReal) = D.y (4608 * h + n) (256 * (t - 1) + o)

/-- The token codes are there. -/
def IX (s : St Ideal) : Prop := ∀ n < 9216, ∀ k < 2560, (at2 (s .x) n k : EReal) = D.x n k

/-- The tile before last waits for the epilogue on the rows not done yet. -/
def IA (p : Bool) (t h : ℕ) (s : St Ideal) : Prop := 2 ≤ t → t ≤ 28 → ∀ n < 256, 128 * h ≤ n → ∀ k < 2560,
  (at2 (s (.z p)) n k : EReal) = mzS (D.z (256 * (t - 2) + n) k) ∧ (at2 (s (.g p)) n k : EReal) = D.g 12 (256 * (t - 2) + n) k
  ∧ (at2 (s (.q p)) n k : EReal) = qS (D.z (256 * (t - 2) + n) k)

/-- The next tile's rows the prologue has done. -/
def IB (p : Bool) (t h : ℕ) (s : St Ideal) : Prop := t ≤ 26 → ∀ n < 128 * h, ∀ k < 2560,
  (at2 (s (.z p)) n k : EReal) = mzS (D.z (256 * t + n) k) ∧ (at2 (s (.q p)) n k : EReal) = qS (D.z (256 * t + n) k)
  ∧ (at2 (s (.g p)) n k : EReal) = 0

/-- The last tile: its quotients and codes, and its gradient over the chunks done. -/
def IC (m : Bool) (t h : ℕ) (s : St Ideal) : Prop := 1 ≤ t → t ≤ 27 → ∀ n < 256, ∀ k < 2560,
  (at2 (s (.z m)) n k : EReal) = mzS (D.z (256 * (t - 1) + n) k) ∧ (at2 (s (.q m)) n k : EReal) = qS (D.z (256 * (t - 1) + n) k)
  ∧ (at2 (s (.g m)) n k : EReal) = D.g (6 * h) (256 * (t - 1) + n) k

/-- A grid point's rows. -/
structure Rows (t h : ℕ) (P : Pt) : Prop where
  h2 : h < 2
  rb : P.rb = 128 * h
  kp : t ≤ 26 → P.kp = 2 * t + h
  ke : 2 ≤ t → P.ke = 2 * (t - 2) + h
  xo : ∀ c, P.xo c = 4608 * h + 768 * c.val
  so : ∀ c b, P.so c b = 36 * h + 6 * c.val + b.val

variable {D} {t h : ℕ} {P : Pt} {s0 : St Ideal} {p m : Bool}

theorem ZV_eq (R : Rows t h P) (H : D.In t h s0) (ht : t ≤ 26) {n k : ℕ} (hn : n < 128) (hk : k < 2560) : ZV P s0 n k = D.z (256 * t + 128 * h + n) k := by
  have h2 := R.h2
  unfold ZV z
  erw [H.w ht n hn k hk, H.s2 ht n hn k hk, R.kp ht, H.s1 _ (by omega) n hn, H.r _ (by omega) n hn, H.c k hk]
  rw [show (256 * t + 128 * h + n) / 128 = 2 * t + h by omega, show (256 * t + 128 * h + n) % 128 = n by omega]

theorem DV_eq (R : Rows t h P) (H : D.In t h s0) (ht : 2 ≤ t) (ht' : t ≤ 28) (a : D.IA p t h s0) {n k : ℕ} (hn : n < 128) (hk : k < 2560) :
    DV p P s0 n k = D.d (256 * (t - 2) + 128 * h + n) k := by
  have h2 := R.h2
  unfold DV d
  have ha := a ht ht' (P.rb + n) (by rw [R.rb]; omega) (by rw [R.rb]; omega) k hk
  erw [R.ke ht, H.s1 _ (by omega) n hn, ha.1, ha.2.1]
  rw [R.rb, ← Nat.add_assoc, show (256 * (t - 2) + 128 * h + n) / 128 = 2 * (t - 2) + h by omega, show (256 * (t - 2) + 128 * h + n) % 128 = n by omega]

theorem SV_eq (R : Rows t h P) (ht : 2 ≤ t) (ht' : t ≤ 28) (a : D.IA p t h s0) {n k : ℕ} (hn : n < 128) (hk : k < 2560) :
    SV p P s0 n k = D.g 12 (256 * (t - 2) + 128 * h + n) k * (qS (D.z (256 * (t - 2) + 128 * h + n) k) - mzS (D.z (256 * (t - 2) + 128 * h + n) k)) := by
  have h2 := R.h2
  unfold SV
  have ha := a ht ht' (P.rb + n) (by rw [R.rb]; omega) (by rw [R.rb]; omega) k hk
  erw [ha.1, ha.2.1, ha.2.2]
  rw [R.rb, ← Nat.add_assoc]

/-- The rows of sums a grid point writes. -/
theorem sums_row (R : Rows t h P) (H : D.In t h s0) (ht : 2 ≤ t) (ht' : t ≤ 28) (a : D.IA p t h s0) {s : St Ideal} (Q : RInv p P s0 s) {n l : ℕ}
    (hn : n < 54) (hl : l < 128) :
    (at2 (s .dr) n l : EReal) = (if n = 2 * (t - 2) + h then D.dr (128 * n + l) else at2 (s0 .dr) n l)
      ∧ (at2 (s .ds1) n l : EReal) = if n = 2 * (t - 2) + h then D.ds1 (128 * n + l) else at2 (s0 .ds1) n l := by
  have q := Q n hn l hl
  rw [R.ke ht] at q
  rw [q.1, q.2]
  constructor
  · refine if_ctx_congr Iff.rfl (fun e => Finset.sum_congr rfl fun k hk => ?_) fun _ => rfl
    rw [DV_eq R H ht ht' a hl (Finset.mem_range.1 hk), show 256 * (t - 2) + 128 * h + l = 128 * n + l by omega]
  · refine if_ctx_congr Iff.rfl (fun e => Finset.sum_congr rfl fun k hk => ?_) fun _ => rfl
    rw [SV_eq R ht ht' a hl (Finset.mem_range.1 hk), show 256 * (t - 2) + 128 * h + l = 128 * n + l by omega]

/-- The main phase's additions are the gradient's. -/
theorem GV_eq (R : Rows t h P) (H : D.In t h s0) (ht : 1 ≤ t) (ht' : t ≤ 27) (hx : D.IX s0) (c : D.IC m t h s0) (srow : 𝔸 1 256)
    (hs : ∀ o < 256, (at2 srow 0 o : EReal) = D.s1 (2 * (t - 1) + o / 128) (o % 128)) {o k : ℕ} (ho : o < 256) (hk : k < 2560) :
    D.g (6 * h) (256 * (t - 1) + o) k + GV m (4608 * h) (36 * h) s0 srow 6 o k = D.g (6 * (h + 1)) (256 * (t - 1) + o) k := by
  have h2 := R.h2
  unfold g GV
  rw [show 768 * (6 * (h + 1)) = 768 * (6 * h) + 768 * 6 by ring, Finset.sum_range_add]
  congr 1
  refine Finset.sum_congr rfl fun n hn => ?_
  have hn := Finset.mem_range.mp hn
  rw [show 768 * (6 * h) = 4608 * h by ring]
  unfold EV XV e
  erw [H.xs _ (by omega) _ (by omega), hs o ho, H.y ht ht' n (by omega) o ho, hx _ (by omega) k hk]
  rw [show 36 * h + n / 128 = (4608 * h + n) / 128 by omega, show n % 128 = (4608 * h + n) % 128 by omega,
    show 2 * (t - 1) + o / 128 = (256 * (t - 1) + o) / 128 by omega, show o % 128 = (256 * (t - 1) + o) % 128 by omega]
  congr 2
  refine Finset.sum_congr rfl fun j hj => ?_
  have hj := Finset.mem_range.mp hj
  erw [hx _ (by omega) j hj, (c ht ht' o ho j hj).2.1]

section
variable {srow : 𝔸 1 256} {s : St Ideal}

/-- A middle grid point carries the invariant on, within a tile's two halves. -/
theorem mid_first (hpm : p ≠ m) (R : Rows t 0 P) (H : D.In t 0 s0) (ht : 1 ≤ t) (ht' : t ≤ 27) (hx : D.IX s0) (a : D.IA p t 0 s0)
    (c : D.IC m t 0 s0) (hs : ∀ o < 256, (at2 srow 0 o : EReal) = D.s1 (2 * (t - 1) + o / 128) (o % 128))
    (Q : StepPost p m P (4608 * 0) (36 * 0) srow s0 s) : D.IX s ∧ D.IA p t 1 s ∧ D.IB p t 1 s ∧ D.IC m t 1 s := by
  have rb := R.rb
  refine ⟨?_, fun h1 h2 n hn hn' k hk => ?_, fun h1 n hn k hk => ?_, fun h1 h2 n hn k hk => ?_⟩
  · unfold IX; rw [Q.kept .x (by simp)]; exact hx
  · rw [(Q.pro n hn k hk).1, (Q.pro n hn k hk).2, Q.epi.2 n hn k hk, if_neg (by omega), if_neg (by omega), if_neg (by omega)]
    exact a h1 h2 n hn (by omega) k hk
  · rw [(Q.pro n (by omega) k hk).1, (Q.pro n (by omega) k hk).2, Q.epi.2 n (by omega) k hk, if_pos (by omega), if_pos (by omega), if_pos (by omega),
      ZV_eq R H h1 (by omega) hk]
    rw [show 256 * t + 128 * 0 + (n - P.rb) = 256 * t + n by omega]
    exact ⟨rfl, rfl, rfl⟩
  · rw [Q.kept (.z m) (by simp [Ne.symm hpm]), Q.kept (.q m) (by simp [Ne.symm hpm]), Q.main n hn k hk, if_neg (by omega)]
    have hc := c ht ht' n hn k hk
    refine ⟨hc.1, hc.2.1, ?_⟩
    erw [hc.2.2]
    exact GV_eq R H ht ht' hx c srow hs hn hk

/-- And from a tile to the next one. -/
theorem mid_second (hpm : p ≠ m) (R : Rows t 1 P) (H : D.In t 1 s0) (ht : 1 ≤ t) (ht' : t ≤ 27) (hx : D.IX s0) (b : D.IB p t 1 s0)
    (c : D.IC m t 1 s0) (hs : ∀ o < 256, (at2 srow 0 o : EReal) = D.s1 (2 * (t - 1) + o / 128) (o % 128))
    (Q : StepPost p m P (4608 * 1) (36 * 1) srow s0 s) : D.IX s ∧ D.IA m (t + 1) 0 s ∧ D.IB m (t + 1) 0 s ∧ D.IC p (t + 1) 0 s := by
  have rb := R.rb
  refine ⟨?_, fun h1 h2 n hn hn' k hk => ?_, fun h1 n hn k hk => absurd hn (by omega), fun h1 h2 n hn k hk => ?_⟩
  · unfold IX; rw [Q.kept .x (by simp)]; exact hx
  · rw [Q.kept (.z m) (by simp [Ne.symm hpm]), Q.kept (.q m) (by simp [Ne.symm hpm]), Q.main n hn k hk, if_neg (by omega)]
    have hc := c ht ht' n hn k hk
    rw [show t + 1 - 2 = t - 1 by omega]
    refine ⟨hc.1, ?_, hc.2.1⟩
    erw [hc.2.2]
    exact GV_eq R H ht ht' hx c srow hs hn hk
  · have g0 : D.g (6 * 0) (256 * (t + 1 - 1) + n) k = 0 := by unfold g; simp only [Nat.mul_zero, Finset.sum_range_zero]
    rw [(Q.pro n hn k hk).1, (Q.pro n hn k hk).2, Q.epi.2 n hn k hk, g0, show t + 1 - 1 = t by omega]
    by_cases hr : n < 128
    · rw [if_neg (by omega), if_neg (by omega), if_neg (by omega)]
      exact b (by omega) n (by omega) k hk
    · rw [if_pos (by omega), if_pos (by omega), if_pos (by omega), ZV_eq R H (by omega) (by omega) hk,
        show 256 * t + 128 * 1 + (n - P.rb) = 256 * t + n by omega]
      exact ⟨rfl, rfl, rfl⟩

/-- What the first grid point leaves: the tile's first rows, and a gradient of zero. -/
theorem first_first (R : Rows 0 0 P) (H : D.In 0 0 s0) (g0 : ∀ n < 256, ∀ k < 2560, (at2 (s0 (.g p)) n k : EReal) = 0) (Q : PInv p P s0 10 s)
    (kg : s (.g p) = s0 (.g p)) : D.IB p 0 1 s ∧ ∀ n < 256, ∀ k < 2560, (at2 (s (.g p)) n k : EReal) = 0 := by
  have rb := R.rb
  refine ⟨fun h1 n hn k hk => ?_, by rw [kg]; exact g0⟩
  rw [(Q n (by omega) k hk).1, (Q n (by omega) k hk).2, kg, g0 n (by omega) k hk, if_pos (by omega), if_pos (by omega), ZV_eq R H h1 (by omega) hk,
    show 256 * 0 + 128 * 0 + (n - P.rb) = 256 * 0 + n by omega]
  exact ⟨rfl, rfl, rfl⟩

/-- What the second one leaves: the tile. -/
theorem first_second (R : Rows 0 1 P) (H : D.In 0 1 s0) (b : D.IB p 0 1 s0) (g0 : ∀ n < 256, ∀ k < 2560, (at2 (s0 (.g p)) n k : EReal) = 0)
    (Q : PInv p P s0 10 s) (kg : s (.g p) = s0 (.g p)) : D.IC p 1 0 s := by
  have rb := R.rb
  intro h1 h2 n hn k hk
  have e0 : D.g (6 * 0) (256 * (1 - 1) + n) k = 0 := by unfold g; simp only [Nat.mul_zero, Finset.sum_range_zero]
  rw [(Q n hn k hk).1, (Q n hn k hk).2, kg, g0 n hn k hk, e0]
  by_cases hr : n < 128
  · rw [if_neg (by omega), if_neg (by omega)]
    have hb := b (by omega) n (by omega) k hk
    exact ⟨hb.1, hb.2.1, rfl⟩
  · rw [if_pos (by omega), if_pos (by omega), ZV_eq R H (by omega) (by omega) hk, show 256 * 0 + 128 * 1 + (n - P.rb) = 256 * (1 - 1) + n by omega]
    exact ⟨rfl, rfl, rfl⟩

/-- The last tile's first half leaves its second one. -/
theorem last_first (R : Rows t 0 P) (a : D.IA p t 0 s0) (Q : EInv p P s0 10 s) (kz : s (.z p) = s0 (.z p))
    (kq : s (.q p) = s0 (.q p)) : D.IA p t 1 s := by
  have rb := R.rb
  intro h1 h2 n hn hn' k hk
  rw [kz, kq, Q.2 n hn k hk, if_neg (by omega)]
  exact a h1 h2 n hn (by omega) k hk

/-- The scale's gradient's block. -/
theorem ds2_block (R : Rows t h P) (H : D.In t h s0) (ht : 2 ≤ t) (ht' : t ≤ 28) (a : D.IA p t h s0) (Q : EInv p P s0 10 s) {n k : ℕ} (hn : n < 128)
    (hk : k < 2560) : (at2 (s .ds2) n k : EReal) = D.d (256 * (t - 2) + 128 * h + n) k :=
  (Q.1 n hn k hk (by omega)).trans (DV_eq R H ht ht' a hn hk)
end

theorem In.of_eq {s : St Ideal} (H : D.In t h s0) (k : ∀ b, b ∈ ({.xs, .w, .s2, .s1, .r, .c, .y} : Finset Bf) → s b = s0 b) : D.In t h s := by
  constructor
  · rw [k .w (by decide)]; exact H.w
  · rw [k .s2 (by decide)]; exact H.s2
  · rw [k .s1 (by decide)]; exact H.s1
  · rw [k .r (by decide)]; exact H.r
  · rw [k .c (by decide)]; exact H.c
  · rw [k .xs (by decide)]; exact H.xs
  · rw [k .y (by decide)]; exact H.y

end Data

/-- The first grid point's clearing, as stores. -/
theorem clear_run (s : St Ideal) : ∃ (z0 z1 g1 : 𝔸 256 2560) (q : FVec Ideal (Sh 256 2560) .fp8e4m3) (la : 𝔸 9216 128) (da : 𝔸 8 2560),
    (run (clear (F := Ideal)) s).2 = wr (wr (wr (wr (wr (wr (wr s (.z false) (R2 0 0 256 2560 (by omega) (by omega)) z0)
      (.g false) (R2 0 0 256 2560 (by omega) (by omega)) (shapeCast (Sh 256 2560) (fill (F := Ideal) 256 2560 0x00000000#32) (by decide)))
      (.z true) (R2 0 0 256 2560 (by omega) (by omega)) z1) (.g true) (R2 0 0 256 2560 (by omega) (by omega)) g1)
      (.q true) (R2 0 0 256 2560 (by omega) (by omega)) q) .la (R2 0 0 9216 128 (by omega) (by omega)) la)
      .da (R2 0 0 8 2560 (by omega) (by omega)) da := ⟨_, _, _, _, _, _, rfl⟩

theorem clear_g (s : St Ideal) {n k : ℕ} (hn : n < 256) (hk : k < 2560) : (at2 ((run (clear (F := Ideal)) s).2 (.g false)) n k : EReal) = 0 := by
  obtain ⟨z0, z1, g1, q, la, da, e⟩ := clear_run s
  rw [e, wr_ne _ _ _ (by simp), wr_ne _ _ _ (by simp), wr_ne _ _ _ (by simp), wr_ne _ _ _ (by simp), wr_ne _ _ _ (by simp), wr_self, shapeCast_self,
    at2_put _ _ _ _ hn hk, if_pos (by omega)]
  unfold at2; pointwise [fill]

theorem clear_kept (s : St Ideal) {b : Bf} (hb : b ∉ ({.z false, .g false, .z true, .g true, .q true, .la, .da} : Finset Bf)) :
    (run (clear (F := Ideal)) s).2 b = s b := run_kept _ Only_clear s hb

/-- The parity of a tile. -/
def par (t : ℕ) : Bool := t % 2 == 1

/-- What the scratch buffers hold before a grid point. -/
structure Inv (D : Data) (τ : ℕ) (s : St Ideal) : Prop where
  x : 2 ≤ τ → D.IX s
  a : D.IA (par (τ / 2)) (τ / 2) (τ % 2) s
  b : D.IB (par (τ / 2)) (τ / 2) (τ % 2) s
  c : D.IC (par (τ / 2 + 1)) (τ / 2) (τ % 2) s
  g : τ = 1 → ∀ n < 256, ∀ k < 2560, (at2 (s (.g false)) n k : EReal) = 0

theorem Inv.zero (D : Data) (s : St Ideal) : Inv D 0 s :=
  ⟨fun h => absurd h (by decide), fun h => absurd h (by decide), fun _ n hn => absurd hn (by omega), fun h => absurd h (by decide),
    fun h => absurd h (by decide)⟩

/-- The invariant before a tile's second half. -/
theorem Inv.half {D : Data} {τ : ℕ} {s : St Ideal} (T : ℕ) (hτ : τ = 2 * T + 1) (x : 2 ≤ τ → D.IX s) (a : D.IA (par T) T 1 s) (b : D.IB (par T) T 1 s)
    (c : D.IC (par (T + 1)) T 1 s) (g : τ = 1 → ∀ n < 256, ∀ k < 2560, (at2 (s (.g false)) n k : EReal) = 0) : Inv D τ s := by
  have e1 : τ / 2 = T := by omega
  have e2 : τ % 2 = 1 := by omega
  exact ⟨x, by rw [e1, e2]; exact a, by rw [e1, e2]; exact b, by rw [e1, e2]; exact c, g⟩

/-- The invariant before a tile's first half. -/
theorem Inv.whole {D : Data} {τ : ℕ} {s : St Ideal} (T : ℕ) (hτ : τ = 2 * T) (x : D.IX s) (a : D.IA (par T) T 0 s)
    (c : D.IC (par (T + 1)) T 0 s) : Inv D τ s := by
  have e1 : τ / 2 = T := by omega
  have e2 : τ % 2 = 0 := by omega
  exact ⟨fun _ => x, by rw [e1, e2]; exact a, by rw [e1, e2]; exact fun _ n hn => absurd hn (by omega), by rw [e1, e2]; exact c, fun h => absurd h (by omega)⟩

end Cert.Proof.FlexRound
end
-- ==== Proof.KernelIdealKeeps.lean ====
/-
  The kernel's pipeline over the extended reals: the invariant of its scratch buffers, from grid point to grid point.
-/
module

public import proofs.«01_k».proof.Proof.KernelIdealRun
public import proofs.«01_k».proof.Proof.Grid
public import Idealize.ShloMosaic.Lib.Pipeline.ArrRel

@[expose] public section

set_option maxRecDepth 100000

noncomputable section

namespace Cert.KernelIdeal

open Idealize.ShloMosaic Idealize.ShloMosaic.TcCoe
open Idealize.SL Idealize.SL.Sem
open Idealize.ShloMosaic.Pipeline (RDat Cfg Window)
open Cert.Proof.FlexRound hiding own

variable (m : (ℓ : Loc nD τ sig) → Buf (Elt Ideal) ℓ)

/-- The launch's inputs, at numbers. -/
def dataOf (c : Dev nD) : Data where
  x n k := at2 (R := 9216) (C := 2560) (Gen.V m c main_v0) n k
  xs n k := at2 (R := 72) (C := 128) (Gen.V m c main_v1) n k
  w n k := at2 (R := 6912) (C := 2560) (Gen.V m c main_arg2) n k
  s2 n k := at2 (R := 6912) (C := 2560) (Gen.V m c main_arg4) n k
  s1 n k := at2 (R := 54) (C := 128) (Gen.V m c main_v2) n k
  r n k := at2 (R := 54) (C := 128) (Gen.V m c main_v3) n k
  c k := at2 (R := 1) (C := 2560) (Gen.V m c main_v4) 0 k
  y n k := at2 (R := 9216) (C := 6912) (Gen.V m c main_v5) n k

/-! ## The windows' blocks -/

theorem idx0 : ∀ t : Fin cfg0.N, win0_0.index t 0 = 0 ∧ win0_0.index t 1 = 0 := by decide +kernel
theorem idx1 : ∀ t : Fin cfg0.N, win0_1.index t 0 = min t.val 53 ∧ win0_1.index t 1 = 0 := by decide +kernel
theorem idx2 : ∀ t : Fin cfg0.N, win0_2.index t 0 = min t.val 53 ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 0 := by decide +kernel
theorem idx6 : ∀ t : Fin cfg0.N, (1 ≤ t.val / 2 → t.val / 2 ≤ 27 → win0_6.index t 0 = t.val % 2) ∧ win0_6.index t 1 = min (t.val / 2 - 1) 26 := by decide +kernel
theorem idx7 : ∀ t : Fin cfg0.N, win0_7.index t 0 = t.val - 4 ∧ win0_7.index t 1 = 0 := by decide +kernel
theorem flush7 : ∀ t : Fin cfg0.N, win0_7.flush t = true ↔ 4 ≤ t.val := by decide +kernel

theorem ix2_of {R C : ℕ} [NeZero R] [NeZero C] (f : (Sh R C).Idx) {i j : ℕ} (h0 : (f 0).val = i) (h1 : (f 1).val = j) :
    f = ix2 (Fin.ofNat R i) (Fin.ofNat C j) := by
  have e0 : i % R = i := Nat.mod_eq_of_lt (h0 ▸ (f 0).isLt)
  have e1 : j % C = j := Nat.mod_eq_of_lt (h1 ▸ (f 1).isLt)
  funext k
  apply Fin.ext
  match k with
  | ⟨0, _⟩ => exact h0.trans e0.symm
  | ⟨1, _⟩ => exact h1.trans e1.symm

variable {m} {I : Dev nD → ℕ → St Ideal → Prop} {R : Dev nD → Rel Ideal}

/-- A relation that leaves an input window's buffer as it was. -/
def KeepsIn (R : Dev nD → Rel Ideal) : Prop := ∀ c t b, b ∈ ({.xs, .w, .s2, .s1, .r, .c, .y} : Finset Bf) → ∀ Y X, R c t b Y X → X = Y

theorem in0 (hR : KeepsIn R) (c : Dev nD) (t : Fin cfg0.N) (Y : (cfg0.win 0).block.Idx → Elt Ideal (cfg0.win 0).elt)
    (hY : (rdatOf m I R c).Finds 0 t Y) {n k : ℕ} (hn : n < 72) (hk : k < 128) :
    at2 (R := 72) (C := 128) Y n k = (dataOf m c).xs n k := by
  obtain ⟨d, rfl⟩ := RDat.finds_in_eq_fetched (rdatOf m I R c) 0 rfl (fun _ _ _ => rfl) (fun t Y X h => hR c t.val .xs (by decide) Y X h) t Y hY
  show Gen.V m c main_v1 ((win0_0.rect t).emb (ix2 (Fin.ofNat 72 n) (Fin.ofNat 128 k))) = Gen.V m c main_v1 (ix2 _ _)
  refine congrArg (Gen.V m c main_v1) (ix2_of (R := 72) (C := 128) _ ?_ ?_)
  · rw [Window.rect_emb_val win0_0 t, (idx0 t).1]
    show 0 * 72 + n % 72 = _
    omega
  · rw [Window.rect_emb_val win0_0 t, (idx0 t).2]
    show 0 * 128 + k % 128 = _
    omega

theorem in1 (hR : KeepsIn R) (c : Dev nD) (t : Fin cfg0.N) (Y : (cfg0.win 1).block.Idx → Elt Ideal (cfg0.win 1).elt)
    (hY : (rdatOf m I R c).Finds 1 t Y) {n k : ℕ} (hn : n < 128) (hk : k < 2560) :
    at2 (R := 128) (C := 2560) Y n k = (dataOf m c).w (min t.val 53 * 128 + n) k := by
  obtain ⟨d, rfl⟩ := RDat.finds_in_eq_fetched (rdatOf m I R c) 1 rfl (fun _ _ _ => rfl) (fun t Y X h => hR c t.val .w (by decide) Y X h) t Y hY
  show Gen.V m c main_arg2 ((win0_1.rect t).emb (ix2 (Fin.ofNat 128 n) (Fin.ofNat 2560 k))) = Gen.V m c main_arg2 (ix2 _ _)
  refine congrArg (Gen.V m c main_arg2) (ix2_of (R := 6912) (C := 2560) _ ?_ ?_)
  · rw [Window.rect_emb_val win0_1 t, (idx1 t).1]
    show min t.val 53 * 128 + n % 128 = _
    omega
  · rw [Window.rect_emb_val win0_1 t, (idx1 t).2]
    show 0 * 2560 + k % 2560 = _
    omega

theorem in2 (hR : KeepsIn R) (c : Dev nD) (t : Fin cfg0.N) (Y : (cfg0.win 2).block.Idx → Elt Ideal (cfg0.win 2).elt)
    (hY : (rdatOf m I R c).Finds 2 t Y) {n k : ℕ} (hn : n < 128) (hk : k < 2560) :
    at2 (R := 128) (C := 2560) Y n k = (dataOf m c).s2 (min t.val 53 * 128 + n) k := by
  obtain ⟨d, rfl⟩ := RDat.finds_in_eq_fetched (rdatOf m I R c) 2 rfl (fun _ _ _ => rfl) (fun t Y X h => hR c t.val .s2 (by decide) Y X h) t Y hY
  show Gen.V m c main_arg4 ((win0_2.rect t).emb (ix2 (Fin.ofNat 128 n) (Fin.ofNat 2560 k))) = Gen.V m c main_arg4 (ix2 _ _)
  refine congrArg (Gen.V m c main_arg4) (ix2_of (R := 6912) (C := 2560) _ ?_ ?_)
  · rw [Window.rect_emb_val win0_2 t, (idx2 t).1]
    show min t.val 53 * 128 + n % 128 = _
    omega
  · rw [Window.rect_emb_val win0_2 t, (idx2 t).2]
    show 0 * 2560 + k % 2560 = _
    omega

theorem in3 (hR : KeepsIn R) (c : Dev nD) (t : Fin cfg0.N) (Y : (cfg0.win 3).block.Idx → Elt Ideal (cfg0.win 3).elt)
    (hY : (rdatOf m I R c).Finds 3 t Y) {n k : ℕ} (hn : n < 54) (hk : k < 128) :
    at2 (R := 54) (C := 128) Y n k = (dataOf m c).s1 n k := by
  obtain ⟨d, rfl⟩ := RDat.finds_in_eq_fetched (rdatOf m I R c) 3 rfl (fun _ _ _ => rfl) (fun t Y X h => hR c t.val .s1 (by decide) Y X h) t Y hY
  show Gen.V m c main_v2 ((win0_3.rect t).emb (ix2 (Fin.ofNat 54 n) (Fin.ofNat 128 k))) = Gen.V m c main_v2 (ix2 _ _)
  refine congrArg (Gen.V m c main_v2) (ix2_of (R := 54) (C := 128) _ ?_ ?_)
  · rw [Window.rect_emb_val win0_3 t, (idx3 t).1]
    show 0 * 54 + n % 54 = _
    omega
  · rw [Window.rect_emb_val win0_3 t, (idx3 t).2]
    show 0 * 128 + k % 128 = _
    omega

theorem in4 (hR : KeepsIn R) (c : Dev nD) (t : Fin cfg0.N) (Y : (cfg0.win 4).block.Idx → Elt Ideal (cfg0.win 4).elt)
    (hY : (rdatOf m I R c).Finds 4 t Y) {n k : ℕ} (hn : n < 54) (hk : k < 128) :
    at2 (R := 54) (C := 128) Y n k = (dataOf m c).r n k := by
  obtain ⟨d, rfl⟩ := RDat.finds_in_eq_fetched (rdatOf m I R c) 4 rfl (fun _ _ _ => rfl) (fun t Y X h => hR c t.val .r (by decide) Y X h) t Y hY
  show Gen.V m c main_v3 ((win0_4.rect t).emb (ix2 (Fin.ofNat 54 n) (Fin.ofNat 128 k))) = Gen.V m c main_v3 (ix2 _ _)
  refine congrArg (Gen.V m c main_v3) (ix2_of (R := 54) (C := 128) _ ?_ ?_)
  · rw [Window.rect_emb_val win0_4 t, (idx4 t).1]
    show 0 * 54 + n % 54 = _
    omega
  · rw [Window.rect_emb_val win0_4 t, (idx4 t).2]
    show 0 * 128 + k % 128 = _
    omega

theorem in5 (hR : KeepsIn R) (c : Dev nD) (t : Fin cfg0.N) (Y : (cfg0.win 5).block.Idx → Elt Ideal (cfg0.win 5).elt)
    (hY : (rdatOf m I R c).Finds 5 t Y) {k : ℕ} (hk : k < 2560) :
    at2 (R := 1) (C := 2560) Y 0 k = (dataOf m c).c k := by
  obtain ⟨d, rfl⟩ := RDat.finds_in_eq_fetched (rdatOf m I R c) 5 rfl (fun _ _ _ => rfl) (fun t Y X h => hR c t.val .c (by decide) Y X h) t Y hY
  show Gen.V m c main_v4 ((win0_5.rect t).emb (ix2 (Fin.ofNat 1 0) (Fin.ofNat 2560 k))) = Gen.V m c main_v4 (ix2 _ _)
  refine congrArg (Gen.V m c main_v4) (ix2_of (R := 1) (C := 2560) _ ?_ ?_)
  · rw [Window.rect_emb_val win0_5 t, (idx5 t).1]
    show 0 * 1 + 0 % 1 = _
    omega
  · rw [Window.rect_emb_val win0_5 t, (idx5 t).2]
    show 0 * 2560 + k % 2560 = _
    omega

theorem in6 (hR : KeepsIn R) (c : Dev nD) (t : Fin cfg0.N) (Y : (cfg0.win 6).block.Idx → Elt Ideal (cfg0.win 6).elt)
    (hY : (rdatOf m I R c).Finds 6 t Y) (h1 : 1 ≤ t.val / 2) (h2 : t.val / 2 ≤ 27) {n k : ℕ} (hn : n < 4608) (hk : k < 256) :
    at2 (R := 4608) (C := 256) Y n k = (dataOf m c).y (4608 * (t.val % 2) + n) (256 * (t.val / 2 - 1) + k) := by
  obtain ⟨d, rfl⟩ := RDat.finds_in_eq_fetched (rdatOf m I R c) 6 rfl (fun _ _ _ => rfl) (fun t Y X h => hR c t.val .y (by decide) Y X h) t Y hY
  show Gen.V m c main_v5 ((win0_6.rect t).emb (ix2 (Fin.ofNat 4608 n) (Fin.ofNat 256 k))) = Gen.V m c main_v5 (ix2 _ _)
  refine congrArg (Gen.V m c main_v5) (ix2_of (R := 9216) (C := 6912) _ ?_ ?_)
  · rw [Window.rect_emb_val win0_6 t, (idx6 t).1 h1 h2]
    show (t.val % 2) * 4608 + n % 4608 = _
    omega
  · rw [Window.rect_emb_val win0_6 t, (idx6 t).2]
    show (min (t.val / 2 - 1) 26) * 256 + k % 256 = _
    omega

theorem in_of (hR : KeepsIn R) (c : Dev nD) (t : Fin cfg0.N) (Y : Stg Ideal) (s : St Ideal) (hY : ∀ w, (rdatOf m I R c).Finds w t (Y w)) :
    (dataOf m c).In (t.val / 2) (t.val % 2) (mix Y s) where
  w ht n hn k hk := (in1 hR c t (Y 1) (hY 1) hn hk).trans (by rw [show min t.val 53 * 128 + n = 256 * (t.val / 2) + 128 * (t.val % 2) + n by omega])
  s2 ht n hn k hk := (in2 hR c t (Y 2) (hY 2) hn hk).trans (by rw [show min t.val 53 * 128 + n = 256 * (t.val / 2) + 128 * (t.val % 2) + n by omega])
  s1 n hn k hk := in3 hR c t (Y 3) (hY 3) hn hk
  r n hn k hk := in4 hR c t (Y 4) (hY 4) hn hk
  c k hk := in5 hR c t (Y 5) (hY 5) hk
  xs n hn k hk := in0 hR c t (Y 0) (hY 0) hn hk
  y h1 h2 n hn k hk := in6 hR c t (Y 6) (hY 6) h1 h2 hn hk

/-! ## The grid points' programs -/

theorem crd0 : ∀ t : Fin cfg0.N, (grid0.coords t 0).val = t.val / 2 := by decide +kernel
theorem crd1 : ∀ t : Fin cfg0.N, (grid0.coords t 1).val = t.val % 2 := by decide +kernel
theorem con_even : ∀ t : Fin cfg0.N, 2 ≤ t.val → t.val < 56 → t.val / 2 % 2 = 0 → k0_cond4 (grid0.coords t) = 1#1 := by decide +kernel
theorem con_odd : ∀ t : Fin cfg0.N, 2 ≤ t.val → t.val < 56 → t.val / 2 % 2 = 1 →
    k0_cond4 (grid0.coords t) ≠ 1#1 ∧ k0_cond5 (grid0.coords t) = 1#1 := by decide +kernel
theorem con_last : ∀ t : Fin cfg0.N, 56 ≤ t.val → k0_cond4 (grid0.coords t) ≠ 1#1 ∧ k0_cond5 (grid0.coords t) ≠ 1#1 ∧ k0_cond6 (grid0.coords t) = 1#1 := by
  decide +kernel

/-- The rows of a grid point. -/
abbrev ptOf (t : Fin cfg0.N) : Pt := pt (grid0.coords t 0) (grid0.coords t 1)

theorem rows (t : Fin cfg0.N) : Data.Rows (t.val / 2) (t.val % 2) (ptOf t) where
  h2 := Nat.mod_lt _ (by decide)
  rb := by show rbN (grid0.coords t 1).val = _; erw [rbN_eq, crd1]
  kp h := by show kpN (grid0.coords t 0).val (grid0.coords t 1).val = _; erw [kpN_eq]; rw [crd0, crd1]; omega
  ke h := by show keN (grid0.coords t 0).val (grid0.coords t 1).val = _; erw [keN_eq]; rw [crd0, crd1]; omega
  xo c := by show xoN (grid0.coords t 1).val (768 * c.val) = _; erw [xoN_eq']; rw [crd1]
  so c b := by show soN (grid0.coords t 1).val (6 * c.val + b.val) = _; erw [soN_eq]; rw [crd1]

theorem prog_even (t : Fin cfg0.N) (h2 : 2 ≤ t.val) (h56 : t.val < 56) (he : t.val / 2 % 2 = 0) :
    progOf (F := Ideal) (grid0.coords t) = step false true (ptOf t) (k1N (grid0.coords t 0).val) (hk4 _ (con_even t h2 h56 he)) := by
  unfold progOf
  rw [dif_neg (point2 t (by omega) (by omega)), dif_pos (con_even t h2 h56 he)]

theorem prog_odd (t : Fin cfg0.N) (h2 : 2 ≤ t.val) (h56 : t.val < 56) (ho : t.val / 2 % 2 = 1) :
    progOf (F := Ideal) (grid0.coords t) = step true false (ptOf t) (k1N (grid0.coords t 0).val) (hk5 _ (con_odd t h2 h56 ho).2) := by
  unfold progOf
  rw [dif_neg (point2 t (by omega) (by omega)), dif_neg (con_odd t h2 h56 ho).1, dif_pos (con_odd t h2 h56 ho).2]

theorem par_ne (T : ℕ) : par T ≠ par (T + 1) := by
  unfold par
  rcases (show T % 2 = 0 ∨ T % 2 = 1 by omega) with e | e
  · rw [e, show (T + 1) % 2 = 1 by omega]; decide
  · rw [e, show (T + 1) % 2 = 0 by omega]; decide

theorem par_two (T : ℕ) : par T = par (T + 1 + 1) := by
  unfold par; rw [show (T + 1 + 1) % 2 = T % 2 by omega]

theorem rows_at' (t : Fin cfg0.N) {T h : ℕ} (hT : t.val / 2 = T) (hh : t.val % 2 = h) : Data.Rows T h (ptOf t) := hT ▸ hh ▸ rows t

/-- What a middle grid point leaves, with the row of scales its residual reads. -/
theorem mid_post (t : Fin cfg0.N) (Y : Stg Ideal) (s : St Ideal) (h2 : 2 ≤ t.val) (h56 : t.val < 56) {T h : ℕ} (hT : t.val / 2 = T) (hh : t.val % 2 = h) :
    ∃ (srow : FVec Ideal (Sh 1 256) .f32), (∀ D : Data, D.In T h (mix Y s) → ∀ o < 256, (at2 srow 0 o : EReal) = D.s1 (2 * (T - 1) + o / 128) (o % 128))
      ∧ StepPost (par T) (par (T + 1)) (ptOf t) (4608 * h) (36 * h) srow (mix Y s) (nextOf t Y s) := by
  have hk : k1N (grid0.coords t 0).val = (T - 1) * 2 := by
    erw [k1N_eq (grid0.coords t 0) (by rw [crd0]; omega)]; rw [crd0, hT]
  have R := rows_at' t hT hh
  have hs (k1 : ℕ) (hk1 : k1 + 2 ≤ 54) (e : k1 = (T - 1) * 2) (D : Data) (H : D.In T h (mix Y s)) (o : ℕ) (ho : o < 256) :
      (at2 (srowOf (F := Ideal) (rd (mix Y s) .s1 (R2 k1 0 2 128 hk1 (by omega)))) 0 o : EReal) = D.s1 (2 * (T - 1) + o / 128) (o % 128) := by
    subst e
    erw [srow_at _ ho]
    unfold rd
    erw [at2_ld _ _ _ (show o / 128 < 2 by omega) (show o % 128 < 128 by omega), H.s1 _ (by omega) _ (by omega)]
    rw [show (T - 1) * 2 + o / 128 = 2 * (T - 1) + o / 128 by omega, Nat.zero_add]
  rcases (show T % 2 = 0 ∨ T % 2 = 1 by omega) with e | e
  · have p0 : par T = false := by unfold par; rw [e]; rfl
    have p1 : par (T + 1) = true := by unfold par; rw [show (T + 1) % 2 = 1 by omega]; rfl
    rw [p0, p1]
    refine ⟨srowOf (F := Ideal) (rd (mix Y s) .s1 (R2 (k1N (grid0.coords t 0).val) 0 2 128 (hk4 _ (con_even t h2 h56 (hT ▸ e))) (by omega))), hs _ _ hk, ?_⟩
    unfold nextOf
    rw [prog_even t h2 h56 (hT ▸ e)]
    exact step_post (by decide) R.xo R.so _ _
  · have p0 : par T = true := by unfold par; rw [e]; rfl
    have p1 : par (T + 1) = false := by unfold par; rw [show (T + 1) % 2 = 0 by omega]; rfl
    rw [p0, p1]
    refine ⟨srowOf (F := Ideal) (rd (mix Y s) .s1 (R2 (k1N (grid0.coords t 0).val) 0 2 128 (hk5 _ ((con_odd t h2 h56 (hT ▸ e)).2)) (by omega))), hs _ _ hk, ?_⟩
    unfold nextOf
    rw [prog_odd t h2 h56 (hT ▸ e)]
    exact step_post (by decide) R.xo R.so _ _

theorem lastOuts_sub : ∀ {b : Bf}, b ∈ ({.dc, .loss} : Finset Bf) ∨ b ∈ ({.g false, .ds2, .da, .dr, .ds1} : Finset Bf) →
    b ∈ ({.g false, .ds2, .da, .dr, .ds1, .dc, .loss} : Finset Bf) := by
  intro b h
  simp only [Finset.mem_insert, Finset.mem_singleton] at h ⊢
  rcases h with (h | h) | h | h | h | h | h <;> simp [h]

theorem rows_of_eq {p : Bool} {P : Pt} {s0 s s' : St Ideal} (H : RInv p P s0 s) (h1 : s' .dr = s .dr) (h2 : s' .ds1 = s .ds1) : RInv p P s0 s' := by
  intro n hn l hl
  rw [h1, h2]
  exact H n hn l hl

theorem last_of {P : Pt} {s0 s1 s2 : St Ideal} (he : EInv false P s0 10 s1 ∧ RInv false P s0 s1
      ∧ ∀ b, b ∉ ({.g false, .ds2, .da, .dr, .ds1} : Finset Bf) → s1 b = s0 b)
    (kl : ∀ b, b ∉ ({.dc, .loss} : Finset Bf) → s2 b = s1 b) : EInv false P s0 10 s2 ∧ RInv false P s0 s2
      ∧ ∀ b, b ∉ ({.g false, .ds2, .da, .dr, .ds1, .dc, .loss} : Finset Bf) → s2 b = s0 b := by
  refine ⟨⟨fun n hn k hk h => ?_, fun n hn k hk => ?_⟩, rows_of_eq he.2.1 (kl .dr (by decide)) (kl .ds1 (by decide)), fun b hb => ?_⟩
  · rw [kl .ds2 (by decide)]; exact he.1.1 n hn k hk h
  · rw [kl (.g false) (by decide)]; exact he.1.2 n hn k hk
  · exact (kl b fun h => hb (lastOuts_sub (Or.inl h))).trans (he.2.2 b fun h => hb (lastOuts_sub (Or.inr h)))

/-- What a last tile's grid point leaves. -/
theorem post_last (t : Fin cfg0.N) (Y : Stg Ideal) (s : St Ideal) (h56 : 56 ≤ t.val) :
    EInv false (ptOf t) (mix Y s) 10 (nextOf t Y s) ∧ RInv false (ptOf t) (mix Y s) (nextOf t Y s)
      ∧ ∀ b, b ∉ ({.g false, .ds2, .da, .dr, .ds1, .dc, .loss} : Finset Bf) → nextOf t Y s b = mix Y s b := by
  have hc := con_last t h56
  have he := epi_post (p := false) (P := ptOf t) (s0 := mix Y s)
  unfold nextOf progOf
  rw [dif_neg (point2 t (by omega) (by omega)), dif_neg hc.1, dif_neg hc.2.1, dif_pos hc.2.2]
  split_ifs
  · rw [run_bind]
    exact last_of he fun b hb => run_kept _ Only_last _ hb
  · exact ⟨he.1, he.2.1, fun b hb => he.2.2 b fun h => hb (lastOuts_sub (Or.inr h))⟩

/-- What the first two grid points leave. -/
theorem post_first (t : Fin cfg0.N) (Y : Stg Ideal) (s : St Ideal) (h0 : t.val = 0) :
    PInv false (ptOf t) (run (clear (F := Ideal)) (mix Y s)).2 10 (nextOf t Y s)
      ∧ nextOf t Y s (.g false) = (run (clear (F := Ideal)) (mix Y s)).2 (.g false) := by
  have he := pro_post (p := false) (P := ptOf t) (s0 := (run (clear (F := Ideal)) (mix Y s)).2)
  unfold nextOf progOf
  rw [dif_pos (point0 t h0).1, dif_pos (point0 t h0).2, run_bind]
  exact ⟨he.1, he.2 _ (by decide)⟩

theorem post_second (t : Fin cfg0.N) (Y : Stg Ideal) (s : St Ideal) (h1 : t.val = 1) :
    PInv false (ptOf t) (mix Y s) 10 (nextOf t Y s) ∧ nextOf t Y s (.g false) = mix Y s (.g false) := by
  have he := pro_post (p := false) (P := ptOf t) (s0 := mix Y s)
  unfold nextOf progOf
  rw [dif_pos (point1 t h1).1, dif_neg (point1 t h1).2.1]
  exact ⟨he.1, he.2 _ (by decide)⟩

/-! ## The invariant and the relation kept -/

/-- What a grid point leaves in a buffer that held `Y`: in an argument's buffer that, in the scale's gradient's its block,
    in the two row gradients' one new row. -/
def relOf (D : Data) : Rel Ideal := fun t b => match b with
  | .ds2 => fun _ X => 4 ≤ t → ∀ n < 128, ∀ k < 2560, (at2 (R := 128) (C := 2560) X n k : EReal) = D.d (128 * (t - 4) + n) k
  | .dr => fun Y X => 4 ≤ t → ∀ n < 54, ∀ l < 128,
      (at2 (R := 54) (C := 128) X n l : EReal) = if n = t - 4 then D.dr (128 * n + l) else at2 (R := 54) (C := 128) Y n l
  | .ds1 => fun Y X => 4 ≤ t → ∀ n < 54, ∀ l < 128,
      (at2 (R := 54) (C := 128) X n l : EReal) = if n = t - 4 then D.ds1 (128 * n + l) else at2 (R := 54) (C := 128) Y n l
  | .xs => fun Y X => X = Y
  | .w => fun Y X => X = Y
  | .s2 => fun Y X => X = Y
  | .s1 => fun Y X => X = Y
  | .r => fun Y X => X = Y
  | .c => fun Y X => X = Y
  | .y => fun Y X => X = Y
  | _ => fun _ _ => True

theorem keepsIn : KeepsIn (fun c => relOf (dataOf m c)) := by
  intro c t b hb Y X h
  fin_cases hb <;> exact h

/-- The scale's gradient's block left by a grid point. -/
theorem ds2_left (c : Dev nD) (t : Fin cfg0.N) (Y : Stg Ideal) (s : St Ideal) (D : Data) (H : D.In (t.val / 2) (t.val % 2) (mix Y s))
    (V : Inv D t.val s) (h4 : 4 ≤ t.val) {n k : ℕ} (hn : n < 128) (hk : k < 2560) :
    (at2 (R := 128) (C := 2560) (nextOf t Y s .ds2) n k : EReal) = D.d (128 * (t.val - 4) + n) k := by
  have ht := t.isLt
  have hN : cfg0.N = 58 := rfl
  have e : 256 * (t.val / 2 - 2) + 128 * (t.val % 2) + n = 128 * (t.val - 4) + n := by omega
  rw [← e]
  by_cases h56 : t.val < 56
  · obtain ⟨srow, -, Q⟩ := mid_post t Y s (by omega) h56 rfl rfl
    exact Data.ds2_block (rows t) H (by omega) (by omega) V.a Q.epi hn hk
  · have a := V.a
    rw [show t.val / 2 = 28 by omega] at a H ⊢
    exact Data.ds2_block (rows_at' t (by omega) rfl) H (by omega) (by omega) a (post_last t Y s (by omega)).1 hn hk

/-- The row gradients' rows left by a grid point. -/
theorem sums_left (c : Dev nD) (t : Fin cfg0.N) (Y : Stg Ideal) (s : St Ideal) (D : Data) (H : D.In (t.val / 2) (t.val % 2) (mix Y s))
    (V : Inv D t.val s) (h4 : 4 ≤ t.val) {n l : ℕ} (hn : n < 54) (hl : l < 128) :
    (at2 (R := 54) (C := 128) (nextOf t Y s .dr) n l : EReal)
        = (if n = t.val - 4 then D.dr (128 * n + l) else at2 (R := 54) (C := 128) (mix Y s .dr) n l)
      ∧ (at2 (R := 54) (C := 128) (nextOf t Y s .ds1) n l : EReal)
        = if n = t.val - 4 then D.ds1 (128 * n + l) else at2 (R := 54) (C := 128) (mix Y s .ds1) n l := by
  have ht := t.isLt
  have hN : cfg0.N = 58 := rfl
  have e : 2 * (t.val / 2 - 2) + t.val % 2 = t.val - 4 := by omega
  rw [← e]
  by_cases h56 : t.val < 56
  · obtain ⟨srow, -, Q⟩ := mid_post t Y s (by omega) h56 rfl rfl
    exact Data.sums_row (rows t) H (by omega) (by omega) V.a Q.rows hn hl
  · have a := V.a
    rw [show t.val / 2 = 28 by omega] at a H ⊢
    exact Data.sums_row (rows_at' t (by omega) rfl) H (by omega) (by omega) a (post_last t Y s (by omega)).2.1 hn hl

theorem keeps : Keeps m (fun c => Inv (dataOf m c)) (fun c => relOf (dataOf m c)) where
  zero c s := Inv.zero _ s
  rel c t Y s hY V b := by
    have kp : ∀ b, b ∉ outs → nextOf t Y s b = mix Y s b := fun b hb => run_kept _ (Only_progOf _) _ hb
    cases b
    case ds2 => exact fun h4 n hn k hk => ds2_left c t Y s _ (in_of keepsIn c t Y s hY) V h4 hn hk
    case dr => exact fun h4 n hn l hl => (sums_left c t Y s _ (in_of keepsIn c t Y s hY) V h4 hn hl).1
    case ds1 => exact fun h4 n hn l hl => (sums_left c t Y s _ (in_of keepsIn c t Y s hY) V h4 hn hl).2
    case xs => exact kp .xs (by decide)
    case w => exact kp .w (by decide)
    case s2 => exact kp .s2 (by decide)
    case s1 => exact kp .s1 (by decide)
    case r => exact kp .r (by decide)
    case c => exact kp .c (by decide)
    case y => exact kp .y (by decide)
    all_goals trivial
  first c t Y s hY h0 := by
    have H := in_of keepsIn c t Y s hY
    rw [show t.val / 2 = 0 by omega, show t.val % 2 = 0 by omega] at H
    have Q := post_first t Y s h0
    have F := Data.first_first (rows_at' t (by omega) (by omega)) (H.of_eq fun b hb => clear_kept _ (by revert hb; fin_cases b <;> decide))
      (fun n hn k hk => clear_g _ hn hk) Q.1 Q.2
    exact Inv.half 0 rfl (fun h => absurd h (by decide)) (fun h => absurd h (by decide)) F.1 (fun h => absurd h (by decide)) fun _ => F.2
  second c t Y s hY h1 V := by
    have H := in_of keepsIn c t Y s hY
    rw [show t.val / 2 = 0 by omega, show t.val % 2 = 1 by omega] at H
    have Q := post_second t Y s h1
    have F := Data.first_second (s0 := mix Y s) (rows_at' t (by omega) (by omega)) H V.b (V.g rfl) Q.1 Q.2
    exact Inv.whole 1 rfl (fun n hn k hk => by rw [Function.update_self]; rfl) (fun h => absurd h (by decide)) F
  later c t Y s hY n0 n1 V := by
    have ht := t.isLt
    have hN : cfg0.N = 58 := rfl
    have H := in_of keepsIn c t Y s hY
    have vx := V.x (by omega)
    have va := V.a
    have vb := V.b
    have vc := V.c
    by_cases h56 : t.val < 56
    · rcases (show t.val % 2 = 0 ∨ t.val % 2 = 1 by omega) with hh | hh
      · obtain ⟨srow, hs, Q⟩ := mid_post t Y s (by omega) h56 rfl hh
        rw [hh] at H va vc
        have F := Data.mid_first (s0 := mix Y s) (par_ne _) (rows_at' t rfl hh) H (by omega) (by omega) vx va vc (hs _ H) Q
        exact Inv.half _ (by omega) (fun _ => F.1) F.2.1 F.2.2.1 F.2.2.2 fun h => absurd h (by omega)
      · obtain ⟨srow, hs, Q⟩ := mid_post t Y s (by omega) h56 rfl hh
        rw [hh] at H vb vc
        have F := Data.mid_second (s0 := mix Y s) (par_ne _) (rows_at' t rfl hh) H (by omega) (by omega) vx vb vc (hs _ H) Q
        exact Inv.whole _ (by omega) F.1 F.2.1 (par_two _ ▸ F.2.2.2)
    · have Q := post_last t Y s (by omega)
      have fx : (dataOf m c).IX (nextOf t Y s) := by unfold Data.IX; rw [Q.2.2 .x (by decide)]; exact vx
      rw [show t.val / 2 = 28 by omega] at va
      rcases (show t.val = 56 ∨ t.val = 57 by omega) with e | e
      · rw [show t.val % 2 = 0 by omega] at va
        exact Inv.half 28 (by omega) (fun _ => fx) (Data.last_first (s0 := mix Y s) (p := false) (rows_at' t (by omega) (by omega)) va Q.1 (Q.2.2 _ (by decide)) (Q.2.2 _ (by decide)))
          (fun h => absurd h (by omega)) (fun h h' => absurd h' (by omega)) fun h => absurd h (by omega)
      · exact Inv.whole 29 (by omega) fx (fun h h' => absurd h' (by omega)) (fun h h' => absurd h' (by omega))

end Cert.KernelIdeal
end
-- ==== Proof.KernelIdealValue.lean ====
/-
  The scale's gradient and the two row gradients that `KernelIdeal` ends with: in every final state each array's element is
  the specification's, over the arrays the launch stages.
-/
module

public import proofs.«01_k».proof.Proof.KernelIdealKeeps
public import proofs.«01_k».proof.Proof.KernelIdealRun
public import Idealize.ShloMosaic.Lib.Pipeline.ArrRel
public import Idealize.ShloMosaic.Lib.Pipeline.ValueKit.Geometry

@[expose] public section

set_option maxRecDepth 100000

noncomputable section

namespace Cert.KernelIdeal

open Idealize.ShloMosaic Idealize.ShloMosaic.TcCoe Idealize.SL.Sem
open Idealize.ShloMosaic.Pipeline (RDat Dat Cfg Window)
open Cert.Proof.FlexRound hiding own

variable (m : (ℓ : Loc nD τ sig) → Buf (Elt Ideal) ℓ)

/-- The scale's gradient as an array. -/
def ds2Of (c : Dev nD) : Buf (Elt Ideal) ((c : Thread nD τ).loc main_v6_0) := fun i => (dataOf m c).d (i 0).val (i 1).val

theorem covers7 : (cfg0.win 7).Covers := by decide +kernel

theorem idx7' : ∀ t : Fin cfg0.N, 4 ≤ t.val → win0_7.index t 0 = t.val - 4 ∧ win0_7.index t 1 = 0 := by decide +kernel

/-- The scale's gradient's array at the end of the launch. -/
theorem ds2_end {r : PUnit × MemSt nD τ sig (Elt Ideal)}
    (h : RDat.FramePost cfg0 (rdatOf m (fun c => Inv (dataOf m c)) (fun c => relOf (dataOf m c))) (Gen.V m) r) (c : Dev nD) :
    r.2.mem ((c : Thread nD τ).loc main_v6_0) = ds2Of m c := by
  obtain ⟨after, hL, hA⟩ := RDat.FramePost.exists_exact h c
  refine (hA 7).trans (Dat.arrAt_eq_of_covers _ 7 (ds2Of m c) covers7 fun t hf y => ?_)
  have h4 : 4 ≤ t.val := (flush7 t).1 hf
  obtain ⟨Y, -, hY⟩ := hL 7 t hf
  have hY' : 4 ≤ t.val → ∀ n < 128, ∀ k < 2560, (at2 (R := 128) (C := 2560) (after 7 t) n k : EReal) = (dataOf m c).d (128 * (t.val - 4) + n) k := hY
  have y0 : (y 0).val < 128 := (y 0).isLt
  have y1 : (y 1).val < 2560 := (y 1).isLt
  have e := hY' h4 _ y0 _ y1
  have e0 : (((win0_7.rect t).emb y) 0).val = 128 * (t.val - 4) + (y 0).val := by
    rw [Window.rect_emb_val win0_7 t, (idx7' t h4).1]; show (t.val - 4) * 128 + _ = _; omega
  have e1 : (((win0_7.rect t).emb y) 1).val = (y 1).val := by
    rw [Window.rect_emb_val win0_7 t, (idx7' t h4).2]; show 0 * 2560 + _ = _; omega
  show after 7 t _ = (dataOf m c).d (((win0_7.rect t).emb y) 0).val (((win0_7.rect t).emb y) 1).val
  rw [e0, e1, ← e, at2_eq _ y0 y1]
  refine congrArg (after 7 t) (funext fun a => Fin.ext ?_)
  match a with
  | ⟨0, _⟩ => rfl
  | ⟨1, _⟩ => rfl

/-! ## The two row gradients -/

theorem flush10 : ∀ t : Fin cfg0.N, (cfg0.win 10).flush t = true ↔ t.val = 57 := by decide +kernel
theorem flush11 : ∀ t : Fin cfg0.N, (cfg0.win 11).flush t = true ↔ t.val = 57 := by decide +kernel
theorem covers10 : (cfg0.win 10).Covers := by decide +kernel
theorem covers11 : (cfg0.win 11).Covers := by decide +kernel
theorem idx10 : ∀ t : Fin cfg0.N, win0_10.index t 0 = 0 ∧ win0_10.index t 1 = 0 := by decide +kernel
theorem idx11 : ∀ t : Fin cfg0.N, win0_11.index t 0 = 0 ∧ win0_11.index t 1 = 0 := by decide +kernel

/-- The row offset's gradient as an array. -/
def drOf (c : Dev nD) : Buf (Elt Ideal) ((c : Thread nD τ).loc main_v6_3) := fun i => (dataOf m c).dr (128 * (i 0).val + (i 1).val)

/-- Each grid point leaves the row offset's gradient right in the rows so far. -/
theorem dr_rows (c : Dev nD) (d : ℕ) : ∀ t : Fin cfg0.N, t.val = 4 + d → ∀ X,
    (rdatOf m (fun c => Inv (dataOf m c)) (fun c => relOf (dataOf m c)) c).Leaves 10 t X →
    ∀ n ≤ d, n < 54 → ∀ l < 128, (at2 (R := 54) (C := 128) X n l : EReal) = (dataOf m c).dr (128 * n + l) := by
  induction d with
  | zero =>
    intro t ht X hX n hn hn' l hl
    obtain ⟨Y, -, hY⟩ := hX
    have hY' : 4 ≤ t.val → ∀ n < 54, ∀ l < 128, (at2 (R := 54) (C := 128) X n l : EReal)
      = if n = t.val - 4 then (dataOf m c).dr (128 * n + l) else at2 (R := 54) (C := 128) Y n l := hY
    rw [hY' (by omega) n hn' l hl, if_pos (by omega)]
  | succ d ih =>
    intro t ht X hX n hn hn' l hl
    obtain ⟨Y, hF, hY⟩ := hX
    have hY' : 4 ≤ t.val → ∀ n < 54, ∀ l < 128, (at2 (R := 54) (C := 128) X n l : EReal)
      = if n = t.val - 4 then (dataOf m c).dr (128 * n + l) else at2 (R := 54) (C := 128) Y n l := hY
    rw [hY' (by omega) n hn' l hl]
    split_ifs with e
    · rfl
    · have hN : cfg0.N = 58 := rfl
      have h57 := t.isLt
      rcases (RDat.finds_of_pos _ ((cfg0.win 10).fetch_out rfl t) (by omega) Y).1 hF with h | h
      · have h' := (flush10 _).1 h
        simp only at h'
        omega
      · exact ih _ (by simp only; omega) Y h n (by omega) hn' l hl

/-- The row offset's gradient's array at the end of the launch. -/
theorem dr_end {r : PUnit × MemSt nD τ sig (Elt Ideal)}
    (h : RDat.FramePost cfg0 (rdatOf m (fun c => Inv (dataOf m c)) (fun c => relOf (dataOf m c))) (Gen.V m) r) (c : Dev nD) :
    r.2.mem ((c : Thread nD τ).loc main_v6_3) = drOf m c := by
  obtain ⟨after, hL, hA⟩ := RDat.FramePost.exists_exact h c
  refine (hA 10).trans (Dat.arrAt_eq_of_covers _ 10 (drOf m c) covers10 fun t hf y => ?_)
  have h57 : t.val = 57 := (flush10 t).1 hf
  have y0 : (y 0).val < 54 := (y 0).isLt
  have y1 : (y 1).val < 128 := (y 1).isLt
  have e := dr_rows m c 53 t (by omega) (after 10 t) (hL 10 t hf) (y 0).val (by omega) y0 _ y1
  have e0 : (((win0_10.rect t).emb y) 0).val = (y 0).val := by
    rw [Window.rect_emb_val win0_10 t, (idx10 t).1]; show 0 * 54 + _ = _; omega
  have e1 : (((win0_10.rect t).emb y) 1).val = (y 1).val := by
    rw [Window.rect_emb_val win0_10 t, (idx10 t).2]; show 0 * 128 + _ = _; omega
  show after 10 t _ = (dataOf m c).dr (128 * (((win0_10.rect t).emb y) 0).val + (((win0_10.rect t).emb y) 1).val)
  rw [e0, e1, ← e, at2_eq _ y0 y1]
  refine congrArg (after 10 t) (funext fun a => Fin.ext ?_)
  match a with
  | ⟨0, _⟩ => rfl
  | ⟨1, _⟩ => rfl

/-- The row scale's gradient as an array. -/
def ds1Of (c : Dev nD) : Buf (Elt Ideal) ((c : Thread nD τ).loc main_v6_4) := fun i => (dataOf m c).ds1 (128 * (i 0).val + (i 1).val)

/-- Each grid point leaves the row scale's gradient right in the rows so far. -/
theorem ds1_rows (c : Dev nD) (d : ℕ) : ∀ t : Fin cfg0.N, t.val = 4 + d → ∀ X,
    (rdatOf m (fun c => Inv (dataOf m c)) (fun c => relOf (dataOf m c)) c).Leaves 11 t X →
    ∀ n ≤ d, n < 54 → ∀ l < 128, (at2 (R := 54) (C := 128) X n l : EReal) = (dataOf m c).ds1 (128 * n + l) := by
  induction d with
  | zero =>
    intro t ht X hX n hn hn' l hl
    obtain ⟨Y, -, hY⟩ := hX
    have hY' : 4 ≤ t.val → ∀ n < 54, ∀ l < 128, (at2 (R := 54) (C := 128) X n l : EReal)
      = if n = t.val - 4 then (dataOf m c).ds1 (128 * n + l) else at2 (R := 54) (C := 128) Y n l := hY
    rw [hY' (by omega) n hn' l hl, if_pos (by omega)]
  | succ d ih =>
    intro t ht X hX n hn hn' l hl
    obtain ⟨Y, hF, hY⟩ := hX
    have hY' : 4 ≤ t.val → ∀ n < 54, ∀ l < 128, (at2 (R := 54) (C := 128) X n l : EReal)
      = if n = t.val - 4 then (dataOf m c).ds1 (128 * n + l) else at2 (R := 54) (C := 128) Y n l := hY
    rw [hY' (by omega) n hn' l hl]
    split_ifs with e
    · rfl
    · have hN : cfg0.N = 58 := rfl
      have h57 := t.isLt
      rcases (RDat.finds_of_pos _ ((cfg0.win 11).fetch_out rfl t) (by omega) Y).1 hF with h | h
      · have h' := (flush11 _).1 h
        simp only at h'
        omega
      · exact ih _ (by simp only; omega) Y h n (by omega) hn' l hl

/-- The row scale's gradient's array at the end of the launch. -/
theorem ds1_end {r : PUnit × MemSt nD τ sig (Elt Ideal)}
    (h : RDat.FramePost cfg0 (rdatOf m (fun c => Inv (dataOf m c)) (fun c => relOf (dataOf m c))) (Gen.V m) r) (c : Dev nD) :
    r.2.mem ((c : Thread nD τ).loc main_v6_4) = ds1Of m c := by
  obtain ⟨after, hL, hA⟩ := RDat.FramePost.exists_exact h c
  refine (hA 11).trans (Dat.arrAt_eq_of_covers _ 11 (ds1Of m c) covers11 fun t hf y => ?_)
  have h57 : t.val = 57 := (flush11 t).1 hf
  have y0 : (y 0).val < 54 := (y 0).isLt
  have y1 : (y 1).val < 128 := (y 1).isLt
  have e := ds1_rows m c 53 t (by omega) (after 11 t) (hL 11 t hf) (y 0).val (by omega) y0 _ y1
  have e0 : (((win0_11.rect t).emb y) 0).val = (y 0).val := by
    rw [Window.rect_emb_val win0_11 t, (idx11 t).1]; show 0 * 54 + _ = _; omega
  have e1 : (((win0_11.rect t).emb y) 1).val = (y 1).val := by
    rw [Window.rect_emb_val win0_11 t, (idx11 t).2]; show 0 * 128 + _ = _; omega
  show after 11 t _ = (dataOf m c).ds1 (128 * (((win0_11.rect t).emb y) 0).val + (((win0_11.rect t).emb y) 1).val)
  rw [e0, e1, ← e, at2_eq _ y0 y1]
  refine congrArg (after 11 t) (funext fun a => Fin.ext ?_)
  match a with
  | ⟨0, _⟩ => rfl
  | ⟨1, _⟩ => rfl

end Cert.KernelIdeal
-- ==== Proof.Reference.lean ====
/-
  The reference's arrays, read at a row and a column over the extended reals: the specification's gradients of its own inputs.
-/
module

public import proofs.«01_k».proof.Proof.Grid
public import proofs.«01_k».proof.Proof.Gen.ReferenceIdeal.Value
public import Idealize.ShloMosaic.Lib.Pointwise
public import Idealize.ShloMosaic.Lib.Pipeline.Value

@[expose] public section

set_option maxRecDepth 100000

noncomputable section

namespace Cert.ReferenceIdeal

open Idealize.ShloMosaic Idealize.ShloMosaic.TcCoe Idealize.SL.Sem
open Cert.Proof.FlexRound

/-! ## The codes as bytes -/

theorem seven : Ideal.ofBits FTy.f32 0x40E00000#32 = (((7 : ℤ) : ℝ) : EReal) := by
  simp [Ideal.ofBits, Ideal.ieee]; norm_cast; norm_num

theorem minusEight : Ideal.ofBits FTy.f32 0xC1000000#32 = (((-8 : ℤ) : ℝ) : EReal) := by
  simp [Ideal.ofBits, Ideal.ieee]; norm_cast; norm_num

/-- A whole number in a byte's range, as a byte and back. -/
theorem byte_back (n : ℤ) (h : -8 ≤ n) (h' : n ≤ 7) : (((Ideal.fptosi 8 ((n : ℝ) : EReal)).toInt : ℝ) : EReal) = ((n : ℝ) : EReal) := by
  have e : Ideal.toIntClamped (-(2 ^ (8 - 1) : ℕ)) ((2 ^ (8 - 1) : ℕ) - 1) ((n : ℝ) : EReal) = n := by
    show max _ (min _ (if 0 ≤ (n : ℝ) then ⌊(n : ℝ)⌋ else ⌈(n : ℝ)⌉)) = n
    rw [Int.floor_intCast, Int.ceil_intCast, ite_self]
    omega
  unfold Ideal.fptosi
  rw [e]
  have : (BitVec.ofInt 8 n).toInt = n := by interval_cases n <;> decide
  rw [this]

/-- The code is a whole number from -8 to 7. -/
theorem code_int (z : EReal) : ∃ n : ℤ, -8 ≤ n ∧ n ≤ 7 ∧ qS z = ((n : ℝ) : EReal) := by
  unfold qS
  rw [seven, minusEight]
  have key (n : ℤ) : min (((7 : ℤ) : ℝ) : EReal) (max (((-8 : ℤ) : ℝ) : EReal) ((n : ℝ) : EReal)) = (((min 7 (max (-8) n) : ℤ) : ℝ) : EReal) := by
    rw [← EReal.coe_strictMono.monotone.map_max, ← EReal.coe_strictMono.monotone.map_min]; norm_cast
  induction z using EReal.rec with
  | bot => exact ⟨-8, by omega, by omega, by
      rw [Ideal.liftRound_bot, max_eq_left bot_le, min_eq_right]; exact_mod_cast (by norm_num : (-8 : ℝ) ≤ 7)⟩
  | top => exact ⟨7, by omega, by omega, by rw [Ideal.liftRound_top, max_eq_right le_top, min_eq_left le_top]⟩
  | coe r => exact ⟨min 7 (max (-8) (Ideal.roundHalfEven r)), by omega, by omega, by rw [Ideal.liftRound_coe, key]⟩

theorem code_back (z : EReal) : (((Ideal.fptosi 8 (qS z)).toInt : ℝ) : EReal) = qS z := by
  obtain ⟨n, h, h', e⟩ := code_int z
  rw [e, byte_back n h h']

/-- The reference's code. -/
theorem code_ref (z : EReal) : ((((Ideal.fptosi 8 (min (((7#32).toInt : ℝ) : EReal) (max (((4294967288#32).toInt : ℝ) : EReal)
    (Ideal.liftRound Ideal.roundHalfEven z)))).toInt : ℝ)) : EReal) = qS z := by
  rw [show (7#32).toInt = 7 by decide, show (4294967288#32).toInt = -8 by decide, ← seven, ← minusEight]
  exact code_back z

/-! ## The payloads -/

variable (x0 : FVec Ideal S9216x2560 .fp8e4m3) (x1 : FVec Ideal S9216x1 .f32) (x2 : FVec Ideal S6912x2560 .f32) (x3 : FVec Ideal S6912x1 .f32)
  (x4 : FVec Ideal S1x6912 .f32) (x5 : FVec Ideal S6912x2560 .f32) (x6 : FVec Ideal S6912x1 .f32) (x7 : FVec Ideal S1x2560 .f32)
  (x8 : FVec Ideal S9216x6912 .bf16)

open Gen Facts₀ Facts

theorem pay1_at (o k : ℕ) : at2 (R := 6912) (C := 2560) (k0_pay1 (F := Ideal) x5 x6 x7 x3 x2) o k
    = zS (at2 (R := 6912) (C := 2560) x2 o k) (at2 (R := 6912) (C := 1) x3 o 0) (at2 (R := 6912) (C := 2560) x5 o k) (at2 (R := 6912) (C := 1) x6 o 0)
      (at2 (R := 1) (C := 2560) x7 0 k) := by
  unfold at2 zS; pointwise [k0_pay1]; rfl

theorem code_at (i : S6912x2560.Idx) : (((k0_pay2 (F := Ideal) x5 x6 x7 x3 x2 i).toInt : ℝ) : EReal) = qS (k0_pay1 (F := Ideal) x5 x6 x7 x3 x2 i) := by
  unfold k0_pay2
  generalize k0_pay1 (F := Ideal) x5 x6 x7 x3 x2 = z
  exact code_ref (z i)

theorem pay5_at (n o : ℕ) : at2 (R := 9216) (C := 6912) (k0_pay5 (F := Ideal) x5 x6 x7 x3 x2 x0) n o
    = ∑ k ∈ Finset.range 2560, (at2 (R := 9216) (C := 2560) x0 n k * qS (at2 (R := 6912) (C := 2560) (k0_pay1 (F := Ideal) x5 x6 x7 x3 x2) o k) : EReal) := by
  rw [Finset.sum_range]
  unfold k0_pay5
  have hc := code_at x2 x3 x5 x6 x7
  generalize k0_pay1 (F := Ideal) x5 x6 x7 x3 x2 = z at hc ⊢
  generalize k0_pay2 (F := Ideal) x5 x6 x7 x3 x2 = q at hc ⊢
  unfold at2; pointwise [k0_pay4]
  refine Finset.sum_congr rfl fun k _ => ?_
  rw [show Fin.ofNat 2560 k.val = k from Fin.ext (Nat.mod_eq_of_lt k.isLt)]
  exact congrArg (x0 (ix2 (Fin.ofNat 9216 n) k) * ·) (hc _)

/-- The gradient of the dequantised weight. -/
def gBlk (acc : FVec Ideal S9216x6912 .f32) : FVec Ideal S6912x2560 .f32 :=
  matmul dot_S6912x9216_S9216x2560_S6912x2560_1_0_0_1_n_n none
    (transpose S6912x9216 [1, 0] (k0_pay7 (F := Ideal) acc (k0_pay6 x1) x4 x8 x1) Gen.transposes_S9216x6912_p1_0_S6912x9216) (k0_pay4 x0)
    (constant S6912x2560 .f32 0x00000000#32)

theorem gBlk_at (acc : FVec Ideal S9216x6912 .f32) (o k : ℕ) :
    at2 (R := 6912) (C := 2560) (gBlk x0 x1 x4 x8 acc) o k
    = ∑ n ∈ Finset.range 9216, (errS (at2 (R := 9216) (C := 6912) acc n o) (at2 (R := 9216) (C := 1) x1 n 0) (at2 (R := 1) (C := 6912) x4 0 o) (at2 (R := 9216) (C := 6912) x8 n o)
        * at2 (R := 9216) (C := 2560) x0 n k : EReal) := by
  rw [Finset.sum_range]
  unfold gBlk at2 errS; pointwise [k0_pay7, k0_pay4, k0_pay6]
  have e : ∀ i : Fin 9216, Fin.ofNat 9216 i.val = i := fun i => Fin.ext (Nat.mod_eq_of_lt i.isLt)
  simp only [e]
  rfl

theorem pay8_at (z : FVec Ideal S6912x2560 .f32) (hz : k0_pay1 x5 x6 x7 x3 x2 = z) (o k : ℕ) :
    at2 (R := 6912) (C := 2560) (k0_pay8 (F := Ideal) z (k0_pay3 x5 x6 x7 x3 x2)) o k = mzS (at2 (R := 6912) (C := 2560) z o k) := by
  unfold k0_pay3
  rw [hz]
  unfold at2 mzS; pointwise [k0_pay8]

theorem pay9_at (z : FVec Ideal S6912x2560 .f32) (hz : k0_pay1 x5 x6 x7 x3 x2 = z) (acc : FVec Ideal S9216x6912 .f32) (o k : ℕ) :
    (at2 (R := 6912) (C := 2560) (k0_pay9 (F := Ideal) z (k0_pay3 x5 x6 x7 x3 x2) (k0_pay4 x0) acc (k0_pay6 x1) x4 x8 x1 x3) o k : EReal)
    = (0 - at2 (R := 6912) (C := 1) x3 o 0) * mzS (at2 (R := 6912) (C := 2560) z o k)
      * at2 (R := 6912) (C := 2560) (gBlk x0 x1 x4 x8 acc) o k := by
  rw [← pay8_at x2 x3 x5 x6 x7 z hz]
  generalize k0_pay3 (F := Ideal) x5 x6 x7 x3 x2 = q
  show (at2 (R := 6912) (C := 2560) (mulf (mulf (broadcastTo S6912x2560 (subf (broadcast S6912x1 (Scalar.ofBits .f32 0x00000000#32))
    (shapeCast S6912x1 x3 Gen.shapeCasts_S6912x1_S6912x1)) Gen.broadcasts_S6912x1_S6912x2560) (k0_pay8 (F := Ideal) z q)) (gBlk x0 x1 x4 x8 acc)) o k : EReal) = _
  generalize gBlk x0 x1 x4 x8 acc = g
  generalize k0_pay8 (F := Ideal) z q = mz
  unfold at2; pointwise []
  rfl

theorem pay2_at (o k : ℕ) : (at2 (R := 6912) (C := 2560) (sitofp (F := Ideal) .f32 (k0_pay2 (F := Ideal) x5 x6 x7 x3 x2)) o k : EReal)
    = qS (at2 (R := 6912) (C := 2560) (k0_pay1 (F := Ideal) x5 x6 x7 x3 x2) o k) := by
  exact code_at x2 x3 x5 x6 x7 _

theorem pay11_eq (z q : FVec Ideal S6912x2560 .f32) (b : IVec S6912x2560 8) (acc : FVec Ideal S9216x6912 .f32) :
    k0_pay11 (F := Ideal) z b q (k0_pay4 x0) acc (k0_pay6 x1) x4 x8 x1
      = shapeCast S54x128 (multiReduction (F := Ideal) .add [1] S6912 (mulf (gBlk x0 x1 x4 x8 acc) (subf (sitofp .f32 b) (k0_pay8 z q))) 0x00000000#32
        Gen.reduces_S6912x2560_S6912 (.inl rfl) rfl) Gen.shapeCasts_S6912_S54x128 := rfl

/-- An index along the rows. -/
def line (o : ℕ) (h : o < 6912) : S6912.Idx := fun a => match a with | ⟨0, _⟩ => ⟨o, h⟩

/-- A row's sum, at its place in the folded array. -/
theorem fold_at (a : FVec Ideal S6912x2560 .f32) (h : S6912.ShapeCasts S54x128) (h1) (h2) (h3) {n l : ℕ} (hn : n < 54) (hl : l < 128) :
    (at2 (R := 54) (C := 128) (shapeCast S54x128 (multiReduction (F := Ideal) .add [1] S6912 a 0x00000000#32 h1 h2 h3) h) n l : EReal)
      = ∑ k ∈ Finset.range 2560, at2 (R := 6912) (C := 2560) a (128 * n + l) k := by
  have e : (at2 (R := 54) (C := 128) (shapeCast S54x128 (multiReduction (F := Ideal) .add [1] S6912 a 0x00000000#32 h1 h2 h3) h) n l : EReal)
      = multiReduction (F := Ideal) .add [1] S6912 a 0x00000000#32 h1 h2 h3 (line (128 * n + l) (by omega)) := by
    rw [at2_eq _ hn hl]
    refine congrArg (multiReduction (F := Ideal) .add [1] S6912 a 0x00000000#32 h1 h2 h3) (S6912.rowMajor.injective (Fin.ext ?_))
    refine (Shape.rowMajor_reshapeEquiv h _).trans ?_
    rw [Shape.rowMajor_val_one]
    erw [Shape.rowMajor_val_two]
    show n * 128 + l = 128 * n + l
    omega
  rw [e, Finset.sum_range]
  have e0 : (⟨128 * n + l, by omega⟩ : Fin 6912) = Fin.ofNat 6912 (128 * n + l) := Fin.ext (Nat.mod_eq_of_lt (by omega)).symm
  have e1 : ∀ i : Fin 2560, Fin.ofNat 2560 i.val = i := fun i => Fin.ext (Nat.mod_eq_of_lt i.isLt)
  unfold at2
  simp only [e1, ← e0]
  unfold line
  pointwise []

section
variable (D : Data) (h0 : ∀ n < 9216, ∀ k < 2560, (at2 (R := 9216) (C := 2560) x0 n k : EReal) = D.x n k)
  (h1 : ∀ n < 9216, (at2 (R := 9216) (C := 1) x1 n 0 : EReal) = D.xs (n / 128) (n % 128))
  (h2 : ∀ n < 6912, ∀ k < 2560, (at2 (R := 6912) (C := 2560) x2 n k : EReal) = D.w n k)
  (h3 : ∀ n < 6912, (at2 (R := 6912) (C := 1) x3 n 0 : EReal) = D.s1 (n / 128) (n % 128))
  (h4 : ∀ n < 6912, (at2 (R := 1) (C := 6912) x4 0 n : EReal) = D.s1 (n / 128) (n % 128))
  (h5 : ∀ n < 6912, ∀ k < 2560, (at2 (R := 6912) (C := 2560) x5 n k : EReal) = D.s2 n k)
  (h6 : ∀ n < 6912, (at2 (R := 6912) (C := 1) x6 n 0 : EReal) = D.r (n / 128) (n % 128))
  (h7 : ∀ k < 2560, (at2 (R := 1) (C := 2560) x7 0 k : EReal) = D.c k)
  (h8 : ∀ n < 9216, ∀ k < 6912, (at2 (R := 9216) (C := 6912) x8 n k : EReal) = D.y n k)
include h2 h3 h5 h6 h7 in
theorem z_at {o k : ℕ} (ho : o < 6912) (hk : k < 2560) : (at2 (R := 6912) (C := 2560) (k0_pay1 (F := Ideal) x5 x6 x7 x3 x2) o k : EReal) = D.z o k := by
  rw [pay1_at]; unfold Data.z
  erw [h2 o ho k hk, h3 o ho, h5 o ho k hk, h6 o ho, h7 k hk]

include h0 h1 h2 h3 h4 h5 h6 h7 h8 in
theorem g_at {o k : ℕ} (ho : o < 6912) (hk : k < 2560) :
    (at2 (R := 6912) (C := 2560) (gBlk x0 x1 x4 x8 (k0_pay5 x5 x6 x7 x3 x2 x0)) o k : EReal) = D.g 12 o k := by
  rw [gBlk_at]
  unfold Data.g
  refine Finset.sum_congr rfl fun n hn => ?_
  have hn' : n < 9216 := Finset.mem_range.1 hn
  unfold Data.e
  erw [h1 n hn', h4 o ho, h8 n hn' o ho, h0 n hn' k hk, pay5_at]
  refine congrArg (fun a => errS a _ _ _ * _) (Finset.sum_congr rfl fun j hj => ?_)
  have hj' : j < 2560 := Finset.mem_range.1 hj
  erw [h0 n hn' j hj', z_at x2 x3 x5 x6 x7 D h2 h3 h5 h6 h7 ho hj']

include h0 h1 h2 h3 h4 h5 h6 h7 h8 in
theorem d_at {o k : ℕ} (ho : o < 6912) (hk : k < 2560) :
    (at2 (R := 6912) (C := 2560) (k0_pay9 (F := Ideal) (k0_pay1 x5 x6 x7 x3 x2) (k0_pay3 x5 x6 x7 x3 x2) (k0_pay4 x0) (k0_pay5 x5 x6 x7 x3 x2 x0) (k0_pay6 x1) x4 x8 x1 x3) o k : EReal)
      = D.d o k := by
  rw [pay9_at x0 x1 x2 x3 x4 x5 x6 x7 x8 _ rfl]
  erw [g_at x0 x1 x2 x3 x4 x5 x6 x7 x8 D h0 h1 h2 h3 h4 h5 h6 h7 h8 ho hk, h3 o ho, z_at x2 x3 x5 x6 x7 D h2 h3 h5 h6 h7 ho hk]
  rfl

theorem z00 : (![0, 0] : Fin 2 → ℕ) = fun _ => 0 := by funext a; fin_cases a <;> rfl

include h0 h1 h2 h3 h4 h5 h6 h7 h8 in
/-- The scale's gradient's array the body leaves. -/
theorem out9_at {o k : ℕ} (ho : o < 6912) (hk : k < 2560) :
    (at2 (R := 6912) (C := 2560) (Gen.out0_9 (F := Ideal) x0 x1 x2 x3 x4 x5 x6 x7 x8) o k : EReal) = D.d o k := by
  unfold Gen.out0_9 Gen.k0_pay16 Gen.k0_pay15 Gen.k0_pay14 Gen.k0_pay13 Gen.k0_pay12
  erw [View.canon_unit_zero z00]
  repeat erw [View.ld_unit_zero z00]
  exact d_at x0 x1 x2 x3 x4 x5 x6 x7 x8 D h0 h1 h2 h3 h4 h5 h6 h7 h8 ho hk

include h0 h1 h2 h3 h4 h5 h6 h7 h8 in
/-- The row offset's gradient's array the body leaves. -/
theorem out10_at {n l : ℕ} (hn : n < 54) (hl : l < 128) :
    (at2 (R := 54) (C := 128) (Gen.out0_10 (F := Ideal) x0 x1 x2 x3 x4 x5 x6 x7 x8) n l : EReal) = D.dr (128 * n + l) := by
  unfold Gen.out0_10 Gen.k0_pay16 Gen.k0_pay15 Gen.k0_pay14 Gen.k0_pay13 Gen.k0_pay12
  erw [View.canon_unit_zero z00]
  repeat erw [View.ld_unit_zero z00]
  unfold k0_pay10
  erw [fold_at _ _ _ _ _ hn hl]
  exact Finset.sum_congr rfl fun k hk => d_at x0 x1 x2 x3 x4 x5 x6 x7 x8 D h0 h1 h2 h3 h4 h5 h6 h7 h8 (by omega) (Finset.mem_range.1 hk)

include h0 h1 h2 h3 h4 h5 h6 h7 h8 in
/-- The row scale's gradient's array the body leaves. -/
theorem out11_at {n l : ℕ} (hn : n < 54) (hl : l < 128) :
    (at2 (R := 54) (C := 128) (Gen.out0_11 (F := Ideal) x0 x1 x2 x3 x4 x5 x6 x7 x8) n l : EReal) = D.ds1 (128 * n + l) := by
  unfold Gen.out0_11 Gen.k0_pay16 Gen.k0_pay15 Gen.k0_pay14 Gen.k0_pay13 Gen.k0_pay12
  erw [View.canon_unit_zero z00]
  repeat erw [View.ld_unit_zero z00]
  rw [pay11_eq]
  erw [fold_at _ _ _ _ _ hn hl]
  refine Finset.sum_congr rfl fun k hk => ?_
  have hk' : k < 2560 := Finset.mem_range.1 hk
  have ho : 128 * n + l < 6912 := by omega
  have ez := z_at x2 x3 x5 x6 x7 D h2 h3 h5 h6 h7 ho hk'
  have e1 := g_at x0 x1 x2 x3 x4 x5 x6 x7 x8 D h0 h1 h2 h3 h4 h5 h6 h7 h8 ho hk'
  have e2 := (pay8_at x2 x3 x5 x6 x7 _ rfl (128 * n + l) k).trans (congrArg mzS ez)
  have e3 := (pay2_at x2 x3 x5 x6 x7 (128 * n + l) k).trans (congrArg qS ez)
  exact congrArg₂ (· * ·) e1 (congrArg₂ (· - ·) e3 e2)
end

end Cert.ReferenceIdeal
end
-- ==== Proof.Algebraic.lean ====
/-
  The kernel's and the reference's gradients of the scale, of the row offset and of the row scale are the same arrays.
-/
module

public import proofs.«01_k».proof.Proof.KernelIdealValue
public import proofs.«01_k».proof.Proof.Reference
public import proofs.«01_k».proof.Defs
public import proofs.«01_k».proof.Proof.Gen.ReferenceIdeal.Value
public import Idealize.ShloMosaic.Lib.Claim

@[expose] public section

set_option maxRecDepth 100000

noncomputable section

namespace Cert.ReferenceIdeal

open Idealize.ShloMosaic Idealize.ShloMosaic.TcCoe Idealize.SL.Sem
open Idealize.ShloMosaic.Pipeline (Dat Window)
open Cert.Proof.FlexRound

variable (m : (ℓ : Loc nD τ sig) → Buf (Elt Ideal) ℓ)

/-! ## The windows are the arrays -/

theorem blk0 (c : Dev nD) (t : Fin cfg0.N) {n k : ℕ} (hn : n < 9216) (hk : k < 2560) :
    at2 (R := 9216) (C := 2560) (Gen.iblk m c 0 t) n k = at2 (R := 9216) (C := 2560) (Gen.V m c main_v0) n k := by
  show Gen.V m c main_v0 ((win0_0.rect t).emb (ix2 (Fin.ofNat 9216 n) (Fin.ofNat 2560 k))) = Gen.V m c main_v0 (ix2 _ _)
  refine congrArg (Gen.V m c main_v0) (Cert.KernelIdeal.ix2_of (R := 9216) (C := 2560) _ ?_ ?_)
  · rw [Window.rect_emb_val win0_0 t]; show 0 * 9216 + n % 9216 = _; omega
  · rw [Window.rect_emb_val win0_0 t]; show 0 * 2560 + k % 2560 = _; omega

theorem blk1 (c : Dev nD) (t : Fin cfg0.N) {n k : ℕ} (hn : n < 9216) (hk : k < 1) :
    at2 (R := 9216) (C := 1) (Gen.iblk m c 1 t) n k = at2 (R := 9216) (C := 1) (Gen.V m c main_v1) n k := by
  show Gen.V m c main_v1 ((win0_1.rect t).emb (ix2 (Fin.ofNat 9216 n) (Fin.ofNat 1 k))) = Gen.V m c main_v1 (ix2 _ _)
  refine congrArg (Gen.V m c main_v1) (Cert.KernelIdeal.ix2_of (R := 9216) (C := 1) _ ?_ ?_)
  · rw [Window.rect_emb_val win0_1 t]; show 0 * 9216 + n % 9216 = _; omega
  · rw [Window.rect_emb_val win0_1 t]; show 0 * 1 + k % 1 = _; omega

theorem blk2 (c : Dev nD) (t : Fin cfg0.N) {n k : ℕ} (hn : n < 6912) (hk : k < 2560) :
    at2 (R := 6912) (C := 2560) (Gen.iblk m c 2 t) n k = at2 (R := 6912) (C := 2560) (Gen.V m c main_arg2) n k := by
  show Gen.V m c main_arg2 ((win0_2.rect t).emb (ix2 (Fin.ofNat 6912 n) (Fin.ofNat 2560 k))) = Gen.V m c main_arg2 (ix2 _ _)
  refine congrArg (Gen.V m c main_arg2) (Cert.KernelIdeal.ix2_of (R := 6912) (C := 2560) _ ?_ ?_)
  · rw [Window.rect_emb_val win0_2 t]; show 0 * 6912 + n % 6912 = _; omega
  · rw [Window.rect_emb_val win0_2 t]; show 0 * 2560 + k % 2560 = _; omega

theorem blk3 (c : Dev nD) (t : Fin cfg0.N) {n k : ℕ} (hn : n < 6912) (hk : k < 1) :
    at2 (R := 6912) (C := 1) (Gen.iblk m c 3 t) n k = at2 (R := 6912) (C := 1) (Gen.V m c main_v2) n k := by
  show Gen.V m c main_v2 ((win0_3.rect t).emb (ix2 (Fin.ofNat 6912 n) (Fin.ofNat 1 k))) = Gen.V m c main_v2 (ix2 _ _)
  refine congrArg (Gen.V m c main_v2) (Cert.KernelIdeal.ix2_of (R := 6912) (C := 1) _ ?_ ?_)
  · rw [Window.rect_emb_val win0_3 t]; show 0 * 6912 + n % 6912 = _; omega
  · rw [Window.rect_emb_val win0_3 t]; show 0 * 1 + k % 1 = _; omega

theorem blk4 (c : Dev nD) (t : Fin cfg0.N) {n k : ℕ} (hn : n < 1) (hk : k < 6912) :
    at2 (R := 1) (C := 6912) (Gen.iblk m c 4 t) n k = at2 (R := 1) (C := 6912) (Gen.V m c main_v3) n k := by
  show Gen.V m c main_v3 ((win0_4.rect t).emb (ix2 (Fin.ofNat 1 n) (Fin.ofNat 6912 k))) = Gen.V m c main_v3 (ix2 _ _)
  refine congrArg (Gen.V m c main_v3) (Cert.KernelIdeal.ix2_of (R := 1) (C := 6912) _ ?_ ?_)
  · rw [Window.rect_emb_val win0_4 t]; show 0 * 1 + n % 1 = _; omega
  · rw [Window.rect_emb_val win0_4 t]; show 0 * 6912 + k % 6912 = _; omega

theorem blk5 (c : Dev nD) (t : Fin cfg0.N) {n k : ℕ} (hn : n < 6912) (hk : k < 2560) :
    at2 (R := 6912) (C := 2560) (Gen.iblk m c 5 t) n k = at2 (R := 6912) (C := 2560) (Gen.V m c main_arg4) n k := by
  show Gen.V m c main_arg4 ((win0_5.rect t).emb (ix2 (Fin.ofNat 6912 n) (Fin.ofNat 2560 k))) = Gen.V m c main_arg4 (ix2 _ _)
  refine congrArg (Gen.V m c main_arg4) (Cert.KernelIdeal.ix2_of (R := 6912) (C := 2560) _ ?_ ?_)
  · rw [Window.rect_emb_val win0_5 t]; show 0 * 6912 + n % 6912 = _; omega
  · rw [Window.rect_emb_val win0_5 t]; show 0 * 2560 + k % 2560 = _; omega

theorem blk6 (c : Dev nD) (t : Fin cfg0.N) {n k : ℕ} (hn : n < 6912) (hk : k < 1) :
    at2 (R := 6912) (C := 1) (Gen.iblk m c 6 t) n k = at2 (R := 6912) (C := 1) (Gen.V m c main_v4) n k := by
  show Gen.V m c main_v4 ((win0_6.rect t).emb (ix2 (Fin.ofNat 6912 n) (Fin.ofNat 1 k))) = Gen.V m c main_v4 (ix2 _ _)
  refine congrArg (Gen.V m c main_v4) (Cert.KernelIdeal.ix2_of (R := 6912) (C := 1) _ ?_ ?_)
  · rw [Window.rect_emb_val win0_6 t]; show 0 * 6912 + n % 6912 = _; omega
  · rw [Window.rect_emb_val win0_6 t]; show 0 * 1 + k % 1 = _; omega

theorem blk7 (c : Dev nD) (t : Fin cfg0.N) {n k : ℕ} (hn : n < 1) (hk : k < 2560) :
    at2 (R := 1) (C := 2560) (Gen.iblk m c 7 t) n k = at2 (R := 1) (C := 2560) (Gen.V m c main_v5) n k := by
  show Gen.V m c main_v5 ((win0_7.rect t).emb (ix2 (Fin.ofNat 1 n) (Fin.ofNat 2560 k))) = Gen.V m c main_v5 (ix2 _ _)
  refine congrArg (Gen.V m c main_v5) (Cert.KernelIdeal.ix2_of (R := 1) (C := 2560) _ ?_ ?_)
  · rw [Window.rect_emb_val win0_7 t]; show 0 * 1 + n % 1 = _; omega
  · rw [Window.rect_emb_val win0_7 t]; show 0 * 2560 + k % 2560 = _; omega

theorem blk8 (c : Dev nD) (t : Fin cfg0.N) {n k : ℕ} (hn : n < 9216) (hk : k < 6912) :
    at2 (R := 9216) (C := 6912) (Gen.iblk m c 8 t) n k = at2 (R := 9216) (C := 6912) (Gen.V m c main_v6) n k := by
  show Gen.V m c main_v6 ((win0_8.rect t).emb (ix2 (Fin.ofNat 9216 n) (Fin.ofNat 6912 k))) = Gen.V m c main_v6 (ix2 _ _)
  refine congrArg (Gen.V m c main_v6) (Cert.KernelIdeal.ix2_of (R := 9216) (C := 6912) _ ?_ ?_)
  · rw [Window.rect_emb_val win0_8 t]; show 0 * 9216 + n % 9216 = _; omega
  · rw [Window.rect_emb_val win0_8 t]; show 0 * 6912 + k % 6912 = _; omega

theorem covers9 : (cfg0.win 9).Covers := by decide +kernel

theorem covers10 : (cfg0.win 10).Covers := by decide +kernel
theorem covers11 : (cfg0.win 11).Covers := by decide +kernel

/-- The scale's gradient as the reference's array. -/
def refOf (D : Data) (c : Dev nD) : Buf (Elt Ideal) ((c : Thread nD τ).loc main_v7_0) := fun i => D.d (i 0).val (i 1).val

/-- The reference's array of the scale's gradient at the end, from any numbers its inputs are. -/
theorem end9 (c : Dev nD) (D : Data)
    (h0 : ∀ n < 9216, ∀ k < 2560, (at2 (R := 9216) (C := 2560) (Gen.V m c main_v0) n k : EReal) = D.x n k)
    (h1 : ∀ n < 9216, (at2 (R := 9216) (C := 1) (Gen.V m c main_v1) n 0 : EReal) = D.xs (n / 128) (n % 128))
    (h2 : ∀ n < 6912, ∀ k < 2560, (at2 (R := 6912) (C := 2560) (Gen.V m c main_arg2) n k : EReal) = D.w n k)
    (h3 : ∀ n < 6912, (at2 (R := 6912) (C := 1) (Gen.V m c main_v2) n 0 : EReal) = D.s1 (n / 128) (n % 128))
    (h4 : ∀ n < 6912, (at2 (R := 1) (C := 6912) (Gen.V m c main_v3) 0 n : EReal) = D.s1 (n / 128) (n % 128))
    (h5 : ∀ n < 6912, ∀ k < 2560, (at2 (R := 6912) (C := 2560) (Gen.V m c main_arg4) n k : EReal) = D.s2 n k)
    (h6 : ∀ n < 6912, (at2 (R := 6912) (C := 1) (Gen.V m c main_v4) n 0 : EReal) = D.r (n / 128) (n % 128))
    (h7 : ∀ k < 2560, (at2 (R := 1) (C := 2560) (Gen.V m c main_v5) 0 k : EReal) = D.c k)
    (h8 : ∀ n < 9216, ∀ k < 6912, (at2 (R := 9216) (C := 6912) (Gen.V m c main_v6) n k : EReal) = D.y n k) :
    (Gen.dats m 0 c).arrAt 9 cfg0.N = refOf D c := by
  refine Dat.arrAt_eq_of_covers (Gen.dats m 0 c) 9 (refOf D c) covers9 fun t hf y => ?_
  have y0 : (y 0).val < 6912 := (y 0).isLt
  have y1 : (y 1).val < 2560 := (y 1).isLt
  have e := out9_at (Gen.iblk m c 0 t) (Gen.iblk m c 1 t) (Gen.iblk m c 2 t) (Gen.iblk m c 3 t) (Gen.iblk m c 4 t) (Gen.iblk m c 5 t) (Gen.iblk m c 6 t)
    (Gen.iblk m c 7 t) (Gen.iblk m c 8 t) D
    (fun n hn k hk => (blk0 m c t hn hk).trans (h0 n hn k hk)) (fun n hn => (blk1 m c t hn (by decide)).trans (h1 n hn))
    (fun n hn k hk => (blk2 m c t hn hk).trans (h2 n hn k hk)) (fun n hn => (blk3 m c t hn (by decide)).trans (h3 n hn))
    (fun n hn => (blk4 m c t (by decide) hn).trans (h4 n hn)) (fun n hn k hk => (blk5 m c t hn hk).trans (h5 n hn k hk))
    (fun n hn => (blk6 m c t hn (by decide)).trans (h6 n hn)) (fun k hk => (blk7 m c t (by decide) hk).trans (h7 k hk))
    (fun n hn k hk => (blk8 m c t hn hk).trans (h8 n hn k hk)) y0 y1
  have e0 : (((win0_9.rect t).emb y) 0).val = (y 0).val := by
    rw [Window.rect_emb_val win0_9 t]; show 0 * 6912 + _ = _; omega
  have e1 : (((win0_9.rect t).emb y) 1).val = (y 1).val := by
    rw [Window.rect_emb_val win0_9 t]; show 0 * 2560 + _ = _; omega
  show (Gen.dats m 0 c).after 9 t _ = D.d (((win0_9.rect t).emb y) 0).val (((win0_9.rect t).emb y) 1).val
  rw [e0, e1, ← e, at2_eq _ y0 y1, Gen.after0_9]
  refine congrArg (Gen.out0_9 (F := Ideal) _ _ _ _ _ _ _ _ _) (funext fun a => Fin.ext ?_)
  match a with
  | ⟨0, _⟩ => rfl
  | ⟨1, _⟩ => rfl

/-- The row offset's gradient as the reference's array. -/
def drOf (D : Data) (c : Dev nD) : Buf (Elt Ideal) ((c : Thread nD τ).loc main_v7_1) := fun i => D.dr (128 * (i 0).val + (i 1).val)

/-- The reference's array of the row offset's gradient at the end, from any numbers its inputs are. -/
theorem end10 (c : Dev nD) (D : Data)
    (h0 : ∀ n < 9216, ∀ k < 2560, (at2 (R := 9216) (C := 2560) (Gen.V m c main_v0) n k : EReal) = D.x n k)
    (h1 : ∀ n < 9216, (at2 (R := 9216) (C := 1) (Gen.V m c main_v1) n 0 : EReal) = D.xs (n / 128) (n % 128))
    (h2 : ∀ n < 6912, ∀ k < 2560, (at2 (R := 6912) (C := 2560) (Gen.V m c main_arg2) n k : EReal) = D.w n k)
    (h3 : ∀ n < 6912, (at2 (R := 6912) (C := 1) (Gen.V m c main_v2) n 0 : EReal) = D.s1 (n / 128) (n % 128))
    (h4 : ∀ n < 6912, (at2 (R := 1) (C := 6912) (Gen.V m c main_v3) 0 n : EReal) = D.s1 (n / 128) (n % 128))
    (h5 : ∀ n < 6912, ∀ k < 2560, (at2 (R := 6912) (C := 2560) (Gen.V m c main_arg4) n k : EReal) = D.s2 n k)
    (h6 : ∀ n < 6912, (at2 (R := 6912) (C := 1) (Gen.V m c main_v4) n 0 : EReal) = D.r (n / 128) (n % 128))
    (h7 : ∀ k < 2560, (at2 (R := 1) (C := 2560) (Gen.V m c main_v5) 0 k : EReal) = D.c k)
    (h8 : ∀ n < 9216, ∀ k < 6912, (at2 (R := 9216) (C := 6912) (Gen.V m c main_v6) n k : EReal) = D.y n k) :
    (Gen.dats m 0 c).arrAt 10 cfg0.N = drOf D c := by
  refine Dat.arrAt_eq_of_covers (Gen.dats m 0 c) 10 (drOf D c) covers10 fun t hf y => ?_
  have y0 : (y 0).val < 54 := (y 0).isLt
  have y1 : (y 1).val < 128 := (y 1).isLt
  have e := out10_at (Gen.iblk m c 0 t) (Gen.iblk m c 1 t) (Gen.iblk m c 2 t) (Gen.iblk m c 3 t) (Gen.iblk m c 4 t) (Gen.iblk m c 5 t) (Gen.iblk m c 6 t)
    (Gen.iblk m c 7 t) (Gen.iblk m c 8 t) D
    (fun n hn k hk => (blk0 m c t hn hk).trans (h0 n hn k hk)) (fun n hn => (blk1 m c t hn (by decide)).trans (h1 n hn))
    (fun n hn k hk => (blk2 m c t hn hk).trans (h2 n hn k hk)) (fun n hn => (blk3 m c t hn (by decide)).trans (h3 n hn))
    (fun n hn => (blk4 m c t (by decide) hn).trans (h4 n hn)) (fun n hn k hk => (blk5 m c t hn hk).trans (h5 n hn k hk))
    (fun n hn => (blk6 m c t hn (by decide)).trans (h6 n hn)) (fun k hk => (blk7 m c t (by decide) hk).trans (h7 k hk))
    (fun n hn k hk => (blk8 m c t hn hk).trans (h8 n hn k hk)) y0 y1
  have e0 : (((win0_10.rect t).emb y) 0).val = (y 0).val := by
    rw [Window.rect_emb_val win0_10 t]; show 0 * 54 + _ = _; omega
  have e1 : (((win0_10.rect t).emb y) 1).val = (y 1).val := by
    rw [Window.rect_emb_val win0_10 t]; show 0 * 128 + _ = _; omega
  show (Gen.dats m 0 c).after 10 t _ = D.dr (128 * (((win0_10.rect t).emb y) 0).val + (((win0_10.rect t).emb y) 1).val)
  rw [e0, e1, ← e, at2_eq _ y0 y1, Gen.after0_10]
  refine congrArg (Gen.out0_10 (F := Ideal) _ _ _ _ _ _ _ _ _) (funext fun a => Fin.ext ?_)
  match a with
  | ⟨0, _⟩ => rfl
  | ⟨1, _⟩ => rfl

/-- The row scale's gradient as the reference's array. -/
def ds1Of (D : Data) (c : Dev nD) : Buf (Elt Ideal) ((c : Thread nD τ).loc main_v7_2) := fun i => D.ds1 (128 * (i 0).val + (i 1).val)

/-- The reference's array of the row scale's gradient at the end, from any numbers its inputs are. -/
theorem end11 (c : Dev nD) (D : Data)
    (h0 : ∀ n < 9216, ∀ k < 2560, (at2 (R := 9216) (C := 2560) (Gen.V m c main_v0) n k : EReal) = D.x n k)
    (h1 : ∀ n < 9216, (at2 (R := 9216) (C := 1) (Gen.V m c main_v1) n 0 : EReal) = D.xs (n / 128) (n % 128))
    (h2 : ∀ n < 6912, ∀ k < 2560, (at2 (R := 6912) (C := 2560) (Gen.V m c main_arg2) n k : EReal) = D.w n k)
    (h3 : ∀ n < 6912, (at2 (R := 6912) (C := 1) (Gen.V m c main_v2) n 0 : EReal) = D.s1 (n / 128) (n % 128))
    (h4 : ∀ n < 6912, (at2 (R := 1) (C := 6912) (Gen.V m c main_v3) 0 n : EReal) = D.s1 (n / 128) (n % 128))
    (h5 : ∀ n < 6912, ∀ k < 2560, (at2 (R := 6912) (C := 2560) (Gen.V m c main_arg4) n k : EReal) = D.s2 n k)
    (h6 : ∀ n < 6912, (at2 (R := 6912) (C := 1) (Gen.V m c main_v4) n 0 : EReal) = D.r (n / 128) (n % 128))
    (h7 : ∀ k < 2560, (at2 (R := 1) (C := 2560) (Gen.V m c main_v5) 0 k : EReal) = D.c k)
    (h8 : ∀ n < 9216, ∀ k < 6912, (at2 (R := 9216) (C := 6912) (Gen.V m c main_v6) n k : EReal) = D.y n k) :
    (Gen.dats m 0 c).arrAt 11 cfg0.N = ds1Of D c := by
  refine Dat.arrAt_eq_of_covers (Gen.dats m 0 c) 11 (ds1Of D c) covers11 fun t hf y => ?_
  have y0 : (y 0).val < 54 := (y 0).isLt
  have y1 : (y 1).val < 128 := (y 1).isLt
  have e := out11_at (Gen.iblk m c 0 t) (Gen.iblk m c 1 t) (Gen.iblk m c 2 t) (Gen.iblk m c 3 t) (Gen.iblk m c 4 t) (Gen.iblk m c 5 t) (Gen.iblk m c 6 t)
    (Gen.iblk m c 7 t) (Gen.iblk m c 8 t) D
    (fun n hn k hk => (blk0 m c t hn hk).trans (h0 n hn k hk)) (fun n hn => (blk1 m c t hn (by decide)).trans (h1 n hn))
    (fun n hn k hk => (blk2 m c t hn hk).trans (h2 n hn k hk)) (fun n hn => (blk3 m c t hn (by decide)).trans (h3 n hn))
    (fun n hn => (blk4 m c t (by decide) hn).trans (h4 n hn)) (fun n hn k hk => (blk5 m c t hn hk).trans (h5 n hn k hk))
    (fun n hn => (blk6 m c t hn (by decide)).trans (h6 n hn)) (fun k hk => (blk7 m c t (by decide) hk).trans (h7 k hk))
    (fun n hn k hk => (blk8 m c t hn hk).trans (h8 n hn k hk)) y0 y1
  have e0 : (((win0_11.rect t).emb y) 0).val = (y 0).val := by
    rw [Window.rect_emb_val win0_11 t]; show 0 * 54 + _ = _; omega
  have e1 : (((win0_11.rect t).emb y) 1).val = (y 1).val := by
    rw [Window.rect_emb_val win0_11 t]; show 0 * 128 + _ = _; omega
  show (Gen.dats m 0 c).after 11 t _ = D.ds1 (128 * (((win0_11.rect t).emb y) 0).val + (((win0_11.rect t).emb y) 1).val)
  rw [e0, e1, ← e, at2_eq _ y0 y1, Gen.after0_11]
  refine congrArg (Gen.out0_11 (F := Ideal) _ _ _ _ _ _ _ _ _) (funext fun a => Fin.ext ?_)
  match a with
  | ⟨0, _⟩ => rfl
  | ⟨1, _⟩ => rfl

/-! ## The reshapes before the call -/

theorem host_v0 (c : Dev nD) :
    ∃ h, Gen.V m c main_v0 = shapeCast S9216x2560 (m ((c : Thread nD τ).loc main_arg0)) h := by
  entry_read
  exact ⟨_, rfl⟩

theorem host_v1 (c : Dev nD) :
    ∃ h, Gen.V m c main_v1 = shapeCast S9216x1 (m ((c : Thread nD τ).loc main_arg1)) h := by
  entry_read
  exact ⟨_, rfl⟩

theorem host_v2 (c : Dev nD) :
    ∃ h, Gen.V m c main_v2 = shapeCast S6912x1 (m ((c : Thread nD τ).loc main_arg3)) h := by
  entry_read
  exact ⟨_, rfl⟩

theorem host_v3 (c : Dev nD) :
    ∃ h, Gen.V m c main_v3 = shapeCast S1x6912 (m ((c : Thread nD τ).loc main_arg3)) h := by
  entry_read
  exact ⟨_, rfl⟩

theorem host_v4 (c : Dev nD) :
    ∃ h, Gen.V m c main_v4 = shapeCast S6912x1 (m ((c : Thread nD τ).loc main_arg5)) h := by
  entry_read
  exact ⟨_, rfl⟩

theorem host_v5 (c : Dev nD) :
    ∃ h, Gen.V m c main_v5 = shapeCast S1x2560 (m ((c : Thread nD τ).loc main_arg6)) h := by
  entry_read
  exact ⟨_, rfl⟩

theorem host_v6 (c : Dev nD) :
    ∃ h, Gen.V m c main_v6 = shapeCast S9216x6912 (m ((c : Thread nD τ).loc main_arg7)) h := by
  entry_read
  exact ⟨_, rfl⟩

end Cert.ReferenceIdeal

namespace Cert.KernelIdeal

open Idealize.ShloMosaic Idealize.ShloMosaic.TcCoe Idealize.SL.Sem

variable (m : (ℓ : Loc nD τ sig) → Buf (Elt Ideal) ℓ)

/-! ## The reshapes before the call -/

theorem host_v0 (c : Dev nD) :
    ∃ h, Gen.V m c main_v0 = shapeCast S9216x2560 (m ((c : Thread nD τ).loc main_arg0)) h := by
  entry_read
  exact ⟨_, rfl⟩

theorem host_v1 (c : Dev nD) :
    ∃ h, Gen.V m c main_v1 = shapeCast S72x128 (m ((c : Thread nD τ).loc main_arg1)) h := by
  entry_read
  exact ⟨_, rfl⟩

theorem host_v2 (c : Dev nD) :
    ∃ h, Gen.V m c main_v2 = shapeCast S54x128 (m ((c : Thread nD τ).loc main_arg3)) h := by
  entry_read
  exact ⟨_, rfl⟩

theorem host_v3 (c : Dev nD) :
    ∃ h, Gen.V m c main_v3 = shapeCast S54x128 (m ((c : Thread nD τ).loc main_arg5)) h := by
  entry_read
  exact ⟨_, rfl⟩

theorem host_v4 (c : Dev nD) :
    ∃ h, Gen.V m c main_v4 = shapeCast S1x2560 (m ((c : Thread nD τ).loc main_arg6)) h := by
  entry_read
  exact ⟨_, rfl⟩

theorem host_v5 (c : Dev nD) :
    ∃ h, Gen.V m c main_v5 = shapeCast S9216x6912 (m ((c : Thread nD τ).loc main_arg7)) h := by
  entry_read
  exact ⟨_, rfl⟩

end Cert.KernelIdeal

namespace Cert.Proof

open Idealize.ShloMosaic Idealize.ShloMosaic.TcCoe Idealize.SL.Sem
open Cert.Proof.FlexRound

/-- Two reshapes of one array agree at positions of one row-major rank. -/
theorem casts {α : Type} {s s1 s2 : Shape} (a : s.Idx → α) (h1 : s.ShapeCasts s1) (h2 : s.ShapeCasts s2) (i : s1.Idx) (j : s2.Idx)
    (e : (s1.rowMajor i : ℕ) = s2.rowMajor j) : shapeCast s1 a h1 i = shapeCast s2 a h2 j := by
  refine congrArg a (s.rowMajor.injective (Fin.ext ?_))
  exact (Shape.rowMajor_reshapeEquiv h1 i).trans (e.trans (Shape.rowMajor_reshapeEquiv h2 j).symm)

/-- Two matrices that reshape one array agree at positions of one row-major rank. -/
theorem casts2 {α : Type} {s : Shape} {R C R' C' : ℕ} [NeZero R] [NeZero C] [NeZero R'] [NeZero C'] (a : s.Idx → α)
    (h1 : s.ShapeCasts (Sh R C)) (h2 : s.ShapeCasts (Sh R' C')) {i j i' j' : ℕ} (hi : i < R) (hj : j < C) (hi' : i' < R') (hj' : j' < C')
    (e : i * C + j = i' * C' + j') : at2 (shapeCast (Sh R C) a h1) i j = at2 (shapeCast (Sh R' C') a h2) i' j' := by
  rw [at2_eq _ hi hj, at2_eq _ hi' hj']
  refine casts a h1 h2 _ _ ?_
  rw [Shape.rowMajor_val_two, Shape.rowMajor_val_two]
  exact e

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-! ## The two programs' inputs are the same numbers -/

theorem same_x (c : Dev Cert.KernelIdeal.nD)
    (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) {n k : ℕ} (hn : n < 9216) (hk' : k < 2560) :
    (at2 (R := 9216) (C := 2560) (Cert.ReferenceIdeal.Gen.V m' c Cert.ReferenceIdeal.main_v0) n k : EReal)
      = at2 (R := 9216) (C := 2560) (Cert.KernelIdeal.Gen.V m c Cert.KernelIdeal.main_v0) n k := by
  obtain ⟨h, hk⟩ := Cert.KernelIdeal.host_v0 m c
  obtain ⟨h', hr⟩ := Cert.ReferenceIdeal.host_v0 m' c
  rw [hr, hk, e]

theorem same_y (c : Dev Cert.KernelIdeal.nD)
    (e : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) {n k : ℕ} (hn : n < 9216) (hk' : k < 6912) :
    (at2 (R := 9216) (C := 6912) (Cert.ReferenceIdeal.Gen.V m' c Cert.ReferenceIdeal.main_v6) n k : EReal)
      = at2 (R := 9216) (C := 6912) (Cert.KernelIdeal.Gen.V m c Cert.KernelIdeal.main_v5) n k := by
  obtain ⟨h, hk⟩ := Cert.KernelIdeal.host_v5 m c
  obtain ⟨h', hr⟩ := Cert.ReferenceIdeal.host_v6 m' c
  rw [hr, hk, e]

theorem same_c (c : Dev Cert.KernelIdeal.nD)
    (e : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) {n k : ℕ} (hn : n < 1) (hk' : k < 2560) :
    (at2 (R := 1) (C := 2560) (Cert.ReferenceIdeal.Gen.V m' c Cert.ReferenceIdeal.main_v5) n k : EReal)
      = at2 (R := 1) (C := 2560) (Cert.KernelIdeal.Gen.V m c Cert.KernelIdeal.main_v4) n k := by
  obtain ⟨h, hk⟩ := Cert.KernelIdeal.host_v4 m c
  obtain ⟨h', hr⟩ := Cert.ReferenceIdeal.host_v5 m' c
  rw [hr, hk, e]

theorem same_xs (c : Dev Cert.KernelIdeal.nD)
    (e : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) {n : ℕ} (hn : n < 9216) :
    (at2 (R := 9216) (C := 1) (Cert.ReferenceIdeal.Gen.V m' c Cert.ReferenceIdeal.main_v1) n 0 : EReal)
      = at2 (R := 72) (C := 128) (Cert.KernelIdeal.Gen.V m c Cert.KernelIdeal.main_v1) (n / 128) (n % 128) := by
  obtain ⟨h, hk⟩ := Cert.KernelIdeal.host_v1 m c
  obtain ⟨h', hr⟩ := Cert.ReferenceIdeal.host_v1 m' c
  rw [hr, hk, e]
  exact casts2 _ h' h hn (by decide) (by omega) (by omega) (by omega)

theorem same_s1 (c : Dev Cert.KernelIdeal.nD)
    (e : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) {n : ℕ} (hn : n < 6912) :
    (at2 (R := 6912) (C := 1) (Cert.ReferenceIdeal.Gen.V m' c Cert.ReferenceIdeal.main_v2) n 0 : EReal)
      = at2 (R := 54) (C := 128) (Cert.KernelIdeal.Gen.V m c Cert.KernelIdeal.main_v2) (n / 128) (n % 128) := by
  obtain ⟨h, hk⟩ := Cert.KernelIdeal.host_v2 m c
  obtain ⟨h', hr⟩ := Cert.ReferenceIdeal.host_v2 m' c
  rw [hr, hk, e]
  exact casts2 _ h' h hn (by decide) (by omega) (by omega) (by omega)

theorem same_row (c : Dev Cert.KernelIdeal.nD)
    (e : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) {n : ℕ} (hn : n < 6912) :
    (at2 (R := 1) (C := 6912) (Cert.ReferenceIdeal.Gen.V m' c Cert.ReferenceIdeal.main_v3) 0 n : EReal)
      = at2 (R := 54) (C := 128) (Cert.KernelIdeal.Gen.V m c Cert.KernelIdeal.main_v2) (n / 128) (n % 128) := by
  obtain ⟨h, hk⟩ := Cert.KernelIdeal.host_v2 m c
  obtain ⟨h', hr⟩ := Cert.ReferenceIdeal.host_v3 m' c
  rw [hr, hk, e]
  exact casts2 _ h' h (by decide) hn (by omega) (by omega) (by omega)

theorem same_r (c : Dev Cert.KernelIdeal.nD)
    (e : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) {n : ℕ} (hn : n < 6912) :
    (at2 (R := 6912) (C := 1) (Cert.ReferenceIdeal.Gen.V m' c Cert.ReferenceIdeal.main_v4) n 0 : EReal)
      = at2 (R := 54) (C := 128) (Cert.KernelIdeal.Gen.V m c Cert.KernelIdeal.main_v3) (n / 128) (n % 128) := by
  obtain ⟨h, hk⟩ := Cert.KernelIdeal.host_v3 m c
  obtain ⟨h', hr⟩ := Cert.ReferenceIdeal.host_v4 m' c
  rw [hr, hk, e]
  exact casts2 _ h' h hn (by decide) (by omega) (by omega) (by omega)

theorem same_w (c : Dev Cert.KernelIdeal.nD) (e : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (n k : ℕ) :
    (at2 (R := 6912) (C := 2560) (Cert.ReferenceIdeal.Gen.V m' c Cert.ReferenceIdeal.main_arg2) n k : EReal)
      = at2 (R := 6912) (C := 2560) (Cert.KernelIdeal.Gen.V m c Cert.KernelIdeal.main_arg2) n k := by
  rw [Cert.ReferenceIdeal.Gen.V_main_arg2, Cert.KernelIdeal.Gen.V_main_arg2, e]

theorem same_s2 (c : Dev Cert.KernelIdeal.nD) (e : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (n k : ℕ) :
    (at2 (R := 6912) (C := 2560) (Cert.ReferenceIdeal.Gen.V m' c Cert.ReferenceIdeal.main_arg4) n k : EReal)
      = at2 (R := 6912) (C := 2560) (Cert.KernelIdeal.Gen.V m c Cert.KernelIdeal.main_arg4) n k := by
  rw [Cert.ReferenceIdeal.Gen.V_main_arg4, Cert.KernelIdeal.Gen.V_main_arg4, e]

/-- Over the reals the kernel and the reference compute one gradient of the scale, of the row offset and of the row scale, and hand back one
    quantiser's scale, each keeping its arguments. -/
theorem algebraic : algebraic_KernelIdeal_ReferenceIdeal (hKernelIdeal := Cert.KernelIdeal.Gen.facts) (hReferenceIdeal := Cert.ReferenceIdeal.Gen.facts) := by
  intro m g m' g' _ he
  refine ⟨fun c => Cert.KernelIdeal.ds2Of m c, fun c => Cert.KernelIdeal.drOf m c, fun c => Cert.KernelIdeal.ds1Of m c,
    fun c => m ((c.tc : Thread Cert.KernelIdeal.nD Cert.KernelIdeal.τ).loc Cert.KernelIdeal.main_arg3), ?_, ?_⟩
  · refine (θ_run _ _ _).mono (fun r h c => ?_) (Cert.KernelIdeal.runs Cert.KernelIdeal.keeps g)
    have a := Cert.KernelIdeal.args_kept h.1 c
    exact ⟨Cert.KernelIdeal.ds2_end m h.1 c, Cert.KernelIdeal.dr_end m h.1 c, Cert.KernelIdeal.ds1_end m h.1 c, a.2.2.2.1, a⟩
  · refine (θ_run _ _ _).mono (fun r h c => ?_) (Cert.ReferenceIdeal.Value.run_blocks m' g')
    obtain ⟨e0, e1, e2, e3, e4, e5, e6, e7⟩ := he c
    have H0 := fun n (hn : n < 9216) k (hk : k < 2560) => same_x m m' c e0 hn hk
    have H1 := fun n (hn : n < 9216) => same_xs m m' c e1 hn
    have H2 := fun n (_ : n < 6912) k (_ : k < 2560) => same_w m m' c e2 n k
    have H3 := fun n (hn : n < 6912) => same_s1 m m' c e3 hn
    have H4 := fun n (hn : n < 6912) => same_row m m' c e3 hn
    have H5 := fun n (_ : n < 6912) k (_ : k < 2560) => same_s2 m m' c e4 n k
    have H6 := fun n (hn : n < 6912) => same_r m m' c e5 hn
    have H7 := fun k (hk : k < 2560) => same_c m m' c e6 Nat.one_pos hk
    have H8 := fun n (hn : n < 9216) k (hk : k < 6912) => same_y m m' c e7 hn hk
    refine ⟨(h c).1.trans ?_, (h c).2.1.trans ?_, (h c).2.2.1.trans ?_, (h c).2.2.2.2.2.2.1.trans e3, (h c).2.2.2⟩
    · exact Cert.ReferenceIdeal.end9 m' c (Cert.KernelIdeal.dataOf m c) H0 H1 H2 H3 H4 H5 H6 H7 H8
    · exact Cert.ReferenceIdeal.end10 m' c (Cert.KernelIdeal.dataOf m c) H0 H1 H2 H3 H4 H5 H6 H7 H8
    · exact Cert.ReferenceIdeal.end11 m' c (Cert.KernelIdeal.dataOf m c) H0 H1 H2 H3 H4 H5 H6 H7 H8

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.KernelRun
public import proofs.«01_k».proof.Proof.KernelIdealRun
public import proofs.«01_k».proof.Proof.Algebraic
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import Idealize.ShloMosaic.Adequacy
public import Idealize.ShloMosaic.Init

@[expose] public section

noncomputable section

namespace Cert.Proof

open Idealize.ShloMosaic Idealize.SL.Sem Cert.Kernel

/-- All three programs end from any memory with the arguments kept and every semaphore at zero; the idealization rewrote nothing;
    over the reals the kernel's gradient of the scale is the reference's. -/
theorem claim : Cert.Claim := ⟨Cert.Kernel.Gen.facts, Cert.KernelIdeal.Gen.facts, Cert.ReferenceIdeal.Gen.facts,
  fun m g _ => Cert.Kernel.quiescent m g, fun m g _ => Cert.KernelIdeal.quiescent m g, fun m g _ => Cert.ReferenceIdeal.Gen.frame m g,
  trivial, algebraic⟩

end Cert.Proof

end
